-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x32x64 : S_.BroadcastsInDim S2x512x32x64 (![] : Fin 0 → Fin S2x512x32x64.rank)

variable [Facts]

def fn {F : FTy → Type} [FloatOps F] (main_arg0 : FVec F S2x512x768 .bf16) (main_arg1 : FVec F S768x512 .bf16) (main_arg2 : FVec F S2x512x32x64 .bf16) (main_arg3 : FVec F S2x512x32x64 .bf16) (main_arg4 : FVec F S512x768 .bf16) : IVec S2x512x768 1 × IVec S768x512 1 × IVec S2x512x32x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x32x64 .f32 := (extf .f32 · bitsLt_bf16_f32) main_arg2
  let main_v9 : FVec F S2x512x32x64 .f32 := Host.absf main_v8
  let main_cst_1 : FVec F S_ .f32 := constant S_ .f32 0x7F800000#32
  let main_v10 : FVec F S2x512x32x64 .f32 := broadcastInDim S2x512x32x64 ![] bcast_S_S2x512x32x64 main_cst_1
  let main_v11 : IVec S2x512x32x64 1 := cmpf .olt main_v9 main_v10
  (main_v3, main_v7, main_v11)
-- ==== Pre_finite_ReferenceIdeal.lean ====
abbrev S2x512x768 : Shape := ⟨3, ![2, 512, 768]⟩
abbrev S768x2048 : Shape := ⟨2, ![768, 2048]⟩
abbrev S2x2048x32x64 : Shape := ⟨4, ![2, 2048, 32, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x2048 : S_.BroadcastsInDim S768x2048 (![] : Fin 0 → Fin S768x2048.rank)
  bcast_S_S2x2048x32x64 : S_.BroadcastsInDim S2x2048x32x64 (![] : Fin 0 → Fin S2x2048x32x64.rank)

variable [Facts]

def fn {F : FTy → Type} [FloatOps F] (main_arg0 : FVec F S2x512x768 .bf16) (main_arg1 : FVec F S768x2048 .bf16) (main_arg2 : FVec F S2x2048x32x64 .bf16) (main_arg3 : FVec F S2x2048x32x64 .bf16) (main_arg4 : FVec F S2048x768 .bf16) : IVec S2x512x768 1 × IVec S768x2048 1 × IVec S2x2048x32x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x2048 .f32 := (extf .f32 · bitsLt_bf16_f32) main_arg1
  let main_v5 : FVec F S768x2048 .f32 := Host.absf main_v4
  let main_cst_0 : FVec F S_ .f32 := constant S_ .f32 0x7F800000#32
  let main_v6 : FVec F S768x2048 .f32 := broadcastInDim S768x2048 ![] bcast_S_S768x2048 main_cst_0
  let main_v7 : IVec S768x2048 1 := cmpf .olt main_v5 main_v6
  let main_v8 : FVec F S2x2048x32x64 .f32 := (extf .f32 · bitsLt_bf16_f32) main_arg2
  let main_v9 : FVec F S2x2048x32x64 .f32 := Host.absf main_v8
  let main_cst_1 : FVec F S_ .f32 := constant S_ .f32 0x7F800000#32
  let main_v10 : FVec F S2x2048x32x64 .f32 := broadcastInDim S2x2048x32x64 ![] bcast_S_S2x2048x32x64 main_cst_1
  let main_v11 : IVec S2x2048x32x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S2x512x2048 : Shape := ⟨3, ![2, 512, 2048]⟩
abbrev S2x640x512 : Shape := ⟨3, ![2, 640, 512]⟩
abbrev S2x512x512 : Shape := ⟨3, ![2, 512, 512]⟩
abbrev S256x384 : Shape := ⟨2, ![256, 384]⟩
abbrev S256x512 : Shape := ⟨2, ![256, 512]⟩
abbrev S6 : Shape := ⟨1, ![6]⟩
abbrev S12 : Shape := ⟨1, ![12]⟩
abbrev S4 : Shape := ⟨1, ![4]⟩
abbrev S1 : Shape := ⟨1, ![1]⟩
abbrev S_ : Shape := ⟨0, ![]⟩
abbrev S2x384x512 : Shape := ⟨3, ![2, 384, 512]⟩
abbrev S2x128x512 : Shape := ⟨3, ![2, 128, 512]⟩
abbrev S2x128x32x64 : Shape := ⟨4, ![2, 128, 32, 64]⟩
abbrev S2x128x2048 : Shape := ⟨3, ![2, 128, 2048]⟩
abbrev S1x512x768 : Shape := ⟨3, ![1, 512, 768]⟩
abbrev S512x512 : Shape := ⟨2, ![512, 512]⟩
abbrev S1x512x512 : Shape := ⟨3, ![1, 512, 512]⟩
abbrev S1x256x64 : Shape := ⟨3, ![1, 256, 64]⟩
abbrev S256x64 : Shape := ⟨2, ![256, 64]⟩
abbrev S1x384x64 : Shape := ⟨3, ![1, 384, 64]⟩
abbrev S384x64 : Shape := ⟨2, ![384, 64]⟩
abbrev S256 : Shape := ⟨1, ![256]⟩
abbrev S256x1 : Shape := ⟨2, ![256, 1]⟩
abbrev S1x256x512 : Shape := ⟨3, ![1, 256, 512]⟩
abbrev S256x768 : Shape := ⟨2, ![256, 768]⟩
abbrev S1x256x768 : Shape := ⟨3, ![1, 256, 768]⟩
abbrev S2x256x768 : Shape := ⟨3, ![2, 256, 768]⟩
abbrev S1x512x64 : Shape := ⟨3, ![1, 512, 64]⟩
abbrev S512x64 : Shape := ⟨2, ![512, 64]⟩

abbrev nBuf : Space → Nat
  | .hbm => 6
  | .vmem => 18
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x32x64, .bf16⟩
  | .hbm, ⟨3, _⟩ => ⟨S2x512x32x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x32x64, .bf16⟩
  | .local _ .vmem, ⟨3, _⟩ => ⟨S2x512x32x64, .bf16⟩
  | .local _ .vmem, ⟨4, _⟩ => ⟨S512x768, .bf16⟩
  | .local _ .vmem, ⟨5, _⟩ => ⟨S2x512x768, .f32⟩
  | .local _ .vmem, ⟨6, _⟩ => ⟨S2x512x2048, .bf16⟩
  | .local _ .vmem, ⟨7, _⟩ => ⟨S2x512x2048, .bf16⟩
  | .local _ .vmem, ⟨8, _⟩ => ⟨S2x640x512, .bf16⟩
  | .local _ .vmem, ⟨9, _⟩ => ⟨S2x640x512, .bf16⟩
  | .local _ .vmem, ⟨10, _⟩ => ⟨S2x512x512, .bf16⟩
  | .local _ .vmem, ⟨11, _⟩ => ⟨S2x512x512, .bf16⟩
  | .local _ .vmem, ⟨12, _⟩ => ⟨S256x384, .f32⟩
  | .local _ .vmem, ⟨13, _⟩ => ⟨S256x512, .f32⟩
  | .local _ .vmem, ⟨14, _⟩ => ⟨S2x512x768, .bf16⟩
  | .local _ .vmem, ⟨15, _⟩ => ⟨S2x512x768, .bf16⟩
  | .local _ .vmem, ⟨16, _⟩ => ⟨S2x512x768, .bf16⟩
  | .local _ .vmem, ⟨17, _⟩ => ⟨S2x512x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .eq v2 c0_i32_28
  let v44 : BitVec 32 := Scalar.extui v43
  let c0_i32_29 : BitVec 32 := 0#32
  let v45 : BitVec 1 := Scalar.cmpi .ne v44 c0_i32_29
  v45

def k0_dev4 : Nat :=
  let c0_i32_911 : BitVec 32 := 0#32
  let c1_i32_909 : BitVec 32 := 1#32
  let c1_i32_910 : BitVec 32 := 1#32
  let v1146 : BitVec 32 := Scalar.muli c1_i32_909 c1_i32_910
  let v1147 : BitVec 32 := Scalar.addi c0_i32_911 v1146
  v1147.toNat
def k0_dev5 : Nat :=
  let c0_i32_921 : BitVec 32 := 0#32
  let c2_i32_919 : BitVec 32 := 2#32
  let c1_i32_920 : BitVec 32 := 1#32
  let v1154 : BitVec 32 := Scalar.muli c2_i32_919 c1_i32_920
  let v1155 : BitVec 32 := Scalar.addi c0_i32_921 v1154
  v1155.toNat
def k0_dev6 : Nat :=
  let c0_i32_930 : BitVec 32 := 0#32
  let c3_i32_928 : BitVec 32 := 3#32
  let c1_i32_929 : BitVec 32 := 1#32
  let v1162 : BitVec 32 := Scalar.muli c3_i32_928 c1_i32_929
  let v1163 : BitVec 32 := Scalar.addi c0_i32_930 v1162
  v1163.toNat
def k0_dev7 : Nat :=
  let c0_i32_947 : BitVec 32 := 0#32
  let c1_i32_945 : BitVec 32 := 1#32
  let c1_i32_946 : BitVec 32 := 1#32
  let v1176 : BitVec 32 := Scalar.muli c1_i32_945 c1_i32_946
  let v1177 : BitVec 32 := Scalar.addi c0_i32_947 v1176
  v1177.toNat
def k0_dev8 : Nat :=
  let c0_i32_958 : BitVec 32 := 0#32
  let c1_i32_956 : BitVec 32 := 1#32
  let c1_i32_957 : BitVec 32 := 1#32
  let v1184 : BitVec 32 := Scalar.muli c1_i32_956 c1_i32_957
  let v1185 : BitVec 32 := Scalar.addi c0_i32_958 v1184
  v1185.toNat
def k0_dev9 : Nat :=
  let c0_i32_968 : BitVec 32 := 0#32
  let c1_i32_966 : BitVec 32 := 1#32
  let c1_i32_967 : BitVec 32 := 1#32
  let v1192 : BitVec 32 := Scalar.muli c1_i32_966 c1_i32_967
  let v1193 : BitVec 32 := Scalar.addi c0_i32_968 v1192
  v1193.toNat
def k0_dev10 : Nat :=
  let c0_i32_978 : BitVec 32 := 0#32
  let c2_i32_976 : BitVec 32 := 2#32
  let c1_i32_977 : BitVec 32 := 1#32
  let v1200 : BitVec 32 := Scalar.muli c2_i32_976 c1_i32_977
  let v1201 : BitVec 32 := Scalar.addi c0_i32_978 v1200
  v1201.toNat
def k0_dev11 : Nat :=
  let c0_i32_988 : BitVec 32 := 0#32
  let c2_i32_986 : BitVec 32 := 2#32
  let c1_i32_987 : BitVec 32 := 1#32
  let v1208 : BitVec 32 := Scalar.muli c2_i32_986 c1_i32_987
  let v1209 : BitVec 32 := Scalar.addi c0_i32_988 v1208
  v1209.toNat
def k0_dev12 : Nat :=
  let c0_i32_998 : BitVec 32 := 0#32
  let c2_i32_996 : BitVec 32 := 2#32
  let c1_i32_997 : BitVec 32 := 1#32
  let v1216 : BitVec 32 := Scalar.muli c2_i32_996 c1_i32_997
  let v1217 : BitVec 32 := Scalar.addi c0_i32_998 v1216
  v1217.toNat
def k0_dev13 : Nat :=
  let c0_i32_1008 : BitVec 32 := 0#32
  let c3_i32_1006 : BitVec 32 := 3#32
  let c1_i32_1007 : BitVec 32 := 1#32
  let v1224 : BitVec 32 := Scalar.muli c3_i32_1006 c1_i32_1007
  let v1225 : BitVec 32 := Scalar.addi c0_i32_1008 v1224
  v1225.toNat
def k0_dev14 : Nat :=
  let c0_i32_1018 : BitVec 32 := 0#32
  let c3_i32_1016 : BitVec 32 := 3#32
  let c1_i32_1017 : BitVec 32 := 1#32
  let v1232 : BitVec 32 := Scalar.muli c3_i32_1016 c1_i32_1017
  let v1233 : BitVec 32 := Scalar.addi c0_i32_1018 v1232
  v1233.toNat
def k0_dev15 : Nat :=
  let c0_i32_1028 : BitVec 32 := 0#32
  let c3_i32_1026 : BitVec 32 := 3#32
  let c1_i32_1027 : BitVec 32 := 1#32
  let v1240 : BitVec 32 := Scalar.muli c3_i32_1026 c1_i32_1027
  let v1241 : BitVec 32 := Scalar.addi c0_i32_1028 v1240
  v1241.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v46 : BitVec 1 := Scalar.cmpi .eq v2 c1_i32_30
  let v47 : BitVec 32 := Scalar.extui v46
  let c0_i32_31 : BitVec 32 := 0#32
  let v48 : BitVec 1 := Scalar.cmpi .ne v47 c0_i32_31
  v48

def k0_dev16 : Nat :=
  let c0_i32_918 : BitVec 32 := 0#32
  let c0_i32_916 : BitVec 32 := 0#32
  let c1_i32_917 : BitVec 32 := 1#32
  let v1152 : BitVec 32 := Scalar.muli c0_i32_916 c1_i32_917
  let v1153 : BitVec 32 := Scalar.addi c0_i32_918 v1152
  v1153.toNat
def k0_dev17 : Nat :=
  let c0_i32_927 : BitVec 32 := 0#32
  let c0_i32_925 : BitVec 32 := 0#32
  let c1_i32_926 : BitVec 32 := 1#32
  let v1160 : BitVec 32 := Scalar.muli c0_i32_925 c1_i32_926
  let v1161 : BitVec 32 := Scalar.addi c0_i32_927 v1160
  v1161.toNat
def k0_dev18 : Nat :=
  let c0_i32_938 : BitVec 32 := 0#32
  let c2_i32_936 : BitVec 32 := 2#32
  let c1_i32_937 : BitVec 32 := 1#32
  let v1168 : BitVec 32 := Scalar.muli c2_i32_936 c1_i32_937
  let v1169 : BitVec 32 := Scalar.addi c0_i32_938 v1168
  v1169.toNat
def k0_dev19 : Nat :=
  let c0_i32_948 : BitVec 32 := 0#32
  let c2_i32_946 : BitVec 32 := 2#32
  let c1_i32_947 : BitVec 32 := 1#32
  let v1176 : BitVec 32 := Scalar.muli c2_i32_946 c1_i32_947
  let v1177 : BitVec 32 := Scalar.addi c0_i32_948 v1176
  v1177.toNat
def k0_dev20 : Nat :=
  let c0_i32_958 : BitVec 32 := 0#32
  let c3_i32_956 : BitVec 32 := 3#32
  let c1_i32_957 : BitVec 32 := 1#32
  let v1184 : BitVec 32 := Scalar.muli c3_i32_956 c1_i32_957
  let v1185 : BitVec 32 := Scalar.addi c0_i32_958 v1184
  v1185.toNat
def k0_dev21 : Nat :=
  let c0_i32_967 : BitVec 32 := 0#32
  let c3_i32_965 : BitVec 32 := 3#32
  let c1_i32_966 : BitVec 32 := 1#32
  let v1192 : BitVec 32 := Scalar.muli c3_i32_965 c1_i32_966
  let v1193 : BitVec 32 := Scalar.addi c0_i32_967 v1192
  v1193.toNat
def k0_dev22 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_372 : BitVec 32 := 1#32
  let v532 : BitVec 32 := Scalar.xori v2 c1_i32_372
  let c1_i32_375 : BitVec 32 := 1#32
  let v533 : BitVec 32 := Scalar.muli v532 c1_i32_375
  let v534 : BitVec 32 := Scalar.addi c0_i32_376 v533
  v534.toNat
def k0_dev23 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_707 : BitVec 32 := 1#32
  let v979 : BitVec 32 := Scalar.xori v2 c1_i32_707
  let c1_i32_710 : BitVec 32 := 1#32
  let v980 : BitVec 32 := Scalar.muli v979 c1_i32_710
  let v981 : BitVec 32 := Scalar.addi c0_i32_711 v980
  v981.toNat
def k0_dev24 (d0 : Dev nD) : Nat :=
  let c0_i32_751 : BitVec 32 := 0#32
  let c3_i32_747 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1016 : BitVec 32 := Scalar.subi c3_i32_747 v2
  let c1_i32_750 : BitVec 32 := 1#32
  let v1017 : BitVec 32 := Scalar.muli v1016 c1_i32_750
  let v1018 : BitVec 32 := Scalar.addi c0_i32_751 v1017
  v1018.toNat
def k0_dev25 (d0 : Dev nD) : Nat :=
  let c0_i32_791 : BitVec 32 := 0#32
  let c3_i32_787 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1053 : BitVec 32 := Scalar.subi c3_i32_787 v2
  let c1_i32_790 : BitVec 32 := 1#32
  let v1054 : BitVec 32 := Scalar.muli v1053 c1_i32_790
  let v1055 : BitVec 32 := Scalar.addi c0_i32_791 v1054
  v1055.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x2048 : Shape := ⟨2, ![768, 2048]⟩
abbrev S2x2048x32x64 : Shape := ⟨4, ![2, 2048, 32, 64]⟩
abbrev S2048x768 : Shape := ⟨2, ![2048, 768]⟩
abbrev S2x512x2048 : Shape := ⟨3, ![2, 512, 2048]⟩
abbrev S2x512x32x64 : Shape := ⟨4, ![2, 512, 32, 64]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S2x32x512x2048 : Shape := ⟨4, ![2, 32, 512, 2048]⟩
abbrev S1x1x512x2048 : Shape := ⟨4, ![1, 1, 512, 2048]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 66
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x2048x32x64, .bf16⟩
  | .hbm, ⟨3, _⟩ => ⟨S2x2048x32x64, .bf16⟩
  | .hbm, ⟨4, _⟩ => ⟨S2048x768, .bf16⟩
  | .hbm, ⟨5, _⟩ => ⟨S2x512x768, .f32⟩
  | .hbm, ⟨6, _⟩ => ⟨S768x2048, .f32⟩
  | .hbm, ⟨7, _⟩ => ⟨S2048x768, .f32⟩
  | .hbm, ⟨8, _⟩ => ⟨S2x2048x32x64, .f32⟩
  | .hbm, ⟨9, _⟩ => ⟨S2x2048x32x64, .f32⟩
  | .hbm, ⟨10, _⟩ => ⟨S2x512x2048, .f32⟩
  | .hbm, ⟨11, _⟩ => ⟨S2x512x2048, .bf16⟩
  | .hbm, ⟨12, _⟩ => ⟨S2x512x2048, .f32⟩
  | .hbm, ⟨13, _⟩ => ⟨S2x512x32x64, .f32⟩
  | .hbm, ⟨14, _⟩ => ⟨S512, .i32⟩
  | .hbm, ⟨15, _⟩ => ⟨S512x1, .i32⟩
  | .hbm, ⟨16, _⟩ => ⟨S2048, .i32⟩
  | .hbm, ⟨17, _⟩ => ⟨S1x2048, .i32⟩
  | .hbm, ⟨18, _⟩ => ⟨S512x2048, .i32⟩
  | .hbm, ⟨19, _⟩ => ⟨S512x2048, .i32⟩
  | .hbm, ⟨20, _⟩ => ⟨S512x2048, .i32⟩
  | .hbm, ⟨21, _⟩ => ⟨S512x2048, .i32⟩
  | .hbm, ⟨22, _⟩ => ⟨S_, .i32⟩
  | .hbm, ⟨23, _⟩ => ⟨S512x2048, .i32⟩
  | .hbm, ⟨24, _⟩ => ⟨S512x2048, .i1⟩
  | .hbm, ⟨25, _⟩ => ⟨S2x32x512x2048, .f32⟩
  | .hbm, ⟨26, _⟩ => ⟨S2x32x512x2048, .bf16⟩
  | .hbm, ⟨27, _⟩ => ⟨S2x32x512x2048, .f32⟩
  | .hbm, ⟨28, _⟩ => ⟨S_, .f32⟩
  | .hbm, ⟨29, _⟩ => ⟨S2x32x512x2048, .f32⟩
  | .hbm, ⟨30, _⟩ => ⟨S2x32x512x2048, .f32⟩
  | .hbm, ⟨31, _⟩ => ⟨S1x1x512x2048, .i1⟩
  | .hbm, ⟨32, _⟩ => ⟨S_, .f32⟩
  | .hbm, ⟨33, _⟩ => ⟨S_, .f32⟩
  | .hbm, ⟨34, _⟩ => ⟨S2x32x512x2048, .i1⟩
  | .hbm, ⟨35, _⟩ => ⟨S2x32x512x2048, .f32⟩
  | .hbm, ⟨36, _⟩ => ⟨S2x32x512x2048, .f32⟩
  | .hbm, ⟨37, _⟩ => ⟨S_, .f32⟩
  | .hbm, ⟨38, _⟩ => ⟨S2x32x512, .f32⟩
  | .hbm, ⟨39, _⟩ => ⟨S2x32x512x1, .f32⟩
  | .hbm, ⟨40, _⟩ => ⟨S2x32x512x2048, .f32⟩
  | .hbm, ⟨41, _⟩ => ⟨S2x32x512x2048, .f32⟩
  | .hbm, ⟨42, _⟩ => ⟨S2x32x512x2048, .f32⟩
  | .hbm, ⟨43, _⟩ => ⟨S_, .i1⟩
  | .hbm, ⟨44, _⟩ => ⟨S512, .i1⟩
  | .hbm, ⟨45, _⟩ => ⟨S1x1x512x1, .i1⟩
  | .hbm, ⟨46, _⟩ => ⟨S_, .f32⟩
  | .hbm, ⟨47, _⟩ => ⟨S2x32x512, .f32⟩
  | .hbm, ⟨48, _⟩ => ⟨S2x32x512x1, .f32⟩
  | .hbm, ⟨49, _⟩ => ⟨S_, .f32⟩
  | .hbm, ⟨50, _⟩ => ⟨S_, .f32⟩
  | .hbm, ⟨51, _⟩ => ⟨S2x32x512x1, .i1⟩
  | .hbm, ⟨52, _⟩ => ⟨S2x32x512x1, .f32⟩
  | .hbm, ⟨53, _⟩ => ⟨S2x32x512x1, .f32⟩
  | .hbm, ⟨54, _⟩ => ⟨S2x32x512x2048, .f32⟩
  | .hbm, ⟨55, _⟩ => ⟨S2x32x512x2048, .f32⟩
  | .hbm, ⟨56, _⟩ => ⟨S1x1x512x1, .i1⟩
  | .hbm, ⟨57, _⟩ => ⟨S_, .f32⟩
  | .hbm, ⟨58, _⟩ => ⟨S_, .f32⟩
  | .hbm, ⟨59, _⟩ => ⟨S2x32x512x2048, .i1⟩
  | .hbm, ⟨60, _⟩ => ⟨S2x32x512x2048, .f32⟩
  | .hbm, ⟨61, _⟩ => ⟨S2x32x512x2048, .f32⟩
  | .hbm, ⟨62, _⟩ => ⟨S2x32x64x512, .f32⟩
  | .hbm, ⟨63, _⟩ => ⟨S2x512x32x64, .f32⟩
  | .hbm, ⟨64, _⟩ => ⟨S2x512x2048, .f32⟩
  | .hbm, ⟨65, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.ICommon.lean ====
/-
# The attention block with key/value distribution and a two-stage all-reduce: contents and protocol

Devices 0 and 1 hold the keys and values the sliding window can reach (device 0's 512 rows, the first 128 rows of
device 1's) and send every other device its 512 columns of them; then each device computes its eight heads, multiplies
by its rows of the output matrix, and the four partial products are summed in two exchanges (with the device whose
number differs in the last bit, then with the mirrored one). This file says what every buffer holds at each stage and
states the protocol on the semaphores as a schedule of duties.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the protocol's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices a device exchanges with -/

set_option backward.proofsInPublic true in
/-- The partner of the first exchange: the device whose number differs in the last bit. -/
def px (c : Dev nD) : Dev nD := ⟨if c.val % 2 = 0 then c.val + 1 else c.val - 1, by have := c.isLt; simp only [nD] at *; split <;> omega⟩
set_option backward.proofsInPublic true in
/-- The partner of the second exchange: the mirrored device. -/
def py (c : Dev nD) : Dev nD := ⟨3 - c.val, by simp only [nD]; omega⟩

theorem px_px (c : Dev nD) : px (px c) = c := by revert c; decide
theorem py_py (c : Dev nD) : py (py c) = c := by revert c; decide

/-! ## The memrefs and their pieces -/

abbrev xM : Memref sig .tc .vmem S2x512x768 .bf16 := Memref.whole cc0_stg0_0
abbrev wqM : Memref sig .tc .vmem S768x512 .bf16 := Memref.whole cc0_stg1_0
abbrev kM : Memref sig .tc .vmem S2x512x32x64 .bf16 := Memref.whole cc0_stg2_0
abbrev vM : Memref sig .tc .vmem S2x512x32x64 .bf16 := Memref.whole cc0_stg3_0
abbrev woM : Memref sig .tc .vmem S512x768 .bf16 := Memref.whole cc0_stg4_0
abbrev outM : Memref sig .tc .vmem S2x512x768 .f32 := Memref.whole cc0_stg5_0
abbrev ksM : Memref sig .tc .vmem S2x512x2048 .bf16 := Memref.whole cc0_scratch0
abbrev vsM : Memref sig .tc .vmem S2x512x2048 .bf16 := Memref.whole cc0_scratch1
abbrev kbM : Memref sig .tc .vmem S2x640x512 .bf16 := Memref.whole cc0_scratch2
abbrev vbM : Memref sig .tc .vmem S2x640x512 .bf16 := Memref.whole cc0_scratch3
abbrev qM : Memref sig .tc .vmem S2x512x512 .bf16 := Memref.whole cc0_scratch4
abbrev ctxM : Memref sig .tc .vmem S2x512x512 .bf16 := Memref.whole cc0_scratch5
abbrev b0M : Memref sig .tc .vmem S256x384 .f32 := Memref.whole cc0_scratch6
abbrev b1M : Memref sig .tc .vmem S256x512 .f32 := Memref.whole cc0_scratch7
abbrev pM : Memref sig .tc .vmem S2x512x768 .bf16 := Memref.whole cc0_scratch8
abbrev st1M : Memref sig .tc .vmem S2x512x768 .bf16 := Memref.whole cc0_scratch9
abbrev s2M : Memref sig .tc .vmem S2x512x768 .bf16 := Memref.whole cc0_scratch10
abbrev st2M : Memref sig .tc .vmem S2x512x768 .bf16 := Memref.whole cc0_scratch11

/-- Rows 0 to 384, 384 to 512 and 512 to 640 of a key or value buffer. -/
abbrev bA (b : Memref sig .tc .vmem S2x640x512 .bf16) : Memref sig .tc .vmem S2x384x512 .bf16 :=
  b.slice (Rect.unit (s := S2x640x512) ![0, 0, 0] S2x384x512.size inb_S2x640x512_S2x384x512_0_0_0) (fun _ => rfl)
abbrev bB (b : Memref sig .tc .vmem S2x640x512 .bf16) : Memref sig .tc .vmem S2x128x512 .bf16 :=
  b.slice (Rect.unit (s := S2x640x512) ![0, 384, 0] S2x128x512.size inb_S2x640x512_S2x128x512_0_384_0) (fun _ => rfl)
abbrev bC (b : Memref sig .tc .vmem S2x640x512 .bf16) : Memref sig .tc .vmem S2x128x512 .bf16 :=
  b.slice (Rect.unit (s := S2x640x512) ![0, 512, 0] S2x128x512.size inb_S2x640x512_S2x128x512_0_512_0) (fun _ => rfl)

set_option backward.proofsInPublic true in
theorem inbA (d : Fin 4) : ∀ a, (![0, 0, 512 * d.val] : Fin 3 → Nat) a + S2x384x512.size a ≤ S2x512x2048.size a := by revert d; decide
set_option backward.proofsInPublic true in
theorem inbB (d : Fin 4) : ∀ a, (![0, 384, 512 * d.val] : Fin 3 → Nat) a + S2x128x512.size a ≤ S2x512x2048.size a := by revert d; decide
set_option backward.proofsInPublic true in
theorem inbC (d : Fin 4) : ∀ a, (![0, 0, 512 * d.val] : Fin 3 → Nat) a + S2x128x512.size a ≤ S2x512x2048.size a := by revert d; decide

/-- The columns for device `d` of rows 0 to 384, 384 to 512 and 0 to 128 of a staging buffer. -/
abbrev sA (b : Memref sig .tc .vmem S2x512x2048 .bf16) (d : Fin 4) : Memref sig .tc .vmem S2x384x512 .bf16 :=
  b.slice (Rect.unit (s := S2x512x2048) ![0, 0, 512 * d.val] S2x384x512.size (inbA d)) (fun _ => rfl)
abbrev sB (b : Memref sig .tc .vmem S2x512x2048 .bf16) (d : Fin 4) : Memref sig .tc .vmem S2x128x512 .bf16 :=
  b.slice (Rect.unit (s := S2x512x2048) ![0, 384, 512 * d.val] S2x128x512.size (inbB d)) (fun _ => rfl)
abbrev sC (b : Memref sig .tc .vmem S2x512x2048 .bf16) (d : Fin 4) : Memref sig .tc .vmem S2x128x512 .bf16 :=
  b.slice (Rect.unit (s := S2x512x2048) ![0, 0, 512 * d.val] S2x128x512.size (inbC d)) (fun _ => rfl)

/-- Rows 0 to 256 and 256 to 512 of a partial-sum buffer. -/
abbrev h0 (b : Memref sig .tc .vmem S2x512x768 .bf16) : Memref sig .tc .vmem S2x256x768 .bf16 :=
  b.slice (Rect.unit (s := S2x512x768) ![0, 0, 0] S2x256x768.size inb_S2x512x768_S2x256x768_0_0_0) (fun _ => rfl)
abbrev h1 (b : Memref sig .tc .vmem S2x512x768 .bf16) : Memref sig .tc .vmem S2x256x768 .bf16 :=
  b.slice (Rect.unit (s := S2x512x768) ![0, 256, 0] S2x256x768.size inb_S2x512x768_S2x256x768_0_256_0) (fun _ => rfl)

/-! ## The cells -/

abbrev barS : Sem sig := (SemArray.scalar (sig.barrier 0 rfl) : Sems sig S_).sem

/-- The semaphores of the protocol: 0 the barrier, 1–6 arrivals of keys and values (`kv_recv`), 7–18 departures of keys and
    values (`kv_send`), 19–22 arrivals of partial sums (`ar_recv`), 23–26 their departures (`ar_send`), 27 unused. -/
abbrev csem : Fin 28 → SemLoc sig
  | ⟨0, _⟩ => .reg barS
  | ⟨n + 1, h⟩ => .dma (⟨n + 6, by have : n < 27 := Nat.lt_of_succ_lt_succ h; show n + 6 < 33; omega⟩ : DmaSem sig)
abbrev kcell (ck : Dev nD × Fin 28) : GSem nD τ sig := ((ck.1 : Thread nD τ), csem ck.2)

/-- The number of a semaphore in that list (27 for any other). -/
def kidx : SemLoc sig → Fin 28
  | .reg s => if s = barS then 0 else 27
  | .dma q => if h : 6 ≤ q.val then ⟨q.val - 5, by have : q.val < 33 := q.isLt; omega⟩ else 27

theorem kidx_csem (k : Fin 28) : kidx (csem k) = k := by revert k; decide

/-- The credits of the three sizes of transfer. -/
abbrev nA : ℕ := (bA kbM).view.dmaCredit
abbrev nB : ℕ := (bB kbM).view.dmaCredit
abbrev nR : ℕ := (h0 st1M).view.dmaCredit

theorem nA_pos : 0 < nA := by decide
theorem nB_pos : 0 < nB := by decide
theorem nR_pos : 0 < nR := by decide

/-! ## What the buffers hold -/

/-- The blocks staged on device `c`: its arguments as the launch's memory holds them. -/
def xstg (c : Dev nD) : Vec F S2x512x768 .bf16 := (win0_0.blk t0_0).view.read (Elt F) ((s₀ m ρ).mem ((c : Thread nD τ).loc main_arg0))
def wqstg (c : Dev nD) : Vec F S768x512 .bf16 := (win0_1.blk t0_0).view.read (Elt F) ((s₀ m ρ).mem ((c : Thread nD τ).loc main_arg1))
def kstg (c : Dev nD) : Vec F S2x512x32x64 .bf16 := (win0_2.blk t0_0).view.read (Elt F) ((s₀ m ρ).mem ((c : Thread nD τ).loc main_arg2))
def vstg (c : Dev nD) : Vec F S2x512x32x64 .bf16 := (win0_3.blk t0_0).view.read (Elt F) ((s₀ m ρ).mem ((c : Thread nD τ).loc main_arg3))
def wostg (c : Dev nD) : Vec F S512x768 .bf16 := (win0_4.blk t0_0).view.read (Elt F) ((s₀ m ρ).mem ((c : Thread nD τ).loc main_arg4))

/-- The first 128 rows of a block of keys or values, as the kernel loads them. -/
def head128 (f : Vec F S2x512x32x64 .bf16) : Vec F S2x128x32x64 .bf16 :=
  kM.view.readAt (Elt F) (Rect.unit (s := S2x512x32x64) ![0, 0, 0, 0] S2x128x32x64.size inb_S2x512x32x64_S2x128x32x64_0_0_0_0).toLoadRect f

/-- Device 0's staging buffer of keys (values), and device 1's: its first 128 rows (the others do not matter). -/
def ks0 : Vec F S2x512x2048 .bf16 := k0_pay1 (kstg m ρ 0)
def vs0 : Vec F S2x512x2048 .bf16 := k0_pay2 (vstg m ρ 0)
def ks1 : Vec F S2x512x2048 .bf16 := fun i =>
  if h : (i 1).val < 128 then k0_pay3 (head128 (kstg m ρ 1)) (ix3 (i 0) ⟨(i 1).val, h⟩ (i 2)) else ks0 m ρ i
def vs1 : Vec F S2x512x2048 .bf16 := fun i =>
  if h : (i 1).val < 128 then k0_pay4 (head128 (vstg m ρ 1)) (ix3 (i 0) ⟨(i 1).val, h⟩ (i 2)) else vs0 m ρ i

/-- Column `j` of device `c`'s 512 columns among the 2048 of a staging buffer. -/
def colOf (c : Dev nD) (j : Fin 512) : Fin 2048 := ⟨512 * c.val + j.val, by have h : c.val < 4 := c.isLt; have := j.isLt; omega⟩

/-- Device `c`'s 640 rows of keys (values): its columns of device 0's 512 rows, then of device 1's first 128. -/
def gather (s0 s1 : Vec F S2x512x2048 .bf16) (c : Dev nD) : Vec F S2x640x512 .bf16 := fun i =>
  if h : (i 1).val < 512 then s0 (ix3 (i 0) ⟨(i 1).val, h⟩ (colOf c (i 2)))
  else s1 (ix3 (i 0) ⟨(i 1).val - 512, by have h' : (i 1).val < 640 := (i 1).isLt; omega⟩ (colOf c (i 2)))
def kAll (c : Dev nD) : Vec F S2x640x512 .bf16 := gather (ks0 m ρ) (ks1 m ρ) c
def vAll (c : Dev nD) : Vec F S2x640x512 .bf16 := gather (vs0 m ρ) (vs1 m ρ) c

set_option backward.proofsInPublic true in
theorem inbX (b : Fin 2) : ∀ a, (![b.val, 0, 0] : Fin 3 → Nat) a + S1x512x768.size a ≤ S2x512x768.size a := by revert b; decide
set_option backward.proofsInPublic true in
theorem inbQ (b r : Fin 2) (h : Fin 8) : ∀ a, (![b.val, 256 * r.val, 64 * h.val] : Fin 3 → Nat) a + S1x256x64.size a ≤ S2x512x512.size a := by revert b r h; decide
set_option backward.proofsInPublic true in
theorem inbK0 (b : Fin 2) (h : Fin 8) : ∀ a, (![b.val, 0, 64 * h.val] : Fin 3 → Nat) a + S1x384x64.size a ≤ S2x640x512.size a := by revert b h; decide
set_option backward.proofsInPublic true in
theorem inbK1 (b : Fin 2) (h : Fin 8) : ∀ a, (![b.val, 128, 64 * h.val] : Fin 3 → Nat) a + S1x512x64.size a ≤ S2x640x512.size a := by revert b h; decide
set_option backward.proofsInPublic true in
theorem inbR (b r : Fin 2) : ∀ a, (![b.val, 256 * r.val, 0] : Fin 3 → Nat) a + S1x256x512.size a ≤ S2x512x512.size a := by revert b r; decide
set_option backward.proofsInPublic true in
theorem inbP (b r : Fin 2) : ∀ a, (![b.val, 256 * r.val, 0] : Fin 3 → Nat) a + S1x256x768.size a ≤ S2x512x768.size a := by revert b r; decide

/-- Windows of the buffers, as the kernel loads them: a batch of the input, 256 rows and one head's 64 columns of the
    queries, one head's columns of the keys (values) a chunk attends to, 256 rows of the context and of a partial sum. -/
def xwin (f : Vec F S2x512x768 .bf16) (b : Fin 2) : Vec F S1x512x768 .bf16 :=
  xM.view.readAt (Elt F) (Rect.unit (s := S2x512x768) ![b.val, 0, 0] S1x512x768.size (inbX b)).toLoadRect f
def qwin (f : Vec F S2x512x512 .bf16) (b r : Fin 2) (h : Fin 8) : Vec F S1x256x64 .bf16 :=
  qM.view.readAt (Elt F) (Rect.unit (s := S2x512x512) ![b.val, 256 * r.val, 64 * h.val] S1x256x64.size (inbQ b r h)).toLoadRect f
def kwin0 (f : Vec F S2x640x512 .bf16) (b : Fin 2) (h : Fin 8) : Vec F S1x384x64 .bf16 :=
  kbM.view.readAt (Elt F) (Rect.unit (s := S2x640x512) ![b.val, 0, 64 * h.val] S1x384x64.size (inbK0 b h)).toLoadRect f
def kwin1 (f : Vec F S2x640x512 .bf16) (b : Fin 2) (h : Fin 8) : Vec F S1x512x64 .bf16 :=
  kbM.view.readAt (Elt F) (Rect.unit (s := S2x640x512) ![b.val, 128, 64 * h.val] S1x512x64.size (inbK1 b h)).toLoadRect f
def cwin (f : Vec F S2x512x512 .bf16) (b r : Fin 2) : Vec F S1x256x512 .bf16 :=
  ctxM.view.readAt (Elt F) (Rect.unit (s := S2x512x512) ![b.val, 256 * r.val, 0] S1x256x512.size (inbR b r)).toLoadRect f
def pwin (f : Vec F S2x512x768 .bf16) (b r : Fin 2) : Vec F S1x256x768 .bf16 :=
  pM.view.readAt (Elt F) (Rect.unit (s := S2x512x768) ![b.val, 256 * r.val, 0] S1x256x768.size (inbP b r)).toLoadRect f

/-- A row below 512 as its half and its place within it. -/
def halfOf (i : Fin 512) : Fin 2 := ⟨i.val / 256, by have := i.isLt; omega⟩
def inHalf (i : Fin 512) : Fin 256 := ⟨i.val % 256, by omega⟩
/-- A column below 512 as its head and its place within it. -/
def headOf (i : Fin 512) : Fin 8 := ⟨i.val / 64, by have := i.isLt; omega⟩
def inHead (i : Fin 512) : Fin 64 := ⟨i.val % 64, by omega⟩

/-- Device `c`'s queries: each batch of `x` times the device's columns of the query matrix. -/
def qAll (c : Dev nD) : Vec F S2x512x512 .bf16 := fun i =>
  if (i 0).val = 0 then k0_pay10 (wqstg m ρ c) (xwin (xstg m ρ c) 0) (ix3 0 (i 1) (i 2))
  else k0_pay12 (k0_pay11 (wqstg m ρ c) (xwin (xstg m ρ c) 1)) (ix3 0 (i 1) (i 2))

/-- The two masks as the kernel loads them. -/
def mask0 : Vec F S256x384 .f32 :=
  b0M.view.readAt (Elt F) (Rect.unit (s := S256x384) ![0, 0] S256x384.size inb_S256x384_S256x384_0_0).toLoadRect k0_pay13
def mask1 : Vec F S256x512 .f32 :=
  b1M.view.readAt (Elt F) (Rect.unit (s := S256x512) ![0, 0] S256x512.size inb_S256x512_S256x512_0_0).toLoadRect k0_pay14

/-- One head of rows 0 to 256 (keys 0 to 384), and of rows 256 to 512 (keys 128 to 640). -/
def head0 (c : Dev nD) (b : Fin 2) (h : Fin 8) : Vec F S1x256x64 .bf16 :=
  k0_pay15 (qwin (qAll m ρ c) b 0 h) (kwin0 (kAll m ρ c) b h) mask0 (kwin0 (vAll m ρ c) b h)
def head1 (c : Dev nD) (b : Fin 2) (h : Fin 8) : Vec F S1x256x64 .bf16 :=
  k0_pay50 (qwin (qAll m ρ c) b 1 h) (kwin1 (kAll m ρ c) b h) mask1 (kwin1 (vAll m ρ c) b h)

/-- Device `c`'s attention output, all heads side by side. -/
def ctxAll (c : Dev nD) : Vec F S2x512x512 .bf16 := fun i =>
  if (i 1).val < 256 then head0 m ρ c (i 0) (headOf (i 2)) (ix3 0 (inHalf (i 1)) (inHead (i 2)))
  else head1 m ρ c (i 0) (headOf (i 2)) (ix3 0 (inHalf (i 1)) (inHead (i 2)))

/-- A buffer of 2 batches and 512 rows from its four windows of 256 rows. -/
def byHalves {e : EltTy} (w : Fin 2 → Fin 2 → Vec F S1x256x768 e) : Vec F S2x512x768 e := fun i =>
  w (i 0) (halfOf (i 1)) (ix3 0 (inHalf (i 1)) (i 2))

/-- Device `c`'s partial product, its sum with its first partner's, and the result: that plus the mirrored device's. -/
def pAll (c : Dev nD) : Vec F S2x512x768 .bf16 := byHalves fun b r => k0_pay46 (wostg m ρ c) (cwin (ctxAll m ρ c) b r)
def s2All (c : Dev nD) : Vec F S2x512x768 .bf16 := byHalves fun b r => k0_pay82 (pwin (pAll m ρ c) b r) (pwin (pAll m ρ (px c)) b r)
def outAll (c : Dev nD) : Vec F S2x512x768 .f32 := byHalves fun b r => k0_pay85 (pwin (s2All m ρ c) b r) (pwin (s2All m ρ (py c)) b r)

/-! ## The schedule -/

/-- The elements of a memref on device `c`, at a share and contents. -/
abbrev mpt {s : Shape} {e : EltTy} (b : Memref sig .tc .vmem s e) (c : Dev nD) (q : PosShare TreeShare)
    (f : Buf (Elt F) (b.view.loc (c : Thread nD τ))) : sProp 𝕄 := (b.view.loc (c : Thread nD τ) ↦[b.view.set]{q} f)
/-- The elements of a memref on device `c`, whatever they hold. -/
def mptE {s : Shape} {e : EltTy} (b : Memref sig .tc .vmem s e) (c : Dev nD) : sProp 𝕄 :=
  iprop(∃ f : Buf (Elt F) (b.view.loc (c : Thread nD τ)), mpt (F := F) b c fullShare f)

/-- The half of a whole share a copy out of a buffer reads with, and the half its owner keeps. -/
abbrev qHalf : PosShare TreeShare := (fullShare : PosShare TreeShare).left

/-- Who pays a duty on a semaphore of device `c`. -/
def payers (c : Dev nD) (k : Fin 28) : Finset (Dev nD) :=
  if k.val = 0 then Finset.univ.erase c
  else if k.val ≤ 4 then (if c = 0 then ∅ else {0})
  else if k.val ≤ 6 then (if c = 1 then ∅ else {1})
  else if k.val ≤ 18 then (if c = 0 then {0} else if c = 1 ∧ (k.val - 7) % 4 < 2 then {1} else ∅)
  else if k.val = 19 ∨ k.val = 21 then {px c}
  else if k.val = 20 ∨ k.val = 22 then {py c}
  else if k.val ≤ 26 then {c} else ∅

/-- What one duty on a semaphore of device `c` is worth. -/
def amt (c : Dev nD) (k : Fin 28) : ℕ :=
  if k.val = 0 then 1
  else if k.val ≤ 2 then nA
  else if k.val ≤ 6 then nB
  else if k.val ≤ 18 then (if c = 0 ∧ (k.val - 7) % 4 < 2 then nA else nB)
  else nR

theorem amt_pos (c : Dev nD) (k : Fin 28) : 0 < amt c k := by
  have h1 := nA_pos; have h2 := nB_pos; have h3 := nR_pos
  unfold amt; repeat' split
  all_goals first | exact Nat.one_pos | assumption

/-- What `p`'s barrier signal hands `c`: the buffers of `p` that `c` will write — keys and values to devices 0 and 1, the
    first landing buffer to the first partner, the second to the mirrored device. -/
def barPay (c p : Dev nD) : sProp 𝕄 :=
  iprop((if c = 0 then iprop(mptE (F := F) (bA kbM) p ∗ mptE (F := F) (bA vbM) p ∗ mptE (F := F) (bB kbM) p ∗ mptE (F := F) (bB vbM) p) else iprop(emp))
    ∗ (if c = 1 then iprop(mptE (F := F) (bC kbM) p ∗ mptE (F := F) (bC vbM) p) else iprop(emp))
    ∗ (if c = px p then iprop(mptE (F := F) (h0 st1M) p ∗ mptE (F := F) (h1 st1M) p) else iprop(emp))
    ∗ (if c = py p then iprop(mptE (F := F) (h0 st2M) p ∗ mptE (F := F) (h1 st2M) p) else iprop(emp)))

/-- What a departure of keys or values hands back: the piece of the staging buffer it read. -/
def sndPay (c : Dev nD) (j : Fin 3) (t : Fin 4) : sProp 𝕄 :=
  if c = 0 then
    (if t = 0 then mptE (sA ksM j.succ) c else if t = 1 then mptE (sA vsM j.succ) c
      else if t = 2 then mptE (sB ksM j.succ) c else mptE (sB vsM j.succ) c)
  else
    (if t = 0 then mptE (sC ksM ((1 : Fin 4).succAbove j)) c else mptE (sC vsM ((1 : Fin 4).succAbove j)) c)

/-- What a duty on a semaphore of device `c` hands over when paid by `p`. -/
def pay (c : Dev nD) (k : Fin 28) (p : Dev nD) : sProp 𝕄 :=
  match k.val with
  | 0 => barPay c p
  | 1 => mpt (bA kbM) c fullShare (kAll m ρ c)
  | 2 => mpt (bA vbM) c fullShare (vAll m ρ c)
  | 3 => mpt (bB kbM) c fullShare (kAll m ρ c)
  | 4 => mpt (bB vbM) c fullShare (vAll m ρ c)
  | 5 => mpt (bC kbM) c fullShare (kAll m ρ c)
  | 6 => mpt (bC vbM) c fullShare (vAll m ρ c)
  | 7 => sndPay c 0 0 | 8 => sndPay c 0 1 | 9 => sndPay c 0 2 | 10 => sndPay c 0 3
  | 11 => sndPay c 1 0 | 12 => sndPay c 1 1 | 13 => sndPay c 1 2 | 14 => sndPay c 1 3
  | 15 => sndPay c 2 0 | 16 => sndPay c 2 1 | 17 => sndPay c 2 2 | 18 => sndPay c 2 3
  | 19 => mpt (h0 st1M) c fullShare (pAll m ρ (px c))
  | 20 => mpt (h0 st2M) c fullShare (s2All m ρ (py c))
  | 21 => mpt (h1 st1M) c fullShare (pAll m ρ (px c))
  | 22 => mpt (h1 st2M) c fullShare (s2All m ρ (py c))
  | 23 => mpt (h0 pM) c qHalf (pAll m ρ c)
  | 24 => mpt (h0 s2M) c qHalf (s2All m ρ c)
  | 25 => mpt (h1 pM) c qHalf (pAll m ρ c)
  | 26 => mpt (h1 s2M) c qHalf (s2All m ρ c)
  | _ => iprop(emp)

instance mpt_storable {s : Shape} {e : EltTy} (b : Memref sig .tc .vmem s e) (c : Dev nD) (q : PosShare TreeShare)
    (f : Buf (Elt F) (b.view.loc (c : Thread nD τ))) : BI.Storable (upEmb : UEmb _ 𝕄) (mpt b c q f) := by unfold mpt; infer_instance
instance mptE_storable {s : Shape} {e : EltTy} (b : Memref sig .tc .vmem s e) (c : Dev nD) :
    BI.Storable (upEmb : UEmb _ 𝕄) (mptE (F := F) b c) := by unfold mptE; infer_instance
instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by split <;> infer_instance
instance barPay_storable (c p : Dev nD) : BI.Storable (upEmb : UEmb _ 𝕄) (barPay (F := F) c p) := by
  unfold barPay; infer_instance
instance sndPay_storable (c : Dev nD) (j : Fin 3) (t : Fin 4) : BI.Storable (upEmb : UEmb _ 𝕄) (sndPay (F := F) c j t) := by
  unfold sndPay; infer_instance
instance pay_storable (c : Dev nD) (k : Fin 28) (p : Dev nD) : BI.Storable (upEmb : UEmb _ 𝕄) (pay m ρ c k p) := by
  unfold pay; split <;> infer_instance

/-- One round, round 0: the duties of each semaphore are named by the devices paying them. -/
def rd : Rounds.Schedule (GSem nD τ sig) (Dev nD) 𝕄 where
  duties g r := if r = 0 ∧ g.1.2 = .tc then payers g.1.1 (kidx g.2) else ∅
  unitless _ := False
  amount g _ _ := amt g.1.1 (kidx g.2)
  payload g _ d := pay m ρ g.1.1 (kidx g.2) d
  amount_pos g _ _ _ := amt_pos _ _

instance rd_payload_storable (g : GSem nD τ sig) (r : ℕ) (d : Dev nD) :
    BI.Storable (upEmb : UEmb _ 𝕄) ((rd (F := F) m ρ).payload g r d) := by
  show BI.Storable upEmb (pay m ρ g.1.1 (kidx g.2) d); infer_instance

theorem duties_k (c : Dev nD) (k : Fin 28) : (rd m ρ).duties (kcell (c, k)) 0 = payers c k := by
  dsimp only [rd]; rw [if_pos ⟨rfl, rfl⟩, kidx_csem]
theorem duties_later (g : GSem nD τ sig) (r : ℕ) (hr : 0 + 1 ≤ r) : (rd m ρ).duties g r = ∅ := by
  dsimp only [rd]; exact if_neg fun h => by omega
theorem amount_k (c : Dev nD) (k : Fin 28) (r : ℕ) (d : Dev nD) : (rd m ρ).amount (kcell (c, k)) r d = amt c k := by
  dsimp only [rd]; rw [kidx_csem]
theorem payload_k (c : Dev nD) (k : Fin 28) (r : ℕ) (d : Dev nD) : (rd m ρ).payload (kcell (c, k)) r d = pay m ρ c k d := by
  dsimp only [rd]; rw [kidx_csem]
theorem expect_k (c : Dev nD) (k : Fin 28) : (rd m ρ).expect (kcell (c, k)) 0 = (payers c k).card * amt c k := by
  unfold Schedule.expect Schedule.amountOf; rw [duties_k]; simp only [amount_k]; rw [Finset.sum_const, smul_eq_mul]

/-! ## What each device owes; the levels -/

/-- What a device owes that still has to pay the listed duties, the first of them next. -/
def Ot : List (Dev nD × Fin 28) → CellTallies nD τ sig Unit
  | [] => 0
  | x :: l => Ot l + tallyAt (kcell x) () (amt x.1 x.2)

/-- The four partial sums device `c` sends, in order; the keys and values devices 0 and 1 send; all a device owes. -/
def arL (c : Dev nD) : List (Dev nD × Fin 28) := [(px c, 19), (px c, 21), (py c, 20), (py c, 22)]
def kvL (c : Dev nD) : List (Dev nD × Fin 28) :=
  if c = 0 then [(1, 1), (2, 1), (3, 1), (1, 2), (1, 3), (1, 4), (2, 2), (2, 3), (2, 4), (3, 2), (3, 3), (3, 4)]
  else if c = 1 then [(0, 5), (0, 6), (2, 5), (2, 6), (3, 5), (3, 6)] else []
def barL (c : Dev nD) : List (Dev nD × Fin 28) :=
  [(c + 1, 0), (c + 2, 0), (c + 3, 0)]
def owedL (c : Dev nD) : List (Dev nD × Fin 28) := barL c ++ (kvL c ++ arL c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels: the barrier, then arrivals of keys and values, then arrivals of partial sums in the order they are awaited;
    everything else at the bottom. -/
def lvk (k : Fin 28) : ℕ :=
  if k.val = 0 then 1 else if k.val ≤ 6 then 2 else if k.val = 19 then 3 else if k.val = 21 then 4
  else if k.val = 20 ∨ k.val = 22 then 5 else 0
def lv (g : GSem nD τ sig) (_ : Unit) : ℕ := lvk (kidx g.2)

theorem Ot_pos {l : List (Dev nD × Fin 28)} {g : GSem nD τ sig} {u : Unit} (h : 0 < Ot l g u) : ∃ x ∈ l, g = kcell x := by
  induction l with
  | nil => exact absurd h (Nat.lt_irrefl 0)
  | cons x l ih =>
    unfold Ot at h
    rw [Pi.add_apply, Finsupp.add_apply, tallyAt_apply] at h
    by_cases hx : g = kcell x ∧ u = ()
    · exact ⟨x, List.mem_cons_self, hx.1⟩
    · rw [if_neg hx] at h
      obtain ⟨y, hy, e⟩ := ih h
      exact ⟨y, List.mem_cons_of_mem _ hy, e⟩

theorem mayWait_k (c : Dev nD) (s : SemLoc sig) (l : List (Dev nD × Fin 28)) (hl : ∀ x ∈ l, lvk (kidx s) < lvk x.2) :
    (levAts L lv : sProp 𝕄) ⊢ MayWait (c : Thread nD τ) s () (Ot l) :=
  MayOwe.of_cut (L := L) (lev := lv) (lvk (kidx s)) (fun p hp => by rw [Finset.mem_singleton.mp hp, L_tc]; exact Finset.mem_singleton_self _)
    (fun g u hg => by obtain ⟨x, -, rfl⟩ := Ot_pos hg; exact Finset.mem_singleton_self _)
    (fun p hp => by rw [Finset.mem_singleton.mp hp]; exact le_rfl)
    (fun g u hg => by obtain ⟨x, hx, rfl⟩ := Ot_pos hg; show _ < lvk (kidx (csem x.2)); rw [kidx_csem]; exact hl x hx)

end Cert.KernelIdealProof
-- ==== Proof.IRules.lean ====
/-
# The protocol's steps, stated once for every semaphore

A copy to another device, a wait and a signal, each on the semaphores of the protocol by their number; pieces carved out of
a buffer and put back; what the pieces of the key, value and partial-sum buffers have to do with each other.
-/
module

public import proofs.«01_k».proof.Proof.ICommon

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- The protocol's cells, opened under the names `K`, and that each has reached round 0; the levels. -/
def recs (K : Dev nD × Fin 28 → ℕ) : sProp 𝕄 :=
  iprop((bigSep Finset.univ fun ck : Dev nD × Fin 28 => cellInv ER (rd m ρ) (K ck) (kcell ck))
    ∗ (bigSep Finset.univ fun ck : Dev nD × Fin 28 => reached ER (kcell ck) 0) ∗ levAts L lv)
instance recs_persistent (K : Dev nD × Fin 28 → ℕ) : BI.Persistent (recs m ρ K) := by unfold recs; infer_instance

theorem recs_inv (K : Dev nD × Fin 28 → ℕ) (ck : Dev nD × Fin 28) : recs m ρ K ⊢ cellInv ER (rd m ρ) (K ck) (kcell ck) := by
  have h : (bigSep Finset.univ fun ck : Dev nD × Fin 28 => (cellInv ER (rd m ρ) (K ck) (kcell ck) : sProp 𝕄)) ⊢ cellInv ER (rd m ρ) (K ck) (kcell ck) :=
    bigSep_elim (Finset.mem_univ ck)
  unfold recs; iintro ⟨H, -, -⟩; iapply h; iexact H
theorem recs_reached (K : Dev nD × Fin 28 → ℕ) (ck : Dev nD × Fin 28) : recs m ρ K ⊢ reached ER (kcell ck) 0 := by
  have h : (bigSep Finset.univ fun ck : Dev nD × Fin 28 => (reached ER (kcell ck) 0 : sProp 𝕄)) ⊢ reached ER (kcell ck) 0 := bigSep_elim (Finset.mem_univ ck)
  unfold recs; iintro ⟨-, H, -⟩; iapply h; iexact H
theorem recs_lev (K : Dev nD × Fin 28 → ℕ) : recs m ρ K ⊢ levAts L lv := by
  unfold recs; iintro ⟨-, -, H⟩; iexact H

/-- What device `c` still owes, whatever it has waited for. -/
def Ow (c : Dev nD) (l : List (Dev nD × Fin 28)) : sProp 𝕄 := iprop(∃ W, owes (c : Thread nD τ) (Ot l) W)
/-- The right to pay device `c'`'s semaphore `k` as device `c`. -/
abbrev Tok (c : Dev nD) (x : Dev nD × Fin 28) : sProp 𝕄 := dutyTok ER (kcell x) 0 c
/-- Device `c` has not waited on its semaphore `k` yet. -/
abbrev Pos (c : Dev nD) (k : Fin 28) : sProp 𝕄 := atPos ER (kcell (c, k)) 0 ∅ 0
/-- The semaphore is back at zero for good. -/
abbrev Fin0 (c : Dev nD) (k : Fin 28) : sProp 𝕄 := semVal (kcell (c, k)) 0
/-- The units device `c`'s semaphore `k` will receive. -/
abbrev Cr (c : Dev nD) (k : Fin 28) : sProp 𝕄 := cred (tallyAt (kcell (c, k)) () ((payers c k).card * amt c k))

section Steps

variable (K : Dev nD × Fin 28 → ℕ) (c : Dev nD)

/-- A copy to device `c'`: it pays the departure on the sender's semaphore `ks` and the arrival on `c'`'s semaphore `kr`. -/
theorem sendG {α : Type} {Q : α → sProp 𝕄} {s : Shape} {n c' : Dev nD} (ks kr : Fin 28) (hn : n = c')
    {src : Memref sig .tc .vmem s .bf16} {dst : Memref sig .tc .vmem s .bf16}
    {hsc : (dst : Memref sig (Dev.tc n : Thread nD τ).2.kind .vmem s .bf16).view.ref.isScScratch = false}
    {sS sem : DmaSem sig} (hsS : SemLoc.dma sS = csem ks) (hsm : SemLoc.dma sem = csem kr)
    {hsrc : src.view.WordExact} {hdst : dst.view.WordExact}
    {hsem : DmaTarget.Typed .vmem (.dma sem) (.remote (Dev.tc n : Thread nD τ) dst (.dma sS) hsc)}
    {k : PUnit → Prog (TpuEff nD τ sig (Elt F) Λ₀ .tc) α} (q : PosShare TreeShare)
    (fs : Buf (Elt F) (src.view.loc (c : Thread nD τ))) (fd : Buf (Elt F) (dst.view.loc (c' : Thread nD τ)))
    (hm₁ : payers c ks = {c}) (hm₂ : c ∈ payers c' kr)
    (ha₁ : amt c ks = dst.view.dmaCredit) (ha₂ : amt c' kr = dst.view.dmaCredit)
    (l : List (Dev nD × Fin 28))
    (hp₁ : mpt src c q fs ⊢ pay m ρ c ks c)
    (hp₂ : mpt dst c' fullShare (dst.view.write (Elt F) fd (src.view.read (Elt F) fs) Finset.univ) ⊢ pay m ρ c' kr c) :
    iprop(recs m ρ K ∗ mpt src c q fs ∗ mpt dst c' fullShare fd ∗ Ow c ((c', kr) :: l) ∗ Tok c (c, ks) ∗ Tok c (c', kr))
      ⊢ iprop(((Cr c ks ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hsem) k) Q) := by
  subst hn
  have e₁ : (((c : Thread nD τ), SemLoc.dma sS) : GSem nD τ sig) = kcell (c, ks) := by rw [hsS]
  have e₂ : (((n : Thread nD τ), SemLoc.dma sem) : GSem nD τ sig) = kcell (n, kr) := by rw [hsm]
  have key := fun (W : Waits sig Unit) => Rounds.wp_send_pointsTo (Q := Q) (k := k) (hsc := hsc) (hsrc := hsrc) (hdst := hdst) (hsem := hsem)
    (defs := defs₀ (F := F)) (Γ := []) 𝒱₀ ER (rd m ρ) (c : Thread nD τ) none (κ₁ := K (c, ks)) (κ₂ := K (n, kr)) (fs := fs)
    (r₁ := 0) (r₂ := 0) (d₁ := c) (d₂ := c) (fd := fd) (q := q)
    (by rw [e₁, duties_k, hm₁]; exact Finset.mem_singleton_self _) (by rw [e₂, duties_k]; exact hm₂)
    () () (dst.view.dmaCredit) rfl (by rw [e₁, amount_k, ha₁]) (by rw [e₂, amount_k, ha₂]) (O₀ := Ot ((n, kr) :: l)) (Ot l)
    (by rw [e₂, ← ha₂]; rfl) (W := W) (by rw [e₁, payload_k]; exact hp₁) (by rw [e₂, payload_k]; exact hp₂) (Es := Set.univ)
  rw [e₁, e₂] at key
  unfold Ow Cr
  have hc : (payers c ks).card * amt c ks = dst.view.dmaCredit := by rw [hm₁, Finset.card_singleton, one_mul, ha₁]
  rw [hc]
  iintro ⟨#HR, Hs, Hd, ⟨%W, HO⟩, Ht1, Ht2⟩ Hk
  iapply (key W) $$ [Hs Hd HO Ht1 Ht2]
  · isplitr; · iapply (recs_inv m ρ K (c, ks)); iexact HR
    isplitr; · iapply (recs_inv m ρ K (n, kr)); iexact HR
    isplitl [Hs]; · iexact Hs
    isplitl [Hd]; · iexact Hd
    isplitl [HO]; · iexact HO
    isplitl [Ht1]; · iexact Ht1
    isplitr; · iapply (recs_reached m ρ K (c, ks)); iexact HR
    isplitl [Ht2]; · iexact Ht2
    iapply (recs_reached m ρ K (n, kr)); iexact HR
  iintro ⟨Hc, HO⟩
  iapply Hk
  isplitl [Hc]; · iexact Hc
  iexists W; iexact HO

/-- A semaphore nobody pays, or whose payments have been waited for, is at zero for good. -/
theorem closeG (k : Fin 28) (hk : payers c k = ∅) : iprop(recs m ρ K ∗ Pos c k) ⊢ (|={Set.univ}=> Fin0 c k : sProp 𝕄) := by
  iintro ⟨#HR, HP⟩
  iapply (Rounds.cell_close ER (rd m ρ) (Set.mem_univ (K (c, k))) (fun h => h) (R := 0)
    (fun r _ => by
      dsimp only [rd]; split
      · rw [kidx_csem]; exact hk
      · rfl))
  isplitr; · iapply (recs_inv m ρ K (c, k)); iexact HR
  iexact HP

/-- A wait for all of a semaphore's units: it hands over what the payers left, and the semaphore is at zero for good. -/
theorem waitG {α : Type} {Q : α → sProp 𝕄} {w : TpuEff nD τ sig (Elt F) Λ₀ .tc PUnit} (k : Fin 28) {sm : SemLoc sig} (hs : sm = csem k) {k' : ℕ}
    (hw : ∀ K' : PUnit → sProp 𝕄, wpE (defs₀ (F := F)) 𝒱₀ (c : Thread nD τ) none Set.univ w K' = waitSpec (c : Thread nD τ) Set.univ sm k' K')
    (ha : (payers c k).card * amt c k = k') {kk : PUnit → Prog (TpuEff nD τ sig (Elt F) Λ₀ .tc) α}
    (l : List (Dev nD × Fin 28)) (hl : ∀ x ∈ l, lvk k < lvk x.2) :
    iprop(recs m ρ K ∗ Cr c k ∗ Ow c l ∗ Pos c k)
      ⊢ iprop(((Ow c l ∗ Fin0 c k ∗ bigSep (payers c k) fun p => pay m ρ c k p)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs
  have key := fun (W : Waits sig Unit) => Rounds.wp_wait_rest_token (Q := Q) (k := kk) (defs := defs₀ (F := F)) (Γ := []) 𝒱₀ ER (rd m ρ) (c : Thread nD τ) none (κ := K (c, k))
    hw (Set.mem_univ _) () (O := Ot l) (W := W) (R := 0) (m := 0) (T := ∅) (by rw [Nat.zero_add, expect_k, ha])
  have hb : bigSep ((rd m ρ).duties (kcell (c, k)) 0 \ ∅) (fun d => (rd m ρ).payload (kcell (c, k)) 0 d) = bigSep (payers c k) fun p => pay m ρ c k p := by
    rw [Finset.sdiff_empty, duties_k]; exact bigSep_congr fun d _ => payload_k m ρ c k 0 d
  rw [hb] at key
  unfold Ow Cr
  rw [ha]
  iintro ⟨#HR, HC, ⟨%W, HO⟩, HP⟩ Hk
  iapply (key W) $$ [HC HO HP]
  · isplitr; · iapply (recs_inv m ρ K (c, k)); iexact HR
    isplitl [HC]; · iexact HC
    isplitl [HO]; · iexact HO
    isplitr
    · iapply (mayWait_k c (csem k) l (by rw [kidx_csem]; exact hl)); iapply (recs_lev m ρ K); iexact HR
    iexact HP
  iintro ⟨HO, HP, -, Hpay⟩
  imod (Rounds.cell_close ER (rd m ρ) (Set.mem_univ (K (c, k))) (fun h => h) (R := 0 + 1) (duties_later m ρ (kcell (c, k)))) $$ [HP] with HZ
  · isplitr; · iapply (recs_inv m ρ K (c, k)); iexact HR
    iexact HP
  iapply Hk
  isplitl [HO]; · iexists _; iexact HO
  isplitl [HZ]; · iexact HZ
  iexact Hpay

/-- A wait on an arrival: `waitG` with one payer. -/
theorem waitD {α : Type} {Q : α → sProp 𝕄} {s : Shape} {e e' : EltTy} (k : Fin 28) {sm : DmaSem sig} (p : Dev nD) (hp : payers c k = {p}) (hs : SemLoc.dma sm = csem k)
    {src : Memref sig .tc .vmem s e} {dst : Memref sig .tc .vmem s e'} {hsrc : src.view.WordExact} {hdst : dst.view.WordExact}
    (ha : amt c k = dst.view.dmaCredit) {kk : PUnit → Prog (TpuEff nD τ sig (Elt F) Λ₀ .tc) α}
    (l : List (Dev nD × Fin 28)) (hl : ∀ x ∈ l, lvk k < lvk x.2) :
    iprop(recs m ρ K ∗ Cr c k ∗ Ow c l ∗ Pos c k)
      ⊢ iprop(((Ow c l ∗ Fin0 c k ∗ pay m ρ c k p)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have h := waitG m ρ K c (Q := Q) (kk := kk) (w := .waitDma2 sm src dst hsrc hdst) k hs (wpE_waitDma2_eq 𝒱₀ (c : Thread nD τ) none Set.univ)
    (by rw [hp, Finset.card_singleton, one_mul, ha]) l hl
  have e : (bigSep (payers c k) fun p => pay m ρ c k p) = pay m ρ c k p := by rw [hp, bigSep_singleton]
  rw [e] at h
  exact h

/-- A barrier signal to device `c'`, which hands it what it may write of this device. -/
theorem signalG {α : Type} {Q : α → sProp 𝕄} {n c' : Dev nD} (hn : n = c') {sm : Sem sig} (hs : sm = barS) (hc : c ≠ c') {k' : ℕ} (hk' : k' = 1)
    {kk : PUnit → Prog (TpuEff nD τ sig (Elt F) Λ₀ .tc) α} (l : List (Dev nD × Fin 28)) :
    iprop(recs m ρ K ∗ Ow c ((c', 0) :: l) ∗ Tok c (c', 0) ∗ barPay c' c)
      ⊢ iprop((Ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sm k') kk) Q) := by
  subst hn hs hk'
  have hm : c ∈ (rd m ρ).duties (((n : Thread nD τ), SemLoc.reg barS) : GSem nD τ sig) 0 := by
    rw [show (((n : Thread nD τ), SemLoc.reg barS) : GSem nD τ sig) = kcell (n, 0) from rfl, duties_k]
    exact Finset.mem_erase.mpr ⟨hc, Finset.mem_univ _⟩
  unfold Ow
  iintro ⟨#HR, ⟨%W, HO⟩, Ht, HB⟩ Hk
  iapply (Rounds.wp_signal 𝒱₀ ER (rd m ρ) (c : Thread nD τ) none (dst := (n : Thread nD τ)) (κ := K (n, 0)) (d := c) (r := 0)
    hm ((amount_k m ρ n 0 0 c).trans rfl) () (Ot l) rfl) $$ [HO Ht HB]
  · isplitr; · iapply (recs_inv m ρ K (n, 0)); iexact HR
    isplitl [HO]; · iexact HO
    isplitl [Ht]; · iexact Ht
    isplitl [HB]
    · iapply (Entails.of_eq ((payload_k m ρ n 0 0 c).trans (show pay m ρ n 0 c = barPay n c from rfl)).symm); iexact HB
    iapply (recs_reached m ρ K (n, 0)); iexact HR
  iintro HO
  iapply Hk
  iexists W; iexact HO

end Steps

/-! ## Pieces of a buffer -/

section Carve

variable {ℓ : Loc nD τ sig}

/-- The pieces listed, and what is left of `S`, each at the contents `f`. -/
def carved (f : Buf (Elt F) ℓ) : List (Finset (Idx ℓ)) → Finset (Idx ℓ) → sProp 𝕄
  | [], S => ℓ ↦[S]{fullShare} f
  | T :: l, S => iprop((ℓ ↦[T]{fullShare} f) ∗ carved f l (S \ T))
/-- The same at whatever contents. -/
def carvedE : List (Finset (Idx ℓ)) → Finset (Idx ℓ) → sProp 𝕄
  | [], S => iprop(∃ f : Buf (Elt F) ℓ, ℓ ↦[S]{fullShare} f)
  | T :: l, S => iprop((∃ f : Buf (Elt F) ℓ, ℓ ↦[T]{fullShare} f) ∗ carvedE l (S \ T))

/-- Disjoint pieces of `S` come out of it. -/
theorem carve (f : Buf (Elt F) ℓ) (l : List (Finset (Idx ℓ))) (S : Finset (Idx ℓ)) (hd : l.Pairwise Disjoint) (hs : ∀ T ∈ l, T ⊆ S) :
    (ℓ ↦[S]{fullShare} f : sProp 𝕄) ⊢ carved f l S := by
  induction l generalizing S with
  | nil => exact BI.Entails.refl _
  | cons T l ih =>
    obtain ⟨h1, h2⟩ := List.pairwise_cons.mp hd
    refine (pointsTo_split_subset (hs T List.mem_cons_self)).1.trans (sep_mono_right (ih _ h2 fun U hU => ?_))
    exact Finset.subset_sdiff.mpr ⟨hs U (List.mem_cons_of_mem _ hU), (h1 U hU).symm⟩
/-- And they go back in, whatever they hold by then. -/
theorem uncarve (l : List (Finset (Idx ℓ))) (S : Finset (Idx ℓ)) (hd : l.Pairwise Disjoint) (hs : ∀ T ∈ l, T ⊆ S) :
    carvedE l S ⊢ (iprop(∃ f : Buf (Elt F) ℓ, ℓ ↦[S]{fullShare} f) : sProp 𝕄) := by
  induction l generalizing S with
  | nil => exact BI.Entails.refl _
  | cons T l ih =>
    obtain ⟨h1, h2⟩ := List.pairwise_cons.mp hd
    refine (sep_mono_right (ih (S \ T) h2 fun U hU =>
      Finset.subset_sdiff.mpr ⟨hs U (List.mem_cons_of_mem _ hU), (h1 U hU).symm⟩)).trans ?_
    iintro ⟨⟨%f, H1⟩, ⟨%g, H2⟩⟩
    iexists _
    iapply (pointsTo_join_subset (hs T List.mem_cons_self))
    isplitl [H1]; · iexact H1
    iexact H2

end Carve

/-! ## What lands, and where the pieces lie -/

/-- What a copy leaves at its destination reads as the source did. -/
theorem landed_eq {s : Shape} {e : EltTy} (src dst : Memref sig .tc .vmem s e) (c c' : Dev nD) (q : PosShare TreeShare)
    (fs : Buf (Elt F) (src.view.loc (c : Thread nD τ))) (fd T : Buf (Elt F) (dst.view.loc (c' : Thread nD τ)))
    (h : src.view.read (Elt F) fs = dst.view.read (Elt F) T) :
    mpt dst c' q (dst.view.write (Elt F) fd (src.view.read (Elt F) fs) Finset.univ) = mpt dst c' q T := by
  refine pointsTo_congr fun i hi => ?_
  obtain ⟨x, -, rfl⟩ := Finset.mem_map.mp hi
  rw [View.write_emb_of_mem _ _ (Finset.mem_univ x), h, View.read_apply]
  simp only [cast_cast, cast_eq]

omit [FloatOps F] [Named F] in
theorem gather_lo (s0 s1 : Vec F S2x512x2048 .bf16) (c : Dev nD) (i : S2x640x512.Idx) (j : S2x512x2048.Idx)
    (h : (i 1).val < 512) (h0 : (j 0).val = (i 0).val) (h1 : (j 1).val = (i 1).val) (h2 : (j 2).val = 512 * c.val + (i 2).val) :
    gather s0 s1 c i = s0 j := by
  unfold gather; rw [dif_pos h]; congr 1; funext a
  fin_cases a
  · exact Fin.ext h0.symm
  · exact Fin.ext h1.symm
  · exact Fin.ext h2.symm
omit [FloatOps F] [Named F] in
theorem gather_hi (s0 s1 : Vec F S2x512x2048 .bf16) (c : Dev nD) (i : S2x640x512.Idx) (j : S2x512x2048.Idx)
    (h : 512 ≤ (i 1).val) (h0 : (j 0).val = (i 0).val) (h1 : (j 1).val + 512 = (i 1).val) (h2 : (j 2).val = 512 * c.val + (i 2).val) :
    gather s0 s1 c i = s1 j := by
  unfold gather; rw [dif_neg (Nat.not_lt.mpr h)]; congr 1; funext a
  fin_cases a
  · exact Fin.ext h0.symm
  · exact Fin.ext (show (i 1).val - 512 = (j 1).val by omega)
  · exact Fin.ext h2.symm

omit [FloatOps F] [Named F] in
theorem kread_A (s0 s1 : Vec F S2x512x2048 .bf16) (d : Fin 4) : (sA ksM d).view.read (Elt F) s0 = (bA kbM).view.read (Elt F) (gather s0 s1 d) := by
  funext x
  exact (gather_lo s0 s1 d ((bA kbM).view.emb x) ((sA ksM d).view.emb x)
    (by have : (x 1).val < 384 := (x 1).isLt; show 0 + 1 * (x 1).val < 512; omega) rfl rfl
    (by show 512 * d.val + 1 * (x 2).val = 512 * d.val + (0 + 1 * (x 2).val); omega)).symm
omit [FloatOps F] [Named F] in
theorem kread_B (s0 s1 : Vec F S2x512x2048 .bf16) (d : Fin 4) : (sB ksM d).view.read (Elt F) s0 = (bB kbM).view.read (Elt F) (gather s0 s1 d) := by
  funext x
  exact (gather_lo s0 s1 d ((bB kbM).view.emb x) ((sB ksM d).view.emb x)
    (by have : (x 1).val < 128 := (x 1).isLt; show 384 + 1 * (x 1).val < 512; omega) rfl rfl
    (by show 512 * d.val + 1 * (x 2).val = 512 * d.val + (0 + 1 * (x 2).val); omega)).symm
omit [FloatOps F] [Named F] in
theorem kread_C (s0 s1 : Vec F S2x512x2048 .bf16) (d : Fin 4) : (sC ksM d).view.read (Elt F) s1 = (bC kbM).view.read (Elt F) (gather s0 s1 d) := by
  funext x
  exact (gather_hi s0 s1 d ((bC kbM).view.emb x) ((sC ksM d).view.emb x)
    (by show 512 ≤ 512 + 1 * (x 1).val; omega) rfl
    (by show (0 + 1 * (x 1).val) + 512 = 512 + 1 * (x 1).val; omega)
    (by show 512 * d.val + 1 * (x 2).val = 512 * d.val + (0 + 1 * (x 2).val); omega)).symm

/-- The pieces of a staging buffer for different devices, and of different rows, are apart. -/
theorem sep_AA {d d' : Fin 4} (h : d ≠ d') : Disjoint (sA ksM d).view.set (sA ksM d').view.set := by
  rw [View.set_slice_whole, View.set_slice_whole]
  refine Rect.disjoint_of_axis _ _ 2 fun j₁ h₁ j₂ h₂ e => h (Fin.ext ?_)
  have h₁' : j₁ < 512 := h₁; have h₂' : j₂ < 512 := h₂; have e' : 512 * d.val + 1 * j₁ = 512 * d'.val + 1 * j₂ := e
  omega
theorem sep_BB {d d' : Fin 4} (h : d ≠ d') : Disjoint (sB ksM d).view.set (sB ksM d').view.set := by
  rw [View.set_slice_whole, View.set_slice_whole]
  refine Rect.disjoint_of_axis _ _ 2 fun j₁ h₁ j₂ h₂ e => h (Fin.ext ?_)
  have h₁' : j₁ < 512 := h₁; have h₂' : j₂ < 512 := h₂; have e' : 512 * d.val + 1 * j₁ = 512 * d'.val + 1 * j₂ := e
  omega
theorem sep_CC {d d' : Fin 4} (h : d ≠ d') : Disjoint (sC ksM d).view.set (sC ksM d').view.set := by
  rw [View.set_slice_whole, View.set_slice_whole]
  refine Rect.disjoint_of_axis _ _ 2 fun j₁ h₁ j₂ h₂ e => h (Fin.ext ?_)
  have h₁' : j₁ < 512 := h₁; have h₂' : j₂ < 512 := h₂; have e' : 512 * d.val + 1 * j₁ = 512 * d'.val + 1 * j₂ := e
  omega
theorem sep_AB (d d' : Fin 4) : Disjoint (sA ksM d).view.set (sB ksM d').view.set := by
  rw [View.set_slice_whole, View.set_slice_whole]
  refine Rect.disjoint_of_axis _ _ 1 fun j₁ h₁ j₂ h₂ e => ?_
  have h₁' : j₁ < 384 := h₁; have e' : 0 + 1 * j₁ = 384 + 1 * j₂ := e
  omega

abbrev stSets0 : List (Finset S2x512x2048.Idx) :=
  [(sA ksM 1).view.set, (sA ksM 2).view.set, (sA ksM 3).view.set, (sB ksM 1).view.set, (sB ksM 2).view.set, (sB ksM 3).view.set]
abbrev stSets1 : List (Finset S2x512x2048.Idx) := [(sC ksM 0).view.set, (sC ksM 2).view.set, (sC ksM 3).view.set]
abbrev kbSets : List (Finset S2x640x512.Idx) := [(bC kbM).view.set, (bA kbM).view.set, (bB kbM).view.set]
abbrev hSets : List (Finset S2x512x768.Idx) := [(h0 pM).view.set, (h1 pM).view.set]

theorem stSets0_sep : stSets0.Pairwise Disjoint := by
  simp only [List.pairwise_cons, List.mem_cons, List.not_mem_nil, or_false, forall_eq_or_imp, forall_eq, IsEmpty.forall_iff, implies_true, and_true, List.Pairwise.nil]
  refine ⟨⟨sep_AA (by decide), sep_AA (by decide), sep_AB _ _, sep_AB _ _, sep_AB _ _⟩, ⟨sep_AA (by decide), sep_AB _ _, sep_AB _ _, sep_AB _ _⟩,
    ⟨sep_AB _ _, sep_AB _ _, sep_AB _ _⟩, ⟨sep_BB (by decide), sep_BB (by decide)⟩, sep_BB (by decide)⟩
theorem stSets1_sep : stSets1.Pairwise Disjoint := by
  simp only [List.pairwise_cons, List.mem_cons, List.not_mem_nil, or_false, forall_eq_or_imp, forall_eq, IsEmpty.forall_iff, implies_true, and_true, List.Pairwise.nil]
  exact ⟨⟨sep_CC (by decide), sep_CC (by decide)⟩, sep_CC (by decide)⟩
theorem kbSets_sep : kbSets.Pairwise Disjoint := by
  simp only [List.pairwise_cons, List.mem_cons, List.not_mem_nil, or_false, forall_eq_or_imp, forall_eq, IsEmpty.forall_iff, implies_true, and_true, List.Pairwise.nil,
    View.set_slice_whole]
  refine ⟨⟨Rect.disjoint_of_separated _ _ 1 (by decide), Rect.disjoint_of_separated _ _ 1 (by decide)⟩, Rect.disjoint_of_separated _ _ 1 (by decide)⟩
theorem hSets_sep : hSets.Pairwise Disjoint := by
  simp only [List.pairwise_cons, List.mem_cons, List.not_mem_nil, or_false, forall_eq_or_imp, forall_eq, IsEmpty.forall_iff, implies_true, and_true, List.Pairwise.nil,
    View.set_slice_whole]
  exact Rect.disjoint_of_separated _ _ 1 (by decide)

end Cert.KernelIdealProof
-- ==== Proof.ISeg.lean ====
/-
# The body's five stretches, and contents put together from stores

The body is cut at the points where the protocol's state is simple: the barrier and the sends of keys and values; the first
256 rows; the other 256 rows; the two exchanges; the waits for the departures. Then: what buffers written window by window hold.
-/
module

public import proofs.«01_k».proof.Proof.IRules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The stretches -/

/-- The barrier, the sends of keys and values, the queries and the two masks. -/
def segA (k : Dev nD → BitVec 32 → BitVec 32 → BitVec 32 → Prog (TpuEff nD τ sig (Elt F) Λ₀ .tc) PUnit) : Prog (TpuEff nD τ sig (Elt F) Λ₀ .tc) PUnit := do
  let ⟨d0, v2, v3, v30, c4_i32_18, v31⟩ : Σ' (d0 : Dev nD) (v2 : BitVec 32) (v3 : Sems sig S_) (v30 : BitVec 32) (c4_i32_18 : BitVec 32), BitVec 1 ← k0_part11 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16
  let v60 : FVec F S512x512 .f32 ← k0_part12 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 d0 v2 v3 v30 c4_i32_18 v31
  let ⟨v98, c0_i32_58⟩ : Σ' (v98 : BitVec 32), BitVec 32 ← k0_part13 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v2 v60
  k d0 v2 v98 c0_i32_58
/-- Rows 0 to 256: the heads and the partial product. -/
def segB (v2 v98 c0_i32_58 : BitVec 32) (k : PUnit → Prog (TpuEff nD τ sig (Elt F) Λ₀ .tc) PUnit) : Prog (TpuEff nD τ sig (Elt F) Λ₀ .tc) PUnit := do
  let v130 : FVec F S256x384 .f32 ← k0_part14 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v98 c0_i32_58
  let v165 : FVec F S256x384 .f32 ← k0_part15 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v130
  let v200 : FVec F S256x64 .bf16 ← k0_part16 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v165
  let v231 : FVec F S256x64 .bf16 ← k0_part17 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v200
  let ⟨v264, v266⟩ : Σ' (v264 : FVec F S256x384 .f32), FVec F S256x1 .f32 ← k0_part18 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v231
  let ⟨v300, v302⟩ : Σ' (v300 : FVec F S256x384 .bf16), FVec F S384x64 .bf16 ← k0_part19 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v264 v266
  let v334 : Vec F S1x256x64 .bf16 ← k0_part20 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v300 v302
  let ⟨v366, v367⟩ : Σ' (v366 : FVec F S256x384 .f32), Vec F S256x384 .f32 ← k0_part21 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v334
  let v404 : FVec F S256x384 .bf16 ← k0_part22 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v366 v367
  k0_part23 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v404
  let ⟨v468, v469⟩ : Σ' (v468 : FVec F S256x384 .f32), FVec F S256x384 .f32 ← k0_part24 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16
  let ⟨v503, v505⟩ : Σ' (v503 : FVec F S256x384 .f32), FVec F S256x1 .f32 ← k0_part25 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v468 v469
  k0_part26 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v2 v503 v505
  k ⟨⟩
/-- The first send of a partial product, and the heads of rows 256 to 512. -/
def segC (d0 : Dev nD) (v2 : BitVec 32) (k : FVec F S512x768 .bf16 → Prog (TpuEff nD τ sig (Elt F) Λ₀ .tc) PUnit) : Prog (TpuEff nD τ sig (Elt F) Λ₀ .tc) PUnit := do
  let ⟨v565, v566⟩ : Σ' (v565 : FVec F S256x512 .bf16), Vec F S1x512x64 .bf16 ← k0_part27 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 d0 v2
  k0_part28 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v565 v566
  let v631 : FVec F S256x512 .f32 ← k0_part29 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16
  let v669 : FVec F S256x512 .bf16 ← k0_part30 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v631
  let v702 : FVec F S1x256x64 .bf16 ← k0_part31 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v669
  let ⟨v733, cst_527⟩ : Σ' (v733 : FVec F S256x512 .f32), F .f32 ← k0_part32 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v702
  let ⟨v768, v769⟩ : Σ' (v768 : FVec F S256x512 .f32), FVec F S256 .f32 ← k0_part33 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v733 cst_527
  let v803 : FVec F S256x64 .bf16 ← k0_part34 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v768 v769
  let ⟨v834, v835⟩ : Σ' (v834 : FVec F S256x64 .bf16), Vec F S1x512x64 .bf16 ← k0_part35 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v803
  let ⟨v867, v870⟩ : Σ' (v867 : FVec F S256x512 .f32), FVec F S256x512 .f32 ← k0_part36 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v834 v835
  let ⟨v903, v905, cst_649⟩ : Σ' (v903 : FVec F S256x512 .bf16) (v905 : FVec F S512x64 .bf16), FVec F S256x64 .f32 ← k0_part37 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v867 v870
  let v938 : FVec F S256x64 .bf16 ← k0_part38 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v903 v905 cst_649
  let v964 : FVec F S512x768 .bf16 ← k0_part39 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v938
  k v964
/-- The partial product of rows 256 to 512 and the two exchanges. -/
def segD (d0 : Dev nD) (v2 : BitVec 32) (v964 : FVec F S512x768 .bf16) (k : FVec F S256x768 .f32 → Prog (TpuEff nD τ sig (Elt F) Λ₀ .tc) PUnit) : Prog (TpuEff nD τ sig (Elt F) Λ₀ .tc) PUnit := do
  let v996 : FVec F S256x768 .f32 ← k0_part40 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 d0 v2 v964
  let c0_i32_760 : BitVec 32 ← k0_part41 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 d0 v2 v996
  let v1053 : BitVec 32 ← k0_part42 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v2 c0_i32_760
  let v1078 : Vec F S1x256x768 .bf16 ← k0_part43 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 d0 v1053
  let v1106 : FVec F S256x768 .f32 ← k0_part44 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v1078
  k v1106
/-- The last window of the result and the waits for the departures. -/
def segE (v2 : BitVec 32) (v1106 : FVec F S256x768 .f32) : Prog (TpuEff nD τ sig (Elt F) Λ₀ .tc) PUnit := do
  k0_part45 xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16 v2 v1106
  let v1131 : DmaSems sig S1 := cc0_scratch15.slice (Rect.unit (s := S4) ![2] S1.size inb_S4_S1_2)
  let v1132 : DmaSems sig S_ := v1131.squeeze S_ squeezes_S1_S_
  let v1133 : Memref sig .tc .vmem S2x256x768 .bf16 := pM.slice (Rect.unit (s := S2x512x768) ![0, 0, 0] S2x256x768.size inb_S2x512x768_S2x256x768_0_0_0) (fun _ => rfl)
  let v1134 : Memref sig .tc .vmem S2x256x768 .bf16 := st1M.slice (Rect.unit (s := S2x512x768) ![0, 0, 0] S2x256x768.size inb_S2x512x768_S2x256x768_0_0_0) (fun _ => rfl)
  Prog.lift (.waitDma2 v1132.sem v1134 v1133 ((Memref.isWhole_whole _).wordExact_slice rfl _ wordsbf16_S2x512x768_S2x256x768_0_0_0) ((Memref.isWhole_whole _).wordExact_slice rfl _ wordsbf16_S2x512x768_S2x256x768_0_0_0))
  pure ⟨⟩

set_option maxRecDepth 65536 in
/-- The body up to its last wait is the five stretches in a row. -/
theorem part46_eq : k0_part46 (F := F) xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16
    = segA fun d0 v2 v98 c => segB v2 v98 c fun _ => segC d0 v2 fun v964 => segD d0 v2 v964 fun v1106 => segE v2 v1106 := rfl

/-! ## Buffers written window by window -/

theorem byHalves_at {e : EltTy} (w : Fin 2 → Fin 2 → Vec F S1x256x768 e) (b r : Fin 2) (x : S1x256x768.Idx) (i : S2x512x768.Idx)
    (e0 : (i 0).val = b.val) (e1 : (i 1).val = 256 * r.val + (x 1).val) (e2 : (i 2).val = (x 2).val) : byHalves w i = w b r x := by
  have hx : (x 1).val < 256 := (x 1).isLt
  have hx0 : (x 0).val < 1 := (x 0).isLt
  unfold byHalves
  rw [show (i 0) = b from Fin.ext e0, show halfOf (i 1) = r from Fin.ext (by show (i 1).val / 256 = r.val; omega)]
  congr 1; funext a
  fin_cases a
  · exact Fin.ext (show 0 = (x 0).val by omega)
  · exact Fin.ext (show (i 1).val % 256 = (x 1).val by omega)
  · exact Fin.ext e2

/-- The piece a store of one window writes. -/
abbrev pieceP {e : EltTy} (w : Fin 2 → Fin 2 → Vec F S1x256x768 e) (br : Fin 2 × Fin 2) : View.Piece (Elt F) S2x512x768 e :=
  ⟨Rect.unit (s := S2x512x768) ![br.1.val, 256 * br.2.val, 0] S1x256x768.size (inbP br.1 br.2), w br.1 br.2⟩

/-- A buffer some of whose windows were stored holds them. -/
theorem writes_windows {e : EltTy} {κ : Kind} {sp : Space} (v : View sig κ sp S2x512x768 e) (f : v.ty.Contents (Elt F))
    (w : Fin 2 → Fin 2 → Vec F S1x256x768 e) (l : List (Fin 2 × Fin 2)) (y : S2x512x768.Idx) (hy : ((y 0 : Fin 2), halfOf (y 1)) ∈ l) :
    v.read (Elt F) (v.writes (Elt F) f (l.map (pieceP w))) y = byHalves w y := by
  refine View.read_writes_apply_of_pieces v f (byHalves w) _ ?_ y ?_
  · intro p hp x
    obtain ⟨br, -, rfl⟩ := List.mem_map.mp hp
    have hx0 : (x 0).val < 1 := (x 0).isLt
    exact (byHalves_at w br.1 br.2 x _ (by show br.1.val + 1 * (x 0).val = _; omega) (by show 256 * br.2.val + 1 * (x 1).val = _; omega)
      (by show 0 + 1 * (x 2).val = _; omega)).symm
  · refine ⟨_, List.mem_map.mpr ⟨_, hy, rfl⟩, ?_⟩
    dsimp only
    rw [Rect.mem_set_unit]; intro a
    have h1 : (y 1).val < 512 := (y 1).isLt
    have h2 : (y 2).val < 768 := (y 2).isLt
    fin_cases a
    · exact ⟨le_rfl, Nat.lt_succ_self _⟩
    · show 256 * ((y 1).val / 256) ≤ (y 1).val ∧ (y 1).val < 256 * ((y 1).val / 256) + 256
      omega
    · exact ⟨Nat.zero_le _, by show (y 2).val < 0 + 768; omega⟩

/-- One head's piece of the attention output. -/
abbrev pieceC (w : Fin 2 → Fin 8 → Vec F S1x256x64 .bf16) (r : Fin 2) (bh : Fin 2 × Fin 8) : View.Piece (Elt F) S2x512x512 .bf16 :=
  ⟨Rect.unit (s := S2x512x512) ![bh.1.val, 256 * r.val, 64 * bh.2.val] S1x256x64.size (inbQ bh.1 r bh.2), w bh.1 bh.2⟩

/-- The attention output with every head of rows 0 to 256 (256 to 512) of a batch stored. -/
theorem writes_heads {κ : Kind} {sp : Space} (v : View sig κ sp S2x512x512 .bf16) (f : v.ty.Contents (Elt F)) (c : Dev nD) (r : Fin 2)
    (w : Fin 2 → Fin 8 → Vec F S1x256x64 .bf16) (hw : w = if r = 0 then head0 m ρ c else head1 m ρ c)
    (l : List (Fin 2 × Fin 8)) (y : S2x512x512.Idx) (hr : halfOf (y 1) = r) (hy : ((y 0 : Fin 2), headOf (y 2)) ∈ l) :
    v.read (Elt F) (v.writes (Elt F) f (l.map (pieceC w r))) y = ctxAll m ρ c y := by
  refine View.read_writes_apply_of_pieces v f (ctxAll m ρ c) _ ?_ y ?_
  · intro p hp x
    obtain ⟨bh, -, rfl⟩ := List.mem_map.mp hp
    have hx0 : (x 0).val < 1 := (x 0).isLt
    have hx1 : (x 1).val < 256 := (x 1).isLt
    have hx2 : (x 2).val < 64 := (x 2).isLt
    have hr2 : r.val < 2 := r.isLt
    show w bh.1 bh.2 x = _
    generalize hj : ((pieceC w r bh).1.emb x : S2x512x512.Idx) = j
    have e0 : (j 0).val = bh.1.val := by rw [← hj]; show bh.1.val + 1 * (x 0).val = _; omega
    have e1 : (j 1).val = 256 * r.val + (x 1).val := by rw [← hj]; show 256 * r.val + 1 * (x 1).val = _; omega
    have e2 : (j 2).val = 64 * bh.2.val + (x 2).val := by rw [← hj]; show 64 * bh.2.val + 1 * (x 2).val = _; omega
    have hx : x = ix3 0 (inHalf (j 1)) (inHead (j 2)) := by
      funext a; fin_cases a
      · exact Fin.ext (show (x 0).val = 0 by omega)
      · exact Fin.ext (show (x 1).val = (j 1).val % 256 by omega)
      · exact Fin.ext (show (x 2).val = (j 2).val % 64 by omega)
    have hb : (j 0) = bh.1 := Fin.ext e0
    have hh : headOf (j 2) = bh.2 := Fin.ext (by show (j 2).val / 64 = _; omega)
    unfold ctxAll
    rw [← hx, hb, hh, hw]
    by_cases h : r = 0
    · subst h; rw [if_pos rfl, if_pos (by have : (j 1).val = 256 * 0 + (x 1).val := e1; omega)]
    · have : r.val = 1 := by omega
      rw [if_neg h, if_neg (by omega)]
  · refine ⟨_, List.mem_map.mpr ⟨_, hy, rfl⟩, ?_⟩
    dsimp only
    rw [Rect.mem_set_unit]; intro a
    have h1 : (y 1).val < 512 := (y 1).isLt
    have h2 : (y 2).val < 512 := (y 2).isLt
    have hr' : (y 1).val / 256 = r.val := congrArg Fin.val hr
    fin_cases a
    · exact ⟨le_rfl, Nat.lt_succ_self _⟩
    · show 256 * r.val ≤ (y 1).val ∧ (y 1).val < 256 * r.val + 256
      omega
    · show 64 * ((y 2).val / 64) ≤ (y 2).val ∧ (y 2).val < 64 * ((y 2).val / 64) + 64
      omega

omit [FloatOps F] [Named F] in
/-- A load of the whole of the output matrix. -/
theorem wo_read (f : Vec F S512x768 .bf16) :
    woM.view.readAt (Elt F) (Rect.unit (s := S512x768) ![0, 0] S512x768.size inb_S512x768_S512x768_0_0).toLoadRect f = f := by
  funext x
  show f _ = f x
  congr 1; funext a
  fin_cases a
  · exact Fin.ext (show 0 + 1 * (x 0).val = (x 0).val by omega)
  · exact Fin.ext (show 0 + 1 * (x 1).val = (x 1).val by omega)

/-- The order in which a stretch stores its sixteen heads, the last first. -/
def headOrder : List (Fin 2 × Fin 8) :=
  [(1, 7), (1, 6), (1, 5), (1, 4), (1, 3), (1, 2), (1, 1), (1, 0), (0, 7), (0, 6), (0, 5), (0, 4), (0, 3), (0, 2), (0, 1), (0, 0)]
theorem mem_headOrder (b : Fin 2) (h : Fin 8) : (b, h) ∈ headOrder := by revert b h; decide

/-- A window of the attention output, loaded after all its heads were stored. -/
theorem cwin_read (c : Dev nD) (b r : Fin 2) (f : ctxM.view.ty.Contents (Elt F)) (w : Fin 2 → Fin 8 → Vec F S1x256x64 .bf16)
    (hw : w = if r = 0 then head0 m ρ c else head1 m ρ c) :
    ctxM.view.readAt (Elt F) (Rect.unit (s := S2x512x512) ![b.val, 256 * r.val, 0] S1x256x512.size (inbR b r)).toLoadRect
      (ctxM.view.writes (Elt F) f (headOrder.map (pieceC w r))) = cwin (ctxAll m ρ c) b r := by
  funext x
  have hx1 : (x 1).val < 256 := (x 1).isLt
  exact writes_heads m ρ ctxM.view f c r w hw headOrder _
    (Fin.ext (by show (256 * r.val + 1 * (x 1).val) / 256 = r.val; omega)) (mem_headOrder _ _)

/-- The windows of a partial product. -/
abbrev pw (c : Dev nD) (b r : Fin 2) : Vec F S1x256x768 .bf16 := k0_pay46 (wostg m ρ c) (cwin (ctxAll m ρ c) b r)

/-- Half a buffer, its two windows stored. -/
theorem half_written {e : EltTy} {κ : Kind} {sp : Space} (v : View sig κ sp S2x512x768 e) (r : Fin 2)
    (w : Fin 2 → Fin 2 → Vec F S1x256x768 e) (f : v.ty.Contents (Elt F)) (y : S2x512x768.Idx) (hy : halfOf (y 1) = r) :
    v.read (Elt F) (v.writes (Elt F) f ([((1 : Fin 2), r), ((0 : Fin 2), r)].map (pieceP w))) y = byHalves w y := by
  refine writes_windows v f w _ y ?_
  have h : ∀ a r : Fin 2, (a, r) ∈ [((1 : Fin 2), r), ((0 : Fin 2), r)] := by decide
  rw [hy]; exact h _ _

theorem half_emb0 (x : S2x256x768.Idx) : halfOf ((h0 pM).view.emb x 1) = 0 :=
  Fin.ext (by have hx1 : (x 1).val < 256 := (x 1).isLt; show (0 + 1 * (x 1).val) / 256 = 0; omega)
theorem half_emb1 (x : S2x256x768.Idx) : halfOf ((h1 pM).view.emb x 1) = 1 :=
  Fin.ext (by have hx1 : (x 1).val < 256 := (x 1).isLt; show (256 + 1 * (x 1).val) / 256 = 1; omega)

theorem p_half0 (c : Dev nD) (q : PosShare TreeShare) (f : pM.view.ty.Contents (Elt F)) (w : Fin 2 → Fin 2 → Vec F S1x256x768 .bf16) (X : pM.view.ty.Contents (Elt F))
    (hX : X = pM.view.writes (Elt F) f ([((1 : Fin 2), (0 : Fin 2)), (0, 0)].map (pieceP w))) : mpt (h0 pM) c q X = mpt (h0 pM) c q (byHalves w) := by
  refine pointsTo_congr fun i hi => ?_
  obtain ⟨x, -, rfl⟩ := Finset.mem_map.mp hi
  have h := half_written pM.view 0 w f ((h0 pM).view.emb x) (half_emb0 x)
  rw [← hX] at h
  exact h
theorem p_half1 (c : Dev nD) (q : PosShare TreeShare) (f : pM.view.ty.Contents (Elt F)) (w : Fin 2 → Fin 2 → Vec F S1x256x768 .bf16) (X : pM.view.ty.Contents (Elt F))
    (hX : X = pM.view.writes (Elt F) f ([((1 : Fin 2), (1 : Fin 2)), (0, 1)].map (pieceP w))) : mpt (h1 pM) c q X = mpt (h1 pM) c q (byHalves w) := by
  refine pointsTo_congr fun i hi => ?_
  obtain ⟨x, -, rfl⟩ := Finset.mem_map.mp hi
  have h := half_written pM.view 1 w f ((h1 pM).view.emb x) (half_emb1 x)
  rw [← hX] at h
  exact h
theorem s_half0 (c : Dev nD) (q : PosShare TreeShare) (f : s2M.view.ty.Contents (Elt F)) (w : Fin 2 → Fin 2 → Vec F S1x256x768 .bf16) (X : s2M.view.ty.Contents (Elt F))
    (hX : X = s2M.view.writes (Elt F) f ([((1 : Fin 2), (0 : Fin 2)), (0, 0)].map (pieceP w))) : mpt (h0 s2M) c q X = mpt (h0 s2M) c q (byHalves w) := by
  refine pointsTo_congr fun i hi => ?_
  obtain ⟨x, -, rfl⟩ := Finset.mem_map.mp hi
  have h := half_written s2M.view 0 w f ((h0 s2M).view.emb x) (half_emb0 x)
  rw [← hX] at h
  exact h
theorem s_half1 (c : Dev nD) (q : PosShare TreeShare) (f : s2M.view.ty.Contents (Elt F)) (w : Fin 2 → Fin 2 → Vec F S1x256x768 .bf16) (X : s2M.view.ty.Contents (Elt F))
    (hX : X = s2M.view.writes (Elt F) f ([((1 : Fin 2), (1 : Fin 2)), (0, 1)].map (pieceP w))) : mpt (h1 s2M) c q X = mpt (h1 s2M) c q (byHalves w) := by
  refine pointsTo_congr fun i hi => ?_
  obtain ⟨x, -, rfl⟩ := Finset.mem_map.mp hi
  have h := half_written s2M.view 1 w f ((h1 s2M).view.emb x) (half_emb1 x)
  rw [← hX] at h
  exact h

/-- The first half of the partial product from the loads and stores that made it. -/
theorem p_first (c : Dev nD) (f : pM.view.ty.Contents (Elt F)) (L : List (View.Piece (Elt F) S2x512x512 .bf16))
    (hL : L = headOrder.map (pieceC (head0 m ρ c) 0)) :
    View.write (Elt F) (pM.access (Rect.unit (s := S2x512x768) ![1, 0, 0] S1x256x768.size inb_S2x512x768_S1x256x768_1_0_0))
      (View.write (Elt F) (pM.access (Rect.unit (s := S2x512x768) ![0, 0, 0] S1x256x768.size inb_S2x512x768_S1x256x768_0_0_0)) f
        (k0_pay46 (woM.view.readAt (Elt F) (Rect.unit (s := S512x768) ![0, 0] S512x768.size inb_S512x768_S512x768_0_0).toLoadRect (wostg m ρ c))
          (ctxM.view.readCov L (Rect.unit (s := S2x512x512) ![0, 0, 0] S1x256x512.size inb_S2x512x512_S1x256x512_0_0_0).toLoadRect)) Finset.univ)
      (k0_pay47 (woM.view.readAt (Elt F) (Rect.unit (s := S512x768) ![0, 0] S512x768.size inb_S512x768_S512x768_0_0).toLoadRect (wostg m ρ c))
          (ctxM.view.readCov L (Rect.unit (s := S2x512x512) ![1, 0, 0] S1x256x512.size inb_S2x512x512_S1x256x512_1_0_0).toLoadRect)) Finset.univ
    = pM.view.writes (Elt F) f ([((1 : Fin 2), (0 : Fin 2)), (0, 0)].map (pieceP (pw m ρ c))) := by
  subst hL
  have e0 := cwin_read m ρ c 0 0 (ctxM.view.junk) (head0 m ρ c) rfl
  have e1 := cwin_read m ρ c 1 0 (ctxM.view.junk) (head0 m ρ c) rfl
  rw [wo_read]
  refine Eq.trans (congrArg₂ (fun u v => View.write (Elt F) (pM.access (Rect.unit (s := S2x512x768) ![1, 0, 0] S1x256x768.size inb_S2x512x768_S1x256x768_1_0_0))
      (View.write (Elt F) (pM.access (Rect.unit (s := S2x512x768) ![0, 0, 0] S1x256x768.size inb_S2x512x768_S1x256x768_0_0_0)) f
        (k0_pay46 (wostg m ρ c) u) Finset.univ) (k0_pay47 (wostg m ρ c) v) Finset.univ) e0 e1) rfl

/-! ## Arrivals of keys and values -/

/-- An arrival on device `c`'s semaphore `k`: still to be awaited, or, on the device that holds the rows already, the rows. -/
def Arr (c : Dev nD) (k : Fin 28) : sProp 𝕄 :=
  if payers c k = ∅ then iprop(Fin0 c k ∗ pay m ρ c k 0) else iprop(Cr c k ∗ Pos c k)

theorem arr_here (c : Dev nD) (k : Fin 28) (h : payers c k = ∅) : Arr m ρ c k = iprop(Fin0 c k ∗ pay m ρ c k 0) := if_pos h
theorem arr_await (c : Dev nD) (k : Fin 28) (p : Dev nD) (h : payers c k = {p}) : Arr m ρ c k = iprop(Cr c k ∗ Pos c k) :=
  if_neg (by rw [h]; exact Finset.singleton_ne_empty p)

/-- Arrivals of keys and values are awaited below every partial sum still owed. -/
theorem arL_above (c : Dev nD) (k : Fin 28) (h : lvk k < 3) : ∀ x ∈ arL c, lvk k < lvk x.2 := by
  intro x hx
  have h3 : ∀ c : Dev nD, ∀ x ∈ arL c, 3 ≤ lvk x.2 := by decide
  exact lt_of_lt_of_le h (h3 c x hx)

/-- `waitD`, what arrives named `P`. -/
theorem waitP (K : Dev nD × Fin 28 → ℕ) (c : Dev nD) {α : Type} {Q : α → sProp 𝕄} {s : Shape} {e e' : EltTy} (k : Fin 28) {sm : DmaSem sig} (p : Dev nD)
    (hp : payers c k = {p}) (hs : SemLoc.dma sm = csem k)
    {src : Memref sig .tc .vmem s e} {dst : Memref sig .tc .vmem s e'} {hsrc : src.view.WordExact} {hdst : dst.view.WordExact}
    (ha : amt c k = dst.view.dmaCredit) {kk : PUnit → Prog (TpuEff nD τ sig (Elt F) Λ₀ .tc) α}
    (l : List (Dev nD × Fin 28)) (hl : ∀ x ∈ l, lvk k < lvk x.2) (P : sProp 𝕄) (hP : pay m ρ c k p = P) :
    iprop(recs m ρ K ∗ Cr c k ∗ Ow c l ∗ Pos c k)
      ⊢ iprop(((Ow c l ∗ Fin0 c k ∗ P) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hP; exact waitD m ρ K c k p hp hs ha l hl

end Cert.KernelIdealProof
-- ==== Proof.IAr.lean ====
/-
# Sends of partial sums, and waits for departures

A send of a half of a partial sum, which keeps the reading half of the source; the three pieces of a key or value buffer put
together; a wait for a departure.
-/
module

public import proofs.«01_k».proof.Proof.ISeg

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem dev22_eq (c : Dev nD) : (⟨k0_dev22 c, k0_dev22_lt c⟩ : Dev nD) = px c := by revert c; decide
theorem dev23_eq (c : Dev nD) : (⟨k0_dev23 c, k0_dev23_lt c⟩ : Dev nD) = px c := by revert c; decide
theorem dev24_eq (c : Dev nD) : (⟨k0_dev24 c, k0_dev24_lt c⟩ : Dev nD) = py c := by revert c; decide
theorem dev25_eq (c : Dev nD) : (⟨k0_dev25 c, k0_dev25_lt c⟩ : Dev nD) = py c := by revert c; decide

/-- The half of the share the owner keeps during a copy. -/
abbrev rHalf : PosShare TreeShare := (fullShare : PosShare TreeShare).right

theorem halves {ℓ : Loc nD τ sig} (S : Finset (Idx ℓ)) (f : Buf (Elt F) ℓ) :
    (ℓ ↦[S]{fullShare} f : sProp 𝕄) ⊣⊢ iprop((ℓ ↦[S]{qHalf} f) ∗ ℓ ↦[S]{rHalf} f) := pointsTo_share (PosShare.mem_left_op_right _)

theorem payers_one (c : Dev nD) (k : Fin 28) (h : 23 ≤ k.val ∧ k.val ≤ 26) : payers c k = {c} := by
  unfold payers
  rw [if_neg (by omega), if_neg (by omega), if_neg (by omega), if_neg (by omega), if_neg (by omega), if_neg (by omega), if_pos (by omega)]
theorem payers_px (c : Dev nD) (k : Fin 28) (h : k.val = 19 ∨ k.val = 21) : payers c k = {px c} := by
  unfold payers
  rw [if_neg (by omega), if_neg (by omega), if_neg (by omega), if_neg (by omega), if_pos h]
theorem payers_py (c : Dev nD) (k : Fin 28) (h : k.val = 20 ∨ k.val = 22) : payers c k = {py c} := by
  unfold payers
  rw [if_neg (by omega), if_neg (by omega), if_neg (by omega), if_neg (by omega), if_neg (by omega), if_pos h]

/-- A send of half a partial sum to `c'`: its owner keeps a reading share of it. -/
theorem sendR (K : Dev nD × Fin 28 → ℕ) (c : Dev nD) {α : Type} {Q : α → sProp 𝕄} {n c' : Dev nD} (ks kr : Fin 28) (hn : n = c')
    {src : Memref sig .tc .vmem S2x256x768 .bf16} {dst : Memref sig .tc .vmem S2x256x768 .bf16}
    {hsc : (dst : Memref sig (Dev.tc n : Thread nD τ).2.kind .vmem S2x256x768 .bf16).view.ref.isScScratch = false}
    {sS sem : DmaSem sig} (hsS : SemLoc.dma sS = csem ks) (hsm : SemLoc.dma sem = csem kr)
    {hsrc : src.view.WordExact} {hdst : dst.view.WordExact}
    {hsem : DmaTarget.Typed .vmem (.dma sem) (.remote (Dev.tc n : Thread nD τ) dst (.dma sS) hsc)}
    {k : PUnit → Prog (TpuEff nD τ sig (Elt F) Λ₀ .tc) α}
    (T : Buf (Elt F) (src.view.loc (c : Thread nD τ))) (T' : Buf (Elt F) (dst.view.loc (c' : Thread nD τ)))
    (hm₁ : payers c ks = {c}) (hm₂ : payers c' kr = {c})
    (ha₁ : amt c ks = dst.view.dmaCredit) (ha₂ : amt c' kr = dst.view.dmaCredit)
    (hp₁ : pay m ρ c ks c = mpt src c qHalf T) (hp₂ : pay m ρ c' kr c = mpt dst c' fullShare T')
    (hT : src.view.read (Elt F) T = dst.view.read (Elt F) T') (l : List (Dev nD × Fin 28)) :
    iprop(recs m ρ K ∗ mpt src c fullShare T ∗ mptE dst c' ∗ Ow c ((c', kr) :: l) ∗ Tok c (c, ks) ∗ Tok c (c', kr))
      ⊢ iprop(((Cr c ks ∗ Ow c l ∗ mpt src c rHalf T) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hsem) k) Q) := by
  unfold mptE
  iintro ⟨#HR, Hs, ⟨%fd, Hd⟩, HO, Ht1, Ht2⟩ Hk
  ihave Hs := (halves (src.view.set) T).1 $$ Hs
  icases Hs with ⟨Hs, Hr⟩
  iapply (sendG m ρ K c ks kr hn hsS hsm (k := k) qHalf T fd hm₁ (by rw [hm₂]; exact Finset.mem_singleton_self _) ha₁ ha₂ l
    (by rw [hp₁]) (by rw [hp₂]; exact Entails.of_eq (landed_eq src dst c c' fullShare T fd T' hT))) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨HC, HO⟩
  iapply Hk
  isplitl [HC]; · iexact HC
  isplitl [HO]; · iexact HO
  iexact Hr

/-! ## A key or value buffer from its three pieces -/

omit [FloatOps F] [Named F] in
theorem kb_rest : ((Finset.univ : Finset S2x640x512.Idx) \ (bC kbM).view.set) \ (bA kbM).view.set = (bB kbM).view.set := by
  ext y
  have h1 : (y 1).val < 640 := (y 1).isLt
  have h0 : (y 0).val < 2 := (y 0).isLt
  have h2 : (y 2).val < 512 := (y 2).isLt
  rw [Finset.mem_sdiff, Finset.mem_sdiff, View.set_slice_whole, View.set_slice_whole, View.set_slice_whole]
  have hC : y ∈ (Rect.unit (s := S2x640x512) ![0, 512, 0] S2x128x512.size inb_S2x640x512_S2x128x512_0_512_0).set ↔ 512 ≤ (y 1).val := by
    rw [Rect.mem_set_unit]
    constructor
    · intro h; exact (h 1).1
    · intro h a; fin_cases a
      · exact ⟨Nat.zero_le _, by show (y 0).val < 0 + 2; omega⟩
      · exact ⟨h, by show (y 1).val < 512 + 128; omega⟩
      · exact ⟨Nat.zero_le _, by show (y 2).val < 0 + 512; omega⟩
  have hA : y ∈ (Rect.unit (s := S2x640x512) ![0, 0, 0] S2x384x512.size inb_S2x640x512_S2x384x512_0_0_0).set ↔ (y 1).val < 384 := by
    rw [Rect.mem_set_unit]
    constructor
    · intro h; have h' : (y 1).val < 0 + 384 := (h 1).2; omega
    · intro h a; fin_cases a
      · exact ⟨Nat.zero_le _, by show (y 0).val < 0 + 2; omega⟩
      · exact ⟨Nat.zero_le _, by show (y 1).val < 0 + 384; omega⟩
      · exact ⟨Nat.zero_le _, by show (y 2).val < 0 + 512; omega⟩
  have hB : y ∈ (Rect.unit (s := S2x640x512) ![0, 384, 0] S2x128x512.size inb_S2x640x512_S2x128x512_0_384_0).set ↔ 384 ≤ (y 1).val ∧ (y 1).val < 512 := by
    rw [Rect.mem_set_unit]
    constructor
    · intro h; exact h 1
    · intro h a; fin_cases a
      · exact ⟨Nat.zero_le _, by show (y 0).val < 0 + 2; omega⟩
      · exact h
      · exact ⟨Nat.zero_le _, by show (y 2).val < 0 + 512; omega⟩
  rw [hA, hB, hC]
  constructor
  · rintro ⟨⟨-, h⟩, h'⟩; omega
  · intro h; exact ⟨⟨Finset.mem_univ _, by omega⟩, by omega⟩

theorem mem3 {ℓ : Loc nD τ sig} (f : Buf (Elt F) ℓ) (A B C S : Finset (Idx ℓ)) (hC : C ⊆ S) (hA : A ⊆ S \ C) (hB : (S \ C) \ A = B) :
    iprop((ℓ ↦[A]{fullShare} f) ∗ (ℓ ↦[B]{fullShare} f) ∗ (ℓ ↦[C]{fullShare} f)) ⊢ (ℓ ↦[S]{fullShare} f : sProp 𝕄) := by
  iintro ⟨HA, HB, HC⟩
  iapply (pointsTo_split_subset hC).2
  isplitl [HC]; · iexact HC
  iapply (pointsTo_split_subset hA).2
  isplitl [HA]; · iexact HA
  rw [hB]; iexact HB
theorem bA_sub : (bA kbM).view.set ⊆ (Finset.univ : Finset S2x640x512.Idx) \ (bC kbM).view.set :=
  Finset.subset_sdiff.mpr ⟨Finset.subset_univ _, (List.rel_of_pairwise_cons kbSets_sep (List.mem_cons_self)).symm⟩

/-- The pieces of a buffer of keys, of values: together they are the buffer. -/
theorem kb_join (c : Dev nD) (f : Vec F S2x640x512 .bf16) :
    iprop(mpt (bA kbM) c fullShare f ∗ mpt (bB kbM) c fullShare f ∗ mpt (bC kbM) c fullShare f) ⊢ (mpt kbM c fullShare f : sProp 𝕄) := by
  have e : kbM.view.set = Finset.univ := View.set_whole _
  unfold mpt; rw [e]
  exact mem3 (ℓ := kbM.view.loc (c : Thread nD τ)) f _ _ _ Finset.univ (Finset.subset_univ _) bA_sub kb_rest
theorem vb_join (c : Dev nD) (f : Vec F S2x640x512 .bf16) :
    iprop(mpt (bA vbM) c fullShare f ∗ mpt (bB vbM) c fullShare f ∗ mpt (bC vbM) c fullShare f) ⊢ (mpt vbM c fullShare f : sProp 𝕄) := by
  have e : vbM.view.set = Finset.univ := View.set_whole _
  unfold mpt; rw [e]
  exact mem3 (ℓ := vbM.view.loc (c : Thread nD τ)) f _ _ _ Finset.univ (Finset.subset_univ _) bA_sub kb_rest

/-! ## Departures of keys and values -/

/-- A departure on device `c`'s semaphore `k`: to be awaited, or, where the device sends nothing on it, the semaphore at zero. -/
def Dep (c : Dev nD) (k : Fin 28) : sProp 𝕄 := if payers c k = ∅ then Fin0 c k else iprop(Cr c k ∗ Pos c k)
/-- The same once awaited. -/
def DepD (c : Dev nD) (k : Fin 28) : sProp 𝕄 := if payers c k = ∅ then Fin0 c k else iprop(Fin0 c k ∗ pay m ρ c k c)
theorem dep_none (c : Dev nD) (k : Fin 28) (h : payers c k = ∅) : Dep (F := F) c k = DepD m ρ c k := by
  unfold Dep DepD; rw [if_pos h, if_pos h]

/-- The wait for a departure of keys or values. -/
theorem waitS (K : Dev nD × Fin 28 → ℕ) (c : Dev nD) {α : Type} {Q : α → sProp 𝕄} {s : Shape} {e e' : EltTy} (k : Fin 28) {sm : DmaSem sig}
    (hp : payers c k = {c}) (hs : SemLoc.dma sm = csem k)
    {src : Memref sig .tc .vmem s e} {dst : Memref sig .tc .vmem s e'} {hsrc : src.view.WordExact} {hdst : dst.view.WordExact}
    (ha : amt c k = dst.view.dmaCredit) {kk : PUnit → Prog (TpuEff nD τ sig (Elt F) Λ₀ .tc) α} :
    iprop(recs m ρ K ∗ Dep c k ∗ Ow c [])
      ⊢ iprop(((Ow c [] ∗ DepD m ρ c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have hne : payers c k ≠ ∅ := by rw [hp]; exact Finset.singleton_ne_empty c
  unfold Dep DepD
  rw [if_neg hne, if_neg hne]
  iintro ⟨#HR, ⟨HC, HP⟩, HO⟩ Hk
  iapply (waitD m ρ K c k c hp hs ha [] (fun x hx => absurd hx List.not_mem_nil)) $$ [HC HP HO]
  · isplitr; · iexact HR
    isplitl [HC]; · iexact HC
    isplitl [HO]; · iexact HO
    iexact HP
  iintro ⟨HO, HF, HY⟩
  iapply Hk
  isplitl [HO]; · iexact HO
  isplitl [HF]; · iexact HF
  iexact HY

end Cert.KernelIdealProof
-- ==== Proof.ISegC.lean ====
/-
# Rows 256 to 512

The first half of the partial product leaves for the first partner; the arrivals of the other rows of keys and values are awaited
by the devices that do not hold them; then sixteen heads and a window of the partial product are computed.
-/
module

public import proofs.«01_k».proof.Proof.IAr

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem arL_tail (c : Dev nD) (k : Fin 28) (h : lvk k < 3) : ∀ x ∈ [(px c, (21 : Fin 28)), (py c, 20), (py c, 22)], lvk k < lvk x.2 :=
  fun x hx => arL_above c k h x (List.mem_cons_of_mem _ hx)

/-- The value the last window's product starts from. -/
abbrev woR (c : Dev nD) : Vec F S512x768 .bf16 :=
  woM.view.readAt (Elt F) (Rect.unit (s := S512x768) ![0, 0] S512x768.size inb_S512x768_S512x768_0_0).toLoadRect (wostg m ρ c)

/-- The window of the partial product stored at the end of this stretch. -/
theorem p_second (c : Dev nD) (L : List (View.Piece (Elt F) S2x512x512 .bf16)) (hL : L = headOrder.map (pieceC (head1 m ρ c) 1)) :
    k0_pay78 (woR m ρ c) (ctxM.view.readCov L (Rect.unit (s := S2x512x512) ![0, 256, 0] S1x256x512.size inb_S2x512x512_S1x256x512_0_256_0).toLoadRect) = pw m ρ c 0 1 := by
  subst hL
  have e0 := cwin_read m ρ c 0 1 (ctxM.view.junk) (head1 m ρ c) rfl
  unfold woR; rw [wo_read]
  exact congrArg (k0_pay78 (wostg m ρ c)) e0

theorem p_third (c : Dev nD) (fp X : Vec F S2x512x768 .bf16)
    (hX : X = View.write (Elt F) (pM.access (Rect.unit (s := S2x512x768) ![0, 256, 0] S1x256x768.size inb_S2x512x768_S1x256x768_0_256_0)) fp (pw m ρ c 0 1) Finset.univ) :
    mpt (h1 pM) c fullShare X = mpt (h1 pM) c fullShare
      (View.write (Elt F) (pM.access (Rect.unit (s := S2x512x768) ![0, 256, 0] S1x256x768.size inb_S2x512x768_S1x256x768_0_256_0)) fp (pw m ρ c 0 1) Finset.univ) := by rw [hX]

set_option maxRecDepth 65536 in
set_option sl_exec.resultNames true in
/-- The third stretch: with the other arrivals it leaves the heads of rows 256 to 512 and the third window of the partial product. -/
theorem segC_wp (K : Dev nD × Fin 28 → ℕ) (c : Dev nD) (v2 : BitVec 32)
    (h4 : Scalar.cmpi .ne (Scalar.extui (Scalar.cmpi .ne v2 0#32) : BitVec 32) 0#32 = 1#1 ↔ c ≠ 0)
    (h5 : Scalar.cmpi .ne (Scalar.extui (Scalar.cmpi .ne v2 1#32) : BitVec 32) 0#32 = 1#1 ↔ c ≠ 1)
    (k : FVec F S512x768 .bf16 → Prog (TpuEff nD τ sig (Elt F) Λ₀ .tc) PUnit) (Q : PUnit → sProp 𝕄) :
    iprop(recs m ρ K ∗ Ow c (arL c) ∗ Tok c (c, 23) ∗ Tok c (px c, 19) ∗ mpt (h0 pM) c fullShare (pAll m ρ c) ∗ mptE (h0 st1M) (px c)
      ∗ Arr m ρ c 3 ∗ Arr m ρ c 4 ∗ Arr m ρ c 5 ∗ Arr m ρ c 6
      ∗ mpt (bA kbM) c fullShare (kAll m ρ c) ∗ mpt (bA vbM) c fullShare (vAll m ρ c) ∗ mpt qM c fullShare (qAll m ρ c) ∗ mpt b1M c fullShare k0_pay14
      ∗ mptE ctxM c ∗ mpt woM c fullShare (wostg m ρ c) ∗ mptE (h1 pM) c
      ∗ ((Ow c [(px c, 21), (py c, 20), (py c, 22)] ∗ Cr c 23 ∗ mpt (h0 pM) c rHalf (pAll m ρ c)
          ∗ Fin0 c 3 ∗ Fin0 c 4 ∗ Fin0 c 5 ∗ Fin0 c 6 ∗ mpt kbM c fullShare (kAll m ρ c) ∗ mpt vbM c fullShare (vAll m ρ c)
          ∗ mpt qM c fullShare (qAll m ρ c) ∗ mpt b1M c fullShare k0_pay14
          ∗ (∃ fc : Vec F S2x512x512 .bf16, ⌜∀ b, cwin fc b 1 = cwin (ctxAll m ρ c) b 1⌝ ∗ mpt ctxM c fullShare fc)
          ∗ mpt woM c fullShare (wostg m ρ c)
          ∗ (∃ fp : Vec F S2x512x768 .bf16, mpt (h1 pM) c fullShare
              (View.write (Elt F) (pM.access (Rect.unit (s := S2x512x768) ![0, 256, 0] S1x256x768.size inb_S2x512x768_S1x256x768_0_256_0)) fp (pw m ρ c 0 1) Finset.univ)))
        -∗ wp frame (wpE (defs₀ (F := F)) 𝒱₀ (c : Thread nD τ) none) Set.univ (k (k0_pay77 (woR m ρ c))) Q))
    ⊢ wp frame (wpE (defs₀ (F := F)) 𝒱₀ (c : Thread nD τ) none) Set.univ (segC c v2 k) Q := by
  unfold segC
  simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold mptE mpt
  iintro ⟨#HR, HO, Ht1, Ht2, Hp0, Hd, HA3, HA4, HA5, HA6, Hkb, Hvb, Hq, Hb, ⟨%fc, Hc⟩, Hwo, ⟨%fp, Hp⟩, Hk⟩
  sl_exec
  iapply (sendR m ρ K c 23 19 (dev22_eq c) (src := h0 pM) (dst := h0 st1M) rfl rfl (pAll m ρ c) (pAll m ρ (px (px c)))
    (payers_one c 23 (by decide)) (by rw [payers_px (px c) 19 (by decide), px_px]) (by unfold amt; rfl) (by unfold amt; rfl) rfl rfl
    (by rw [px_px]; rfl) [(px c, 21), (py c, 20), (py c, 22)]) $$ [HO Ht1 Ht2 Hp0 Hd]
  · isplitr; · iexact HR
    isplitl [Hp0]; · iexact Hp0
    isplitl [Hd]; · unfold mptE; iexact Hd
    iframe HO Ht1
    iexact Ht2
  iintro ⟨HC23, HO, Hp0⟩
  have hdisj : c = 0 ∨ c = 1 ∨ (c ≠ 0 ∧ c ≠ 1) := by
    by_cases a : c = 0
    · exact Or.inl a
    · by_cases b : c = 1
      · exact Or.inr (Or.inl b)
      · exact Or.inr (Or.inr ⟨a, b⟩)
  rcases hdisj with hc | hc | ⟨hc, hd⟩
  on_goal 1 =>
    have hC : ¬ (Scalar.cmpi .ne (Scalar.extui (Scalar.cmpi .ne v2 0#32) : BitVec 32) 0#32 = 1#1) := fun h => h4.mp h hc
    have hd : c ≠ 1 := by rw [hc]; decide
    have hD := h5.mpr hd
    have e3 : Arr m ρ c 3 = iprop(Fin0 c 3 ∗ ((bB kbM).view.loc (c : Thread nD τ) ↦[(bB kbM).view.set]{fullShare} kAll m ρ c)) := by
      rw [arr_here m ρ c 3 (by subst hc; decide)]; rfl
    ihave HA3 := (Entails.of_eq e3) $$ HA3
    icases HA3 with ⟨HF3, HX3⟩
    have e4 : Arr m ρ c 4 = iprop(Fin0 c 4 ∗ ((bB vbM).view.loc (c : Thread nD τ) ↦[(bB vbM).view.set]{fullShare} vAll m ρ c)) := by
      rw [arr_here m ρ c 4 (by subst hc; decide)]; rfl
    ihave HA4 := (Entails.of_eq e4) $$ HA4
    icases HA4 with ⟨HF4, HX4⟩
    have p5 : payers c 5 = {1} := by unfold payers; rw [if_neg (by decide), if_neg (by decide), if_pos (by decide), if_neg hd]
    ihave HA5 := (Entails.of_eq (arr_await m ρ c 5 1 p5)) $$ HA5
    icases HA5 with ⟨HC5, HP5⟩
    sl_exec
    iapply (waitP m ρ K c 5 1 p5 rfl (by unfold amt; rfl) _ (arL_tail c _ (by decide)) ((bC kbM).view.loc (c : Thread nD τ) ↦[(bC kbM).view.set]{fullShare} kAll m ρ c) rfl) $$ [HC5 HO HP5]
    · isplitr; · iexact HR
      iframe HC5 HO
      iexact HP5
    iintro ⟨HO, HF5, HX5⟩
    have p6 : payers c 6 = {1} := by unfold payers; rw [if_neg (by decide), if_neg (by decide), if_pos (by decide), if_neg hd]
    ihave HA6 := (Entails.of_eq (arr_await m ρ c 6 1 p6)) $$ HA6
    icases HA6 with ⟨HC6, HP6⟩
    sl_exec
    iapply (waitP m ρ K c 6 1 p6 rfl (by unfold amt; rfl) _ (arL_tail c _ (by decide)) ((bC vbM).view.loc (c : Thread nD τ) ↦[(bC vbM).view.set]{fullShare} vAll m ρ c) rfl) $$ [HC6 HO HP6]
    · isplitr; · iexact HR
      iframe HC6 HO
      iexact HP6
    iintro ⟨HO, HF6, HX6⟩
  on_goal 2 =>
    have hD : ¬ (Scalar.cmpi .ne (Scalar.extui (Scalar.cmpi .ne v2 1#32) : BitVec 32) 0#32 = 1#1) := fun h => h5.mp h hc
    have h0c : c ≠ 0 := by rw [hc]; decide
    have hC := h4.mpr h0c
    have e5 : Arr m ρ c 5 = iprop(Fin0 c 5 ∗ ((bC kbM).view.loc (c : Thread nD τ) ↦[(bC kbM).view.set]{fullShare} kAll m ρ c)) := by
      rw [arr_here m ρ c 5 (by subst hc; decide)]; rfl
    ihave HA5 := (Entails.of_eq e5) $$ HA5
    icases HA5 with ⟨HF5, HX5⟩
    have e6 : Arr m ρ c 6 = iprop(Fin0 c 6 ∗ ((bC vbM).view.loc (c : Thread nD τ) ↦[(bC vbM).view.set]{fullShare} vAll m ρ c)) := by
      rw [arr_here m ρ c 6 (by subst hc; decide)]; rfl
    ihave HA6 := (Entails.of_eq e6) $$ HA6
    icases HA6 with ⟨HF6, HX6⟩
    have p3 : payers c 3 = {0} := by unfold payers; rw [if_neg (by decide), if_pos (by decide), if_neg h0c]
    ihave HA3 := (Entails.of_eq (arr_await m ρ c 3 0 p3)) $$ HA3
    icases HA3 with ⟨HC3, HP3⟩
    sl_exec
    iapply (waitP m ρ K c 3 0 p3 rfl (by unfold amt; rfl) _ (arL_tail c _ (by decide)) ((bB kbM).view.loc (c : Thread nD τ) ↦[(bB kbM).view.set]{fullShare} kAll m ρ c) rfl) $$ [HC3 HO HP3]
    · isplitr; · iexact HR
      iframe HC3 HO
      iexact HP3
    iintro ⟨HO, HF3, HX3⟩
    have p4 : payers c 4 = {0} := by unfold payers; rw [if_neg (by decide), if_pos (by decide), if_neg h0c]
    ihave HA4 := (Entails.of_eq (arr_await m ρ c 4 0 p4)) $$ HA4
    icases HA4 with ⟨HC4, HP4⟩
    sl_exec
    iapply (waitP m ρ K c 4 0 p4 rfl (by unfold amt; rfl) _ (arL_tail c _ (by decide)) ((bB vbM).view.loc (c : Thread nD τ) ↦[(bB vbM).view.set]{fullShare} vAll m ρ c) rfl) $$ [HC4 HO HP4]
    · isplitr; · iexact HR
      iframe HC4 HO
      iexact HP4
    iintro ⟨HO, HF4, HX4⟩
  on_goal 3 =>
    have hC := h4.mpr hc
    have hD := h5.mpr hd
    have p3 : payers c 3 = {0} := by unfold payers; rw [if_neg (by decide), if_pos (by decide), if_neg hc]
    ihave HA3 := (Entails.of_eq (arr_await m ρ c 3 0 p3)) $$ HA3
    icases HA3 with ⟨HC3, HP3⟩
    sl_exec
    iapply (waitP m ρ K c 3 0 p3 rfl (by unfold amt; rfl) _ (arL_tail c _ (by decide)) ((bB kbM).view.loc (c : Thread nD τ) ↦[(bB kbM).view.set]{fullShare} kAll m ρ c) rfl) $$ [HC3 HO HP3]
    · isplitr; · iexact HR
      iframe HC3 HO
      iexact HP3
    iintro ⟨HO, HF3, HX3⟩
    have p4 : payers c 4 = {0} := by unfold payers; rw [if_neg (by decide), if_pos (by decide), if_neg hc]
    ihave HA4 := (Entails.of_eq (arr_await m ρ c 4 0 p4)) $$ HA4
    icases HA4 with ⟨HC4, HP4⟩
    sl_exec
    iapply (waitP m ρ K c 4 0 p4 rfl (by unfold amt; rfl) _ (arL_tail c _ (by decide)) ((bB vbM).view.loc (c : Thread nD τ) ↦[(bB vbM).view.set]{fullShare} vAll m ρ c) rfl) $$ [HC4 HO HP4]
    · isplitr; · iexact HR
      iframe HC4 HO
      iexact HP4
    iintro ⟨HO, HF4, HX4⟩
    have p5 : payers c 5 = {1} := by unfold payers; rw [if_neg (by decide), if_neg (by decide), if_pos (by decide), if_neg hd]
    ihave HA5 := (Entails.of_eq (arr_await m ρ c 5 1 p5)) $$ HA5
    icases HA5 with ⟨HC5, HP5⟩
    sl_exec
    iapply (waitP m ρ K c 5 1 p5 rfl (by unfold amt; rfl) _ (arL_tail c _ (by decide)) ((bC kbM).view.loc (c : Thread nD τ) ↦[(bC kbM).view.set]{fullShare} kAll m ρ c) rfl) $$ [HC5 HO HP5]
    · isplitr; · iexact HR
      iframe HC5 HO
      iexact HP5
    iintro ⟨HO, HF5, HX5⟩
    have p6 : payers c 6 = {1} := by unfold payers; rw [if_neg (by decide), if_neg (by decide), if_pos (by decide), if_neg hd]
    ihave HA6 := (Entails.of_eq (arr_await m ρ c 6 1 p6)) $$ HA6
    icases HA6 with ⟨HC6, HP6⟩
    sl_exec
    iapply (waitP m ρ K c 6 1 p6 rfl (by unfold amt; rfl) _ (arL_tail c _ (by decide)) ((bC vbM).view.loc (c : Thread nD τ) ↦[(bC vbM).view.set]{fullShare} vAll m ρ c) rfl) $$ [HC6 HO HP6]
    · isplitr; · iexact HR
      iframe HC6 HO
      iexact HP6
    iintro ⟨HO, HF6, HX6⟩
  all_goals
    ihave Hkb := (kb_join c (kAll m ρ c)) $$ [Hkb HX3 HX5]
    · isplitl [Hkb]; · iexact Hkb
      isplitl [HX3]; · iexact HX3
      iexact HX5
    ihave Hvb := (vb_join c (vAll m ρ c)) $$ [Hvb HX4 HX6]
    · isplitl [Hvb]; · iexact Hvb
      isplitl [HX4]; · iexact HX4
      iexact HX6
    sl_exec
    iapply Hk
    iframe HO HC23 Hp0 HF3 HF4 HF5 HF6 Hkb Hvb Hq Hb
    isplitl [Hc]
    · iexists (ctxM.view.writes (Elt F) fc (headOrder.map (pieceC (head1 m ρ c) 1)))
      isplitr
      · ipureintro; exact fun b => cwin_read m ρ c b 1 fc (head1 m ρ c) rfl
      · iexact Hc
    isplitl [Hwo]; · iexact Hwo
    iexists fp
    ihave Hp := (Entails.of_eq (p_third m ρ c fp _ ?hX)) $$ Hp
    case hX => refine Eq.trans ?_ (congrArg (fun w => View.write (Elt F) (pM.access (Rect.unit (s := S2x512x768) ![0, 256, 0] S1x256x768.size inb_S2x512x768_S1x256x768_0_256_0)) fp w Finset.univ) (p_second m ρ c _ rfl)); rfl
    iexact Hp

end Cert.KernelIdealProof
-- ==== Proof.ISegD.lean ====
/-
# The two exchanges

The second half of the partial product leaves; each half of the first partner's is added as it arrives and the sum sent to the
mirrored device; each half of the mirrored device's sum is added as it arrives.
-/
module

public import proofs.«01_k».proof.Proof.ISegC

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem lv19 (c : Dev nD) : ∀ x ∈ [(py c, (20 : Fin 28)), (py c, 22)], lvk 19 < lvk x.2 := by revert c; decide
theorem lv21 (c : Dev nD) : ∀ x ∈ [(py c, (22 : Fin 28))], lvk 21 < lvk x.2 := by revert c; decide
theorem lv_nil (k : Fin 28) (c : Dev nD) : ∀ x ∈ ([] : List (Dev nD × Fin 28)), lvk k < lvk x.2 := fun x hx => absurd hx List.not_mem_nil

/-- The windows of the sum of two partial products, and of the result. -/
abbrev sw (c : Dev nD) (b r : Fin 2) : Vec F S1x256x768 .bf16 := k0_pay82 (pwin (pAll m ρ c) b r) (pwin (pAll m ρ (px c)) b r)
abbrev ow (c : Dev nD) (b r : Fin 2) : Vec F S1x256x768 .f32 := k0_pay85 (pwin (s2All m ρ c) b r) (pwin (s2All m ρ (py c)) b r)

theorem pAll_half1 (c : Dev nD) (f X : Vec F S2x512x768 .bf16)
    (hX : X = pM.view.writes (Elt F) f ([((1 : Fin 2), (1 : Fin 2)), (0, 1)].map (pieceP (pw m ρ c)))) :
    mpt (h1 pM) c fullShare X = mpt (h1 pM) c fullShare (pAll m ρ c) := p_half1 c fullShare f (pw m ρ c) X hX
theorem s2All_half0 (c : Dev nD) (f X : Vec F S2x512x768 .bf16)
    (hX : X = s2M.view.writes (Elt F) f ([((1 : Fin 2), (0 : Fin 2)), (0, 0)].map (pieceP (sw m ρ c)))) :
    mpt (h0 s2M) c fullShare X = mpt (h0 s2M) c fullShare (s2All m ρ c) := s_half0 c fullShare f (sw m ρ c) X hX
theorem s2All_half1 (c : Dev nD) (f X : Vec F S2x512x768 .bf16)
    (hX : X = s2M.view.writes (Elt F) f ([((1 : Fin 2), (1 : Fin 2)), (0, 1)].map (pieceP (sw m ρ c)))) :
    mpt (h1 s2M) c fullShare X = mpt (h1 s2M) c fullShare (s2All m ρ c) := s_half1 c fullShare f (sw m ρ c) X hX

/-- The last window of the partial product, stored over the third. -/
theorem p_fourth (c : Dev nD) (fp fc : Vec F S2x512x768 .bf16) (fx : Vec F S2x512x512 .bf16) (hf : ∀ b, cwin fx b 1 = cwin (ctxAll m ρ c) b 1) :
    View.write (Elt F) (pM.access (Rect.unit (s := S2x512x768) ![1, 256, 0] S1x256x768.size inb_S2x512x768_S1x256x768_1_256_0))
      (View.write (Elt F) (pM.access (Rect.unit (s := S2x512x768) ![0, 256, 0] S1x256x768.size inb_S2x512x768_S1x256x768_0_256_0)) fp (pw m ρ c 0 1) Finset.univ)
      (k0_pay79 (k0_pay77 (woR m ρ c)) (ctxM.view.readAt (Elt F) (Rect.unit (s := S2x512x512) ![1, 256, 0] S1x256x512.size inb_S2x512x512_S1x256x512_1_256_0).toLoadRect fx)) Finset.univ
    = pM.view.writes (Elt F) fp ([((1 : Fin 2), (1 : Fin 2)), (0, 1)].map (pieceP (pw m ρ c))) := by
  have e1 := hf 1
  unfold woR; rw [wo_read]
  exact congrArg (fun u => View.write (Elt F) (pM.access (Rect.unit (s := S2x512x768) ![1, 256, 0] S1x256x768.size inb_S2x512x768_S1x256x768_1_256_0))
      (View.write (Elt F) (pM.access (Rect.unit (s := S2x512x768) ![0, 256, 0] S1x256x768.size inb_S2x512x768_S1x256x768_0_256_0)) fp (pw m ρ c 0 1) Finset.univ)
      (k0_pay79 (k0_pay77 (wostg m ρ c)) u) Finset.univ) e1

/-- The window of the sum loaded at the end of this stretch. -/
abbrev s2w (c : Dev nD) : Vec F S1x256x768 .bf16 :=
  s2M.view.readAt (Elt F) (Rect.unit (s := S2x512x768) ![1, 256, 0] S1x256x768.size inb_S2x512x768_S1x256x768_1_256_0).toLoadRect (s2All m ρ c)

set_option maxRecDepth 65536 in
set_option sl_exec.resultNames true in
/-- The fourth stretch: the two exchanges, and three of the four windows of the result. -/
theorem segD_wp (K : Dev nD × Fin 28 → ℕ) (c : Dev nD) (v2 : BitVec 32)
    (k : FVec F S256x768 .f32 → Prog (TpuEff nD τ sig (Elt F) Λ₀ .tc) PUnit) (Q : PUnit → sProp 𝕄) :
    iprop(recs m ρ K ∗ Ow c [(px c, 21), (py c, 20), (py c, 22)]
      ∗ Tok c (c, 24) ∗ Tok c (c, 25) ∗ Tok c (c, 26) ∗ Tok c (py c, 20) ∗ Tok c (px c, 21) ∗ Tok c (py c, 22)
      ∗ Cr c 19 ∗ Cr c 20 ∗ Cr c 21 ∗ Cr c 22 ∗ Pos c 19 ∗ Pos c 20 ∗ Pos c 21 ∗ Pos c 22
      ∗ mptE (h1 st1M) (px c) ∗ mptE (h0 st2M) (py c) ∗ mptE (h1 st2M) (py c)
      ∗ mpt (h0 pM) c rHalf (pAll m ρ c)
      ∗ (∃ fc : Vec F S2x512x512 .bf16, ⌜∀ b, cwin fc b 1 = cwin (ctxAll m ρ c) b 1⌝ ∗ mpt ctxM c fullShare fc)
      ∗ (∃ fp : Vec F S2x512x768 .bf16, mpt (h1 pM) c fullShare
              (View.write (Elt F) (pM.access (Rect.unit (s := S2x512x768) ![0, 256, 0] S1x256x768.size inb_S2x512x768_S1x256x768_0_256_0)) fp (pw m ρ c 0 1) Finset.univ))
      ∗ mptE (h0 s2M) c ∗ mptE (h1 s2M) c ∗ mptE outM c
      ∗ ((Ow c [] ∗ Cr c 24 ∗ Cr c 25 ∗ Cr c 26 ∗ Fin0 c 19 ∗ Fin0 c 20 ∗ Fin0 c 21 ∗ Fin0 c 22
          ∗ mpt (h0 pM) c rHalf (pAll m ρ c) ∗ mpt (h1 pM) c rHalf (pAll m ρ c)
          ∗ mpt (h0 s2M) c rHalf (s2All m ρ c) ∗ mpt (h1 s2M) c rHalf (s2All m ρ c)
          ∗ mptE ctxM c ∗ mptE (h0 st1M) c ∗ mptE (h1 st1M) c ∗ mptE (h0 st2M) c ∗ mpt (h1 st2M) c fullShare (s2All m ρ (py c))
          ∗ (∃ fo : Vec F S2x512x768 .f32, mpt outM c fullShare (outM.view.writes (Elt F) fo ([((0 : Fin 2), (1 : Fin 2)), (1, 0), (0, 0)].map (pieceP (ow m ρ c))))))
        -∗ wp frame (wpE (defs₀ (F := F)) 𝒱₀ (c : Thread nD τ) none) Set.univ (k (k0_pay88 (s2w m ρ c))) Q))
    ⊢ wp frame (wpE (defs₀ (F := F)) 𝒱₀ (c : Thread nD τ) none) Set.univ (segD c v2 (k0_pay77 (woR m ρ c)) k) Q := by
  unfold segD
  simp only [k0_part40_eq_skeleton, k0_part41_eq_skeleton, k0_part42_eq_skeleton, k0_part43_eq_skeleton, k0_part44_eq_skeleton]
  unfold mptE mpt
  iintro ⟨#HR, HO, Ht24, Ht25, Ht26, Hk20, Hk21, Hk22, HC19, HC20, HC21, HC22, HP19, HP20, HP21, HP22, Hd21, Hd20, Hd22,
    Hp0, ⟨%fx, %hf, Hc⟩, ⟨%fp, Hp⟩, ⟨%fs0, Hs0⟩, ⟨%fs1, Hs1⟩, ⟨%fo, Ho⟩, Hk⟩
  sl_exec
  ihave Hp := (Entails.of_eq (pAll_half1 m ρ c fp _ ?hX)) $$ Hp
  case hX => refine p_fourth m ρ c fp fp fx hf
  unfold mpt
  iapply (sendR m ρ K c 25 21 (dev23_eq c) (src := h1 pM) (dst := h1 st1M) rfl rfl (pAll m ρ c) (pAll m ρ (px (px c)))
    (payers_one c 25 (by decide)) (by rw [payers_px (px c) 21 (by decide), px_px]) (by unfold amt; rfl) (by unfold amt; rfl) rfl rfl
    (by rw [px_px]; rfl) [(py c, 20), (py c, 22)]) $$ [HO Ht25 Hk21 Hp Hd21]
  · isplitr; · iexact HR
    isplitl [Hp]; · iexact Hp
    isplitl [Hd21]; · unfold mptE; iexact Hd21
    iframe HO Ht25
    iexact Hk21
  iintro ⟨HC25, HO, Hp⟩
  sl_exec
  iapply (waitP m ρ K c 19 (px c) (payers_px c 19 (by decide)) rfl (by unfold amt; rfl) [(py c, 20), (py c, 22)] (lv19 c)
    ((h0 st1M).view.loc (c : Thread nD τ) ↦[(h0 st1M).view.set]{fullShare} pAll m ρ (px c)) rfl) $$ [HC19 HO HP19]
  · isplitr; · iexact HR
    iframe HC19 HO
    iexact HP19
  iintro ⟨HO, HF19, Hr0⟩
  sl_exec
  ihave Hs0 := (Entails.of_eq (s2All_half0 m ρ c fs0 _ ?hY)) $$ Hs0
  case hY => rfl
  unfold mpt
  iapply (sendR m ρ K c 24 20 (dev24_eq c) (src := h0 s2M) (dst := h0 st2M) rfl rfl (s2All m ρ c) (s2All m ρ (py (py c)))
    (payers_one c 24 (by decide)) (by rw [payers_py (py c) 20 (by decide), py_py]) (by unfold amt; rfl) (by unfold amt; rfl) rfl rfl
    (by rw [py_py]; rfl) [(py c, 22)]) $$ [HO Ht24 Hk20 Hs0 Hd20]
  · isplitr; · iexact HR
    isplitl [Hs0]; · iexact Hs0
    isplitl [Hd20]; · unfold mptE; iexact Hd20
    iframe HO Ht24
    iexact Hk20
  iintro ⟨HC24, HO, Hs0⟩
  sl_exec
  iapply (waitP m ρ K c 21 (px c) (payers_px c 21 (by decide)) rfl (by unfold amt; rfl) [(py c, 22)] (lv21 c)
    ((h1 st1M).view.loc (c : Thread nD τ) ↦[(h1 st1M).view.set]{fullShare} pAll m ρ (px c)) rfl) $$ [HC21 HO HP21]
  · isplitr; · iexact HR
    iframe HC21 HO
    iexact HP21
  iintro ⟨HO, HF21, Hr1⟩
  sl_exec
  ihave Hs1 := (Entails.of_eq (s2All_half1 m ρ c fs1 _ ?hZ)) $$ Hs1
  case hZ => rfl
  unfold mpt
  iapply (sendR m ρ K c 26 22 (dev25_eq c) (src := h1 s2M) (dst := h1 st2M) rfl rfl (s2All m ρ c) (s2All m ρ (py (py c)))
    (payers_one c 26 (by decide)) (by rw [payers_py (py c) 22 (by decide), py_py]) (by unfold amt; rfl) (by unfold amt; rfl) rfl rfl
    (by rw [py_py]; rfl) []) $$ [HO Ht26 Hk22 Hs1 Hd22]
  · isplitr; · iexact HR
    isplitl [Hs1]; · iexact Hs1
    isplitl [Hd22]; · unfold mptE; iexact Hd22
    iframe HO Ht26
    iexact Hk22
  iintro ⟨HC26, HO, Hs1⟩
  sl_exec
  iapply (waitP m ρ K c 20 (py c) (payers_py c 20 (by decide)) rfl (by unfold amt; rfl) [] (lv_nil 20 c)
    ((h0 st2M).view.loc (c : Thread nD τ) ↦[(h0 st2M).view.set]{fullShare} s2All m ρ (py c)) rfl) $$ [HC20 HO HP20]
  · isplitr; · iexact HR
    iframe HC20 HO
    iexact HP20
  iintro ⟨HO, HF20, Hq0⟩
  sl_exec
  iapply (waitP m ρ K c 22 (py c) (payers_py c 22 (by decide)) rfl (by unfold amt; rfl) [] (lv_nil 22 c)
    ((h1 st2M).view.loc (c : Thread nD τ) ↦[(h1 st2M).view.set]{fullShare} s2All m ρ (py c)) rfl) $$ [HC22 HO HP22]
  · isplitr; · iexact HR
    iframe HC22 HO
    iexact HP22
  iintro ⟨HO, HF22, Hq1⟩
  sl_exec
  iapply Hk
  iframe HO HC24 HC25 HC26 HF19 HF20 HF21 HF22 Hp0 Hp Hs0 Hs1
  isplitl [Hc]; · iexists _; iexact Hc
  isplitl [Hr0]; · iexists _; iexact Hr0
  isplitl [Hr1]; · iexists _; iexact Hr1
  isplitl [Hq0]; · iexists _; iexact Hq0
  isplitl [Hq1]; · iexact Hq1
  iexists fo
  iexact Ho

end Cert.KernelIdealProof
-- ==== Proof.ISegE.lean ====
/-
# The last window and the waits for the departures

Every copy out of a buffer of this device is awaited, so the buffers are whole again when the kernel returns.
-/
module

public import proofs.«01_k».proof.Proof.ISegD

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The departures of keys and values, before and after they are awaited. -/
def Deps (c : Dev nD) : sProp 𝕄 := iprop(Dep c 7 ∗ Dep c 8 ∗ Dep c 9 ∗ Dep c 10 ∗ Dep c 11 ∗ Dep c 12 ∗ Dep c 13 ∗ Dep c 14 ∗ Dep c 15 ∗ Dep c 16 ∗ Dep c 17 ∗ Dep c 18)
def DepsD (c : Dev nD) : sProp 𝕄 := iprop(DepD m ρ c 7 ∗ DepD m ρ c 8 ∗ DepD m ρ c 9 ∗ DepD m ρ c 10 ∗ DepD m ρ c 11 ∗ DepD m ρ c 12 ∗ DepD m ρ c 13 ∗ DepD m ρ c 14 ∗ DepD m ρ c 15 ∗ DepD m ρ c 16 ∗ DepD m ρ c 17 ∗ DepD m ρ c 18)

/-- A device that holds no keys or values sends none; device 1 sends none on these. -/
theorem payers_none (c : Dev nD) (h0 : c ≠ 0) (h1 : c ≠ 1) (k : Fin 28) (h : 7 ≤ k.val ∧ k.val ≤ 18) : payers c k = ∅ := by
  unfold payers
  rw [if_neg (by omega), if_neg (by omega), if_neg (by omega), if_pos (by omega), if_neg h0, if_neg fun e => h1 e.1]

/-- The result from its four windows. -/
theorem out_done (c : Dev nD) (f X : Vec F S2x512x768 .f32)
    (hX : X = outM.view.writes (Elt F) f ([((1 : Fin 2), (1 : Fin 2)), (0, 1), (1, 0), (0, 0)].map (pieceP (ow m ρ c)))) :
    mpt outM c fullShare X = mpt outM c fullShare (outAll m ρ c) := by
  refine pointsTo_congr fun i hi => ?_
  obtain ⟨x, -, rfl⟩ := Finset.mem_map.mp hi
  have hall : ∀ b r : Fin 2, (b, r) ∈ [((1 : Fin 2), (1 : Fin 2)), (0, 1), (1, 0), (0, 0)] := by decide
  have h := writes_windows outM.view f (ow m ρ c) [((1 : Fin 2), (1 : Fin 2)), (0, 1), (1, 0), (0, 0)] x (hall _ _)
  rw [← hX] at h
  exact h

set_option maxRecDepth 65536 in
set_option sl_exec.resultNames true in
/-- The last stretch: the result is complete and all departures but the last are awaited. -/
theorem segE_wp (K : Dev nD × Fin 28 → ℕ) (c : Dev nD) (v2 : BitVec 32)
    (h6 : Scalar.cmpi .ne (Scalar.extui (Scalar.cmpi .eq v2 0#32) : BitVec 32) 0#32 = 1#1 ↔ c = 0)
    (h7 : Scalar.cmpi .ne (Scalar.extui (Scalar.cmpi .eq v2 1#32) : BitVec 32) 0#32 = 1#1 ↔ c = 1) (Q : PUnit → sProp 𝕄) :
    iprop(recs m ρ K ∗ Ow c [] ∗ Deps c ∗ Cr c 23 ∗ Cr c 24 ∗ Cr c 25 ∗ Pos c 23 ∗ Pos c 24 ∗ Pos c 25
      ∗ mpt (h1 st2M) c fullShare (s2All m ρ (py c))
      ∗ (∃ fo : Vec F S2x512x768 .f32, mpt outM c fullShare (outM.view.writes (Elt F) fo ([((0 : Fin 2), (1 : Fin 2)), (1, 0), (0, 0)].map (pieceP (ow m ρ c)))))
      ∗ ((Ow c [] ∗ DepsD m ρ c ∗ Fin0 c 23 ∗ Fin0 c 24 ∗ Fin0 c 25
          ∗ mpt (h0 pM) c qHalf (pAll m ρ c) ∗ mpt (h0 s2M) c qHalf (s2All m ρ c) ∗ mpt (h1 pM) c qHalf (pAll m ρ c)
          ∗ mptE (h1 st2M) c ∗ mpt outM c fullShare (outAll m ρ c)) -∗ Q ⟨⟩))
    ⊢ wp frame (wpE (defs₀ (F := F)) 𝒱₀ (c : Thread nD τ) none) Set.univ (segE v2 (k0_pay88 (s2w m ρ c))) Q := by
  unfold segE Deps DepsD
  simp only [k0_part45_eq_skeleton, k0_part7_eq_skeleton, k0_part8_eq_skeleton, k0_part9_eq_skeleton, k0_part10_eq_skeleton]
  unfold mptE mpt
  iintro ⟨#HR, HO, ⟨H7, H8, H9, H10, H11, H12, H13, H14, H15, H16, H17, H18⟩, HC23, HC24, HC25, HP23, HP24, HP25, Hq, ⟨%fo, Ho⟩, Hk⟩
  have hdisj : c = 0 ∨ c = 1 ∨ (c ≠ 0 ∧ c ≠ 1) := by
    by_cases a : c = 0
    · exact Or.inl a
    · by_cases b : c = 1
      · exact Or.inr (Or.inl b)
      · exact Or.inr (Or.inr ⟨a, b⟩)
  rcases hdisj with hc | hc | ⟨hc, hd⟩
  on_goal 1 =>
    have hC := h6.mpr hc
    have hD : ¬ (Scalar.cmpi .ne (Scalar.extui (Scalar.cmpi .eq v2 1#32) : BitVec 32) 0#32 = 1#1) := fun h => absurd (h7.mp h) (by rw [hc]; decide)
    sl_exec
    iapply (waitS m ρ K c 7 (by rw [hc]; decide) rfl (by rw [hc]; decide)) $$ [H7 HO]
    · isplitr; · iexact HR
      isplitl [H7]; · iexact H7
      iexact HO
    iintro ⟨HO, H7⟩
    sl_exec
    iapply (waitS m ρ K c 9 (by rw [hc]; decide) rfl (by rw [hc]; decide)) $$ [H9 HO]
    · isplitr; · iexact HR
      isplitl [H9]; · iexact H9
      iexact HO
    iintro ⟨HO, H9⟩
    sl_exec
    iapply (waitS m ρ K c 8 (by rw [hc]; decide) rfl (by rw [hc]; decide)) $$ [H8 HO]
    · isplitr; · iexact HR
      isplitl [H8]; · iexact H8
      iexact HO
    iintro ⟨HO, H8⟩
    sl_exec
    iapply (waitS m ρ K c 10 (by rw [hc]; decide) rfl (by rw [hc]; decide)) $$ [H10 HO]
    · isplitr; · iexact HR
      isplitl [H10]; · iexact H10
      iexact HO
    iintro ⟨HO, H10⟩
    sl_exec
    iapply (waitS m ρ K c 11 (by rw [hc]; decide) rfl (by rw [hc]; decide)) $$ [H11 HO]
    · isplitr; · iexact HR
      isplitl [H11]; · iexact H11
      iexact HO
    iintro ⟨HO, H11⟩
    sl_exec
    iapply (waitS m ρ K c 13 (by rw [hc]; decide) rfl (by rw [hc]; decide)) $$ [H13 HO]
    · isplitr; · iexact HR
      isplitl [H13]; · iexact H13
      iexact HO
    iintro ⟨HO, H13⟩
    sl_exec
    iapply (waitS m ρ K c 12 (by rw [hc]; decide) rfl (by rw [hc]; decide)) $$ [H12 HO]
    · isplitr; · iexact HR
      isplitl [H12]; · iexact H12
      iexact HO
    iintro ⟨HO, H12⟩
    sl_exec
    iapply (waitS m ρ K c 14 (by rw [hc]; decide) rfl (by rw [hc]; decide)) $$ [H14 HO]
    · isplitr; · iexact HR
      isplitl [H14]; · iexact H14
      iexact HO
    iintro ⟨HO, H14⟩
    sl_exec
    iapply (waitS m ρ K c 15 (by rw [hc]; decide) rfl (by rw [hc]; decide)) $$ [H15 HO]
    · isplitr; · iexact HR
      isplitl [H15]; · iexact H15
      iexact HO
    iintro ⟨HO, H15⟩
    sl_exec
    iapply (waitS m ρ K c 17 (by rw [hc]; decide) rfl (by rw [hc]; decide)) $$ [H17 HO]
    · isplitr; · iexact HR
      isplitl [H17]; · iexact H17
      iexact HO
    iintro ⟨HO, H17⟩
    sl_exec
    iapply (waitS m ρ K c 16 (by rw [hc]; decide) rfl (by rw [hc]; decide)) $$ [H16 HO]
    · isplitr; · iexact HR
      isplitl [H16]; · iexact H16
      iexact HO
    iintro ⟨HO, H16⟩
    sl_exec
    iapply (waitS m ρ K c 18 (by rw [hc]; decide) rfl (by rw [hc]; decide)) $$ [H18 HO]
    · isplitr; · iexact HR
      isplitl [H18]; · iexact H18
      iexact HO
    iintro ⟨HO, H18⟩
    sl_exec
  on_goal 2 =>
    have hC : ¬ (Scalar.cmpi .ne (Scalar.extui (Scalar.cmpi .eq v2 0#32) : BitVec 32) 0#32 = 1#1) := fun h => absurd (h6.mp h) (by rw [hc]; decide)
    have hD := h7.mpr hc
    ihave H9 := (Entails.of_eq (dep_none m ρ c 9 (by rw [hc]; decide))) $$ H9
    ihave H10 := (Entails.of_eq (dep_none m ρ c 10 (by rw [hc]; decide))) $$ H10
    ihave H13 := (Entails.of_eq (dep_none m ρ c 13 (by rw [hc]; decide))) $$ H13
    ihave H14 := (Entails.of_eq (dep_none m ρ c 14 (by rw [hc]; decide))) $$ H14
    ihave H17 := (Entails.of_eq (dep_none m ρ c 17 (by rw [hc]; decide))) $$ H17
    ihave H18 := (Entails.of_eq (dep_none m ρ c 18 (by rw [hc]; decide))) $$ H18
    sl_exec
    iapply (waitS m ρ K c 7 (by rw [hc]; decide) rfl (by rw [hc]; decide)) $$ [H7 HO]
    · isplitr; · iexact HR
      isplitl [H7]; · iexact H7
      iexact HO
    iintro ⟨HO, H7⟩
    sl_exec
    iapply (waitS m ρ K c 8 (by rw [hc]; decide) rfl (by rw [hc]; decide)) $$ [H8 HO]
    · isplitr; · iexact HR
      isplitl [H8]; · iexact H8
      iexact HO
    iintro ⟨HO, H8⟩
    sl_exec
    iapply (waitS m ρ K c 11 (by rw [hc]; decide) rfl (by rw [hc]; decide)) $$ [H11 HO]
    · isplitr; · iexact HR
      isplitl [H11]; · iexact H11
      iexact HO
    iintro ⟨HO, H11⟩
    sl_exec
    iapply (waitS m ρ K c 12 (by rw [hc]; decide) rfl (by rw [hc]; decide)) $$ [H12 HO]
    · isplitr; · iexact HR
      isplitl [H12]; · iexact H12
      iexact HO
    iintro ⟨HO, H12⟩
    sl_exec
    iapply (waitS m ρ K c 15 (by rw [hc]; decide) rfl (by rw [hc]; decide)) $$ [H15 HO]
    · isplitr; · iexact HR
      isplitl [H15]; · iexact H15
      iexact HO
    iintro ⟨HO, H15⟩
    sl_exec
    iapply (waitS m ρ K c 16 (by rw [hc]; decide) rfl (by rw [hc]; decide)) $$ [H16 HO]
    · isplitr; · iexact HR
      isplitl [H16]; · iexact H16
      iexact HO
    iintro ⟨HO, H16⟩
    sl_exec
  on_goal 3 =>
    have hC : ¬ (Scalar.cmpi .ne (Scalar.extui (Scalar.cmpi .eq v2 0#32) : BitVec 32) 0#32 = 1#1) := fun h => hc (h6.mp h)
    have hD : ¬ (Scalar.cmpi .ne (Scalar.extui (Scalar.cmpi .eq v2 1#32) : BitVec 32) 0#32 = 1#1) := fun h => hd (h7.mp h)
    ihave H7 := (Entails.of_eq (dep_none m ρ c 7 (payers_none c hc hd 7 (by decide)))) $$ H7
    ihave H8 := (Entails.of_eq (dep_none m ρ c 8 (payers_none c hc hd 8 (by decide)))) $$ H8
    ihave H9 := (Entails.of_eq (dep_none m ρ c 9 (payers_none c hc hd 9 (by decide)))) $$ H9
    ihave H10 := (Entails.of_eq (dep_none m ρ c 10 (payers_none c hc hd 10 (by decide)))) $$ H10
    ihave H11 := (Entails.of_eq (dep_none m ρ c 11 (payers_none c hc hd 11 (by decide)))) $$ H11
    ihave H12 := (Entails.of_eq (dep_none m ρ c 12 (payers_none c hc hd 12 (by decide)))) $$ H12
    ihave H13 := (Entails.of_eq (dep_none m ρ c 13 (payers_none c hc hd 13 (by decide)))) $$ H13
    ihave H14 := (Entails.of_eq (dep_none m ρ c 14 (payers_none c hc hd 14 (by decide)))) $$ H14
    ihave H15 := (Entails.of_eq (dep_none m ρ c 15 (payers_none c hc hd 15 (by decide)))) $$ H15
    ihave H16 := (Entails.of_eq (dep_none m ρ c 16 (payers_none c hc hd 16 (by decide)))) $$ H16
    ihave H17 := (Entails.of_eq (dep_none m ρ c 17 (payers_none c hc hd 17 (by decide)))) $$ H17
    ihave H18 := (Entails.of_eq (dep_none m ρ c 18 (payers_none c hc hd 18 (by decide)))) $$ H18
    sl_exec
  all_goals
    iapply (waitP m ρ K c 23 c (payers_one c 23 (by decide)) rfl (by unfold amt; rfl) [] (lv_nil 23 c)
      ((h0 pM).view.loc (c : Thread nD τ) ↦[(h0 pM).view.set]{qHalf} pAll m ρ c) rfl) $$ [HC23 HO HP23]
    · isplitr; · iexact HR
      iframe HC23 HO
      iexact HP23
    iintro ⟨HO, HF23, Hp0⟩
    sl_exec
    iapply (waitP m ρ K c 24 c (payers_one c 24 (by decide)) rfl (by unfold amt; rfl) [] (lv_nil 24 c)
      ((h0 s2M).view.loc (c : Thread nD τ) ↦[(h0 s2M).view.set]{qHalf} s2All m ρ c) rfl) $$ [HC24 HO HP24]
    · isplitr; · iexact HR
      iframe HC24 HO
      iexact HP24
    iintro ⟨HO, HF24, Hs0⟩
    sl_exec
    iapply (waitP m ρ K c 25 c (payers_one c 25 (by decide)) rfl (by unfold amt; rfl) [] (lv_nil 25 c)
      ((h1 pM).view.loc (c : Thread nD τ) ↦[(h1 pM).view.set]{qHalf} pAll m ρ c) rfl) $$ [HC25 HO HP25]
    · isplitr; · iexact HR
      iframe HC25 HO
      iexact HP25
    iintro ⟨HO, HF25, Hp1⟩
    sl_exec
    iapply (Entails.of_eq (wp_ret (Fr := frame) (wpE := wpE (defs₀ (F := F)) 𝒱₀ (c : Thread nD τ) none) (E := Set.univ) (PUnit.unit : PUnit) Q).symm)
    imodintro
    iapply Hk
    isplitl [HO]; · iexact HO
    isplitl [H7 H8 H9 H10 H11 H12 H13 H14 H15 H16 H17 H18]
    · isplitl [H7]; · iexact H7
      iframe H8 H9 H10 H11 H12 H13 H14 H15 H16 H17
      iexact H18
    iframe HF23 HF24 HF25 Hp0 Hs0 Hp1
    isplitl [Hq]; · iexists _; iexact Hq
    ihave Ho := (Entails.of_eq (out_done m ρ c fo _ ?hX)) $$ Ho
    case hX => rfl
    iexact Ho

end Cert.KernelIdealProof
-- ==== Proof.IBar.lean ====
/-
# The barrier

What a device hands each of the others before it lets them write into its buffers, and what it gets from them.
-/
module

public import proofs.«01_k».proof.Proof.ISegE

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The first 512 rows of a key or value buffer, which device 0 fills itself. -/
abbrev bL (b : Memref sig .tc .vmem S2x640x512 .bf16) : Memref sig .tc .vmem S2x512x512 .bf16 :=
  b.slice (Rect.unit (s := S2x640x512) ![0, 0, 0] S2x512x512.size inb_S2x640x512_S2x512x512_0_0_0) (fun _ => rfl)

/-- What device `p` lets device 0, device 1 write of its key and value buffers. -/
def give0 (p : Dev nD) : sProp 𝕄 := iprop(mptE (F := F) (bA kbM) p ∗ mptE (F := F) (bA vbM) p ∗ mptE (F := F) (bB kbM) p ∗ mptE (F := F) (bB vbM) p)
def give1 (p : Dev nD) : sProp 𝕄 := iprop(mptE (F := F) (bC kbM) p ∗ mptE (F := F) (bC vbM) p)
/-- The landing buffers for the two exchanges. -/
def land1 (p : Dev nD) : sProp 𝕄 := iprop(mptE (F := F) (h0 st1M) p ∗ mptE (F := F) (h1 st1M) p)
def land2 (p : Dev nD) : sProp 𝕄 := iprop(mptE (F := F) (h0 st2M) p ∗ mptE (F := F) (h1 st2M) p)

theorem barPay_eq (c p : Dev nD) : barPay (F := F) c p = iprop((if c = 0 then give0 p else iprop(emp)) ∗ (if c = 1 then give1 p else iprop(emp))
    ∗ (if c = px p then land1 p else iprop(emp)) ∗ (if c = py p then land2 p else iprop(emp))) := rfl

/-- What a device gives at the barrier, dealt out to the other three. -/
theorem bar_split (p : Dev nD) : iprop((if p = 0 then iprop(emp) else give0 p) ∗ (if p = 1 then iprop(emp) else give1 p) ∗ land1 p ∗ land2 p)
    ⊢ (iprop(barPay (p + 1) p ∗ barPay (p + 2) p ∗ barPay (p + 3) p) : sProp 𝕄) := by
  rw [barPay_eq, barPay_eq, barPay_eq]
  fin_cases p
  all_goals
    simp (config := { decide := true }) only [reduceIte]
    iintro ⟨H0, H1, H2, H3⟩
    iframe H0 H1 H2 H3
    repeat (isplitr; · itrivial)
    itrivial

theorem pay_bar (c p : Dev nD) : pay m ρ c 0 p = barPay (F := F) c p := rfl

theorem bar_payers (p a b d : Dev nD) (h : payers p 0 = {a, b, d}) (h1 : a ∉ ({b, d} : Finset (Dev nD))) (h2 : b ∉ ({d} : Finset (Dev nD))) :
    (bigSep (payers p 0) fun q => pay m ρ p 0 q) ⊢ (iprop(barPay p a ∗ barPay p b ∗ barPay p d) : sProp 𝕄) := by
  rw [h, bigSep_insert h1, bigSep_insert h2, bigSep_singleton]
  exact BI.Entails.refl _

/-- What device `p` has from the other three once all have signalled. -/
theorem bar_recv (p : Dev nD) : (bigSep (payers p 0) fun q => pay m ρ p 0 q)
    ⊢ (iprop((if p = 0 then iprop(give0 1 ∗ give0 2 ∗ give0 3) else iprop(emp)) ∗ (if p = 1 then iprop(give1 0 ∗ give1 2 ∗ give1 3) else iprop(emp))
        ∗ land1 (px p) ∗ land2 (py p)) : sProp 𝕄) := by
  fin_cases p
  on_goal 1 => refine (bar_payers m ρ _ 1 2 3 (by decide) (by decide) (by decide)).trans ?_
  on_goal 2 => refine (bar_payers m ρ _ 0 2 3 (by decide) (by decide) (by decide)).trans ?_
  on_goal 3 => refine (bar_payers m ρ _ 0 1 3 (by decide) (by decide) (by decide)).trans ?_
  on_goal 4 => refine (bar_payers m ρ _ 0 1 2 (by decide) (by decide) (by decide)).trans ?_
  all_goals
    rw [barPay_eq, barPay_eq, barPay_eq]
    simp (config := { decide := true }) only [reduceIte]
    iintro ⟨⟨A0, A1, A2, A3⟩, ⟨B0, B1, B2, B3⟩, C0, C1, C2, C3⟩
  · isplitl [A0 B0 C0]; · iframe A0 B0 C0
    isplitr; · itrivial
    isplitl [A2]; · iexact A2
    iexact C3
  · isplitr; · itrivial
    isplitl [A1 B1 C1]; · iframe A1 B1 C1
    isplitl [A2]; · iexact A2
    iexact B3
  · isplitr; · itrivial
    isplitr; · itrivial
    isplitl [C2]; · iexact C2
    iexact B3
  · isplitr; · itrivial
    isplitr; · itrivial
    isplitl [C2]; · iexact C2
    iexact A3

/-! ## A send of keys or values, and cells that carry nothing -/

/-- A send of a piece of a staging buffer. -/
theorem sendK (K : Dev nD × Fin 28 → ℕ) (c : Dev nD) {α : Type} {Q : α → sProp 𝕄} {s : Shape} {n c' : Dev nD} (ks kr : Fin 28) (hn : n = c')
    {src : Memref sig .tc .vmem s .bf16} {dst : Memref sig .tc .vmem s .bf16}
    {hsc : (dst : Memref sig (Dev.tc n : Thread nD τ).2.kind .vmem s .bf16).view.ref.isScScratch = false}
    {sS sem : DmaSem sig} (hsS : SemLoc.dma sS = csem ks) (hsm : SemLoc.dma sem = csem kr)
    {hsrc : src.view.WordExact} {hdst : dst.view.WordExact}
    {hsem : DmaTarget.Typed .vmem (.dma sem) (.remote (Dev.tc n : Thread nD τ) dst (.dma sS) hsc)}
    {k : PUnit → Prog (TpuEff nD τ sig (Elt F) Λ₀ .tc) α}
    (T : Buf (Elt F) (src.view.loc (c : Thread nD τ))) (T' : Buf (Elt F) (dst.view.loc (c' : Thread nD τ)))
    (hm₁ : payers c ks = {c}) (hm₂ : payers c' kr = {c})
    (ha₁ : amt c ks = dst.view.dmaCredit) (ha₂ : amt c' kr = dst.view.dmaCredit)
    (hp₁ : pay m ρ c ks c = mptE src c) (hp₂ : pay m ρ c' kr c = mpt dst c' fullShare T')
    (hT : src.view.read (Elt F) T = dst.view.read (Elt F) T') (l : List (Dev nD × Fin 28)) :
    iprop(recs m ρ K ∗ mpt src c fullShare T ∗ mptE dst c' ∗ Ow c ((c', kr) :: l) ∗ Tok c (c', kr) ∗ Tok c (c, ks) ∗ Pos c ks)
      ⊢ iprop(((Dep c ks ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hsem) k) Q) := by
  have hne : payers c ks ≠ ∅ := by rw [hm₁]; exact Finset.singleton_ne_empty c
  have h₁ : mpt src c fullShare T ⊢ pay m ρ c ks c := by rw [hp₁]; unfold mptE; iintro H; iexists T; iexact H
  unfold Dep
  rw [if_neg hne]
  unfold mptE
  iintro ⟨#HR, Hs, ⟨%fd, Hd⟩, HO, Ht2, Ht1, HP⟩ Hk
  iapply (sendG m ρ K c ks kr hn hsS hsm (k := k) fullShare T fd hm₁ (by rw [hm₂]; exact Finset.mem_singleton_self _) ha₁ ha₂ l
    h₁ (by rw [hp₂]; exact Entails.of_eq (landed_eq src dst c c' fullShare T fd T' hT))) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨HC, HO⟩
  iapply Hk
  isplitl [HC HP]
  · isplitl [HC]; · iexact HC
    iexact HP
  iexact HO

/-- A departure that never happens. -/
theorem closeDep (K : Dev nD × Fin 28 → ℕ) (c : Dev nD) (k : Fin 28) (h : payers c k = ∅) : iprop(recs m ρ K ∗ Pos c k) ⊢ (|={Set.univ}=> Dep c k : sProp 𝕄) := by
  unfold Dep; rw [if_pos h]; exact closeG m ρ K c k h
/-- An arrival that never happens: the rows are here. -/
theorem closeArr (K : Dev nD × Fin 28 → ℕ) (c : Dev nD) (k : Fin 28) (h : payers c k = ∅) :
    iprop(recs m ρ K ∗ Pos c k ∗ pay m ρ c k 0) ⊢ (|={Set.univ}=> Arr m ρ c k : sProp 𝕄) := by
  rw [arr_here m ρ c k h]
  iintro ⟨HR, HP, HY⟩
  imod (closeG m ρ K c k h) $$ [HR HP] with HF
  · isplitl [HR]; · iexact HR
    iexact HP
  imodintro
  isplitl [HF]; · iexact HF
  iexact HY

end Cert.KernelIdealProof
-- ==== Proof.IStg.lean ====
/-
# The buffers before the kernel's sums

The staging buffers' pieces, taken out to be sent and put back; the halves of the partial-sum buffers; what the first stores
leave in the buffers.
-/
module

public import proofs.«01_k».proof.Proof.IBar

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The pieces of a staging buffer as the kernel names them: device 0's for devices 1, 2, 3 and for itself, device 1's. -/
abbrev sA1 (b : Memref sig .tc .vmem S2x512x2048 .bf16) : Memref sig .tc .vmem S2x384x512 .bf16 :=
  b.slice (Rect.unit (s := S2x512x2048) ![0, 0, 512] S2x384x512.size inb_S2x512x2048_S2x384x512_0_0_512) (fun _ => rfl)
abbrev sA2 (b : Memref sig .tc .vmem S2x512x2048 .bf16) : Memref sig .tc .vmem S2x384x512 .bf16 :=
  b.slice (Rect.unit (s := S2x512x2048) ![0, 0, 1024] S2x384x512.size inb_S2x512x2048_S2x384x512_0_0_1024) (fun _ => rfl)
abbrev sA3 (b : Memref sig .tc .vmem S2x512x2048 .bf16) : Memref sig .tc .vmem S2x384x512 .bf16 :=
  b.slice (Rect.unit (s := S2x512x2048) ![0, 0, 1536] S2x384x512.size inb_S2x512x2048_S2x384x512_0_0_1536) (fun _ => rfl)
abbrev sB1 (b : Memref sig .tc .vmem S2x512x2048 .bf16) : Memref sig .tc .vmem S2x128x512 .bf16 :=
  b.slice (Rect.unit (s := S2x512x2048) ![0, 384, 512] S2x128x512.size inb_S2x512x2048_S2x128x512_0_384_512) (fun _ => rfl)
abbrev sB2 (b : Memref sig .tc .vmem S2x512x2048 .bf16) : Memref sig .tc .vmem S2x128x512 .bf16 :=
  b.slice (Rect.unit (s := S2x512x2048) ![0, 384, 1024] S2x128x512.size inb_S2x512x2048_S2x128x512_0_384_1024) (fun _ => rfl)
abbrev sB3 (b : Memref sig .tc .vmem S2x512x2048 .bf16) : Memref sig .tc .vmem S2x128x512 .bf16 :=
  b.slice (Rect.unit (s := S2x512x2048) ![0, 384, 1536] S2x128x512.size inb_S2x512x2048_S2x128x512_0_384_1536) (fun _ => rfl)
abbrev sL (b : Memref sig .tc .vmem S2x512x2048 .bf16) : Memref sig .tc .vmem S2x512x512 .bf16 :=
  b.slice (Rect.unit (s := S2x512x2048) ![0, 0, 0] S2x512x512.size inb_S2x512x2048_S2x512x512_0_0_0) (fun _ => rfl)
abbrev sC0 (b : Memref sig .tc .vmem S2x512x2048 .bf16) : Memref sig .tc .vmem S2x128x512 .bf16 :=
  b.slice (Rect.unit (s := S2x512x2048) ![0, 0, 0] S2x128x512.size inb_S2x512x2048_S2x128x512_0_0_0) (fun _ => rfl)
abbrev sC1 (b : Memref sig .tc .vmem S2x512x2048 .bf16) : Memref sig .tc .vmem S2x128x512 .bf16 :=
  b.slice (Rect.unit (s := S2x512x2048) ![0, 0, 512] S2x128x512.size inb_S2x512x2048_S2x128x512_0_0_512) (fun _ => rfl)
abbrev sC2 (b : Memref sig .tc .vmem S2x512x2048 .bf16) : Memref sig .tc .vmem S2x128x512 .bf16 :=
  b.slice (Rect.unit (s := S2x512x2048) ![0, 0, 1024] S2x128x512.size inb_S2x512x2048_S2x128x512_0_0_1024) (fun _ => rfl)
abbrev sC3 (b : Memref sig .tc .vmem S2x512x2048 .bf16) : Memref sig .tc .vmem S2x128x512 .bf16 :=
  b.slice (Rect.unit (s := S2x512x2048) ![0, 0, 1536] S2x128x512.size inb_S2x512x2048_S2x128x512_0_0_1536) (fun _ => rfl)

abbrev stL0 : List (Finset S2x512x2048.Idx) :=
  [(sA ksM 1).view.set, (sA ksM 2).view.set, (sA ksM 3).view.set, (sB ksM 1).view.set, (sB ksM 2).view.set, (sB ksM 3).view.set, (sL ksM).view.set]
abbrev stL1 : List (Finset S2x512x2048.Idx) := [(sC ksM 0).view.set, (sC ksM 2).view.set, (sC ksM 3).view.set, (sC ksM 1).view.set]
theorem sep_AL {d : Fin 4} (h : 0 < d.val) : Disjoint (sA ksM d).view.set (sL ksM).view.set := by
  rw [View.set_slice_whole, View.set_slice_whole]
  refine Rect.disjoint_of_axis _ _ 2 fun j₁ h₁ j₂ h₂ e => ?_
  have h₂' : j₂ < 512 := h₂; have e' : 512 * d.val + 1 * j₁ = 0 + 1 * j₂ := e
  omega
theorem sep_BL {d : Fin 4} (h : 0 < d.val) : Disjoint (sB ksM d).view.set (sL ksM).view.set := by
  rw [View.set_slice_whole, View.set_slice_whole]
  refine Rect.disjoint_of_axis _ _ 2 fun j₁ h₁ j₂ h₂ e => ?_
  have h₂' : j₂ < 512 := h₂; have e' : 512 * d.val + 1 * j₁ = 0 + 1 * j₂ := e
  omega
theorem stL0_sep : stL0.Pairwise Disjoint := by
  simp only [List.pairwise_cons, List.mem_cons, List.not_mem_nil, or_false, forall_eq_or_imp, forall_eq, IsEmpty.forall_iff, implies_true, and_true, List.Pairwise.nil]
  exact ⟨⟨sep_AA (by decide), sep_AA (by decide), sep_AB _ _, sep_AB _ _, sep_AB _ _, sep_AL (by decide)⟩, ⟨sep_AA (by decide), sep_AB _ _, sep_AB _ _, sep_AB _ _, sep_AL (by decide)⟩,
    ⟨sep_AB _ _, sep_AB _ _, sep_AB _ _, sep_AL (by decide)⟩, ⟨sep_BB (by decide), sep_BB (by decide), sep_BL (by decide)⟩, ⟨sep_BB (by decide), sep_BL (by decide)⟩, sep_BL (by decide)⟩
theorem stL1_sep : stL1.Pairwise Disjoint := by
  simp only [List.pairwise_cons, List.mem_cons, List.not_mem_nil, or_false, forall_eq_or_imp, forall_eq, IsEmpty.forall_iff, implies_true, and_true, List.Pairwise.nil]
  exact ⟨⟨sep_CC (by decide), sep_CC (by decide), sep_CC (by decide)⟩, ⟨sep_CC (by decide), sep_CC (by decide)⟩, sep_CC (by decide)⟩

/-- What no piece covers. -/
def stRest (l : List (Finset S2x512x2048.Idx)) : Finset S2x512x2048.Idx := l.foldl (fun S T => S \ T) Finset.univ

/-- A staging buffer in its pieces, and back. -/
theorem ks_split0 (c : Dev nD) (f : Vec F S2x512x2048 .bf16) : mpt ksM c fullShare f
    ⊢ (iprop(mpt (sA1 ksM) c fullShare f ∗ mpt (sA2 ksM) c fullShare f ∗ mpt (sA3 ksM) c fullShare f ∗ mpt (sB1 ksM) c fullShare f ∗ mpt (sB2 ksM) c fullShare f ∗ mpt (sB3 ksM) c fullShare f ∗ mpt (sL ksM) c fullShare f
      ∗ (ksM.view.loc (c : Thread nD τ) ↦[stRest stL0]{fullShare} f)) : sProp 𝕄) := by
  have e : ksM.view.set = Finset.univ := View.set_whole _
  unfold mpt; rw [e]
  exact carve (ℓ := ksM.view.loc (c : Thread nD τ)) f stL0 Finset.univ stL0_sep (fun _ _ => Finset.subset_univ _)
theorem ks_join0 (c : Dev nD) :
    iprop(mptE (F := F) (sA ksM 1) c ∗ mptE (F := F) (sA ksM 2) c ∗ mptE (F := F) (sA ksM 3) c ∗ mptE (F := F) (sB ksM 1) c ∗ mptE (F := F) (sB ksM 2) c ∗ mptE (F := F) (sB ksM 3) c ∗ mptE (F := F) (sL ksM) c
      ∗ (∃ f : Buf (Elt F) (ksM.view.loc (c : Thread nD τ)), ksM.view.loc (c : Thread nD τ) ↦[stRest stL0]{fullShare} f))
    ⊢ (mptE ksM c : sProp 𝕄) := by
  have e : ksM.view.set = Finset.univ := View.set_whole _
  unfold mptE mpt; rw [e]
  exact uncarve (ℓ := ksM.view.loc (c : Thread nD τ)) stL0 Finset.univ stL0_sep (fun _ _ => Finset.subset_univ _)
theorem ks_split1 (c : Dev nD) (f : Vec F S2x512x2048 .bf16) : mpt ksM c fullShare f
    ⊢ (iprop(mpt (sC0 ksM) c fullShare f ∗ mpt (sC2 ksM) c fullShare f ∗ mpt (sC3 ksM) c fullShare f ∗ mpt (sC1 ksM) c fullShare f
      ∗ (ksM.view.loc (c : Thread nD τ) ↦[stRest stL1]{fullShare} f)) : sProp 𝕄) := by
  have e : ksM.view.set = Finset.univ := View.set_whole _
  unfold mpt; rw [e]
  exact carve (ℓ := ksM.view.loc (c : Thread nD τ)) f stL1 Finset.univ stL1_sep (fun _ _ => Finset.subset_univ _)
theorem ks_join1 (c : Dev nD) :
    iprop(mptE (F := F) (sC ksM 0) c ∗ mptE (F := F) (sC ksM 2) c ∗ mptE (F := F) (sC ksM 3) c ∗ mptE (F := F) (sC ksM 1) c
      ∗ (∃ f : Buf (Elt F) (ksM.view.loc (c : Thread nD τ)), ksM.view.loc (c : Thread nD τ) ↦[stRest stL1]{fullShare} f))
    ⊢ (mptE ksM c : sProp 𝕄) := by
  have e : ksM.view.set = Finset.univ := View.set_whole _
  unfold mptE mpt; rw [e]
  exact uncarve (ℓ := ksM.view.loc (c : Thread nD τ)) stL1 Finset.univ stL1_sep (fun _ _ => Finset.subset_univ _)
theorem vs_split0 (c : Dev nD) (f : Vec F S2x512x2048 .bf16) : mpt vsM c fullShare f
    ⊢ (iprop(mpt (sA1 vsM) c fullShare f ∗ mpt (sA2 vsM) c fullShare f ∗ mpt (sA3 vsM) c fullShare f ∗ mpt (sB1 vsM) c fullShare f ∗ mpt (sB2 vsM) c fullShare f ∗ mpt (sB3 vsM) c fullShare f ∗ mpt (sL vsM) c fullShare f
      ∗ (vsM.view.loc (c : Thread nD τ) ↦[stRest stL0]{fullShare} f)) : sProp 𝕄) := by
  have e : vsM.view.set = Finset.univ := View.set_whole _
  unfold mpt; rw [e]
  exact carve (ℓ := vsM.view.loc (c : Thread nD τ)) f stL0 Finset.univ stL0_sep (fun _ _ => Finset.subset_univ _)
theorem vs_join0 (c : Dev nD) :
    iprop(mptE (F := F) (sA vsM 1) c ∗ mptE (F := F) (sA vsM 2) c ∗ mptE (F := F) (sA vsM 3) c ∗ mptE (F := F) (sB vsM 1) c ∗ mptE (F := F) (sB vsM 2) c ∗ mptE (F := F) (sB vsM 3) c ∗ mptE (F := F) (sL vsM) c
      ∗ (∃ f : Buf (Elt F) (vsM.view.loc (c : Thread nD τ)), vsM.view.loc (c : Thread nD τ) ↦[stRest stL0]{fullShare} f))
    ⊢ (mptE vsM c : sProp 𝕄) := by
  have e : vsM.view.set = Finset.univ := View.set_whole _
  unfold mptE mpt; rw [e]
  exact uncarve (ℓ := vsM.view.loc (c : Thread nD τ)) stL0 Finset.univ stL0_sep (fun _ _ => Finset.subset_univ _)
theorem vs_split1 (c : Dev nD) (f : Vec F S2x512x2048 .bf16) : mpt vsM c fullShare f
    ⊢ (iprop(mpt (sC0 vsM) c fullShare f ∗ mpt (sC2 vsM) c fullShare f ∗ mpt (sC3 vsM) c fullShare f ∗ mpt (sC1 vsM) c fullShare f
      ∗ (vsM.view.loc (c : Thread nD τ) ↦[stRest stL1]{fullShare} f)) : sProp 𝕄) := by
  have e : vsM.view.set = Finset.univ := View.set_whole _
  unfold mpt; rw [e]
  exact carve (ℓ := vsM.view.loc (c : Thread nD τ)) f stL1 Finset.univ stL1_sep (fun _ _ => Finset.subset_univ _)
theorem vs_join1 (c : Dev nD) :
    iprop(mptE (F := F) (sC vsM 0) c ∗ mptE (F := F) (sC vsM 2) c ∗ mptE (F := F) (sC vsM 3) c ∗ mptE (F := F) (sC vsM 1) c
      ∗ (∃ f : Buf (Elt F) (vsM.view.loc (c : Thread nD τ)), vsM.view.loc (c : Thread nD τ) ↦[stRest stL1]{fullShare} f))
    ⊢ (mptE vsM c : sProp 𝕄) := by
  have e : vsM.view.set = Finset.univ := View.set_whole _
  unfold mptE mpt; rw [e]
  exact uncarve (ℓ := vsM.view.loc (c : Thread nD τ)) stL1 Finset.univ stL1_sep (fun _ _ => Finset.subset_univ _)

/-! ## What stays of the staging buffers while pieces are on their way -/

def Stg (c : Dev nD) : sProp 𝕄 :=
  if c = 0 then iprop((mptE (F := F) (sL ksM) c ∗ ∃ f : Buf (Elt F) (ksM.view.loc (c : Thread nD τ)), ksM.view.loc (c : Thread nD τ) ↦[stRest stL0]{fullShare} f)
    ∗ (mptE (F := F) (sL vsM) c ∗ ∃ f : Buf (Elt F) (vsM.view.loc (c : Thread nD τ)), vsM.view.loc (c : Thread nD τ) ↦[stRest stL0]{fullShare} f))
  else if c = 1 then iprop((mptE (F := F) (sC1 ksM) c ∗ ∃ f : Buf (Elt F) (ksM.view.loc (c : Thread nD τ)), ksM.view.loc (c : Thread nD τ) ↦[stRest stL1]{fullShare} f)
    ∗ (mptE (F := F) (sC1 vsM) c ∗ ∃ f : Buf (Elt F) (vsM.view.loc (c : Thread nD τ)), vsM.view.loc (c : Thread nD τ) ↦[stRest stL1]{fullShare} f))
  else iprop(mptE (F := F) ksM c ∗ mptE (F := F) vsM c)

/-- The departure semaphores of keys and values, all at zero. -/
def FinS (c : Dev nD) : sProp 𝕄 := iprop(Fin0 (F := F) c 7 ∗ Fin0 (F := F) c 8 ∗ Fin0 (F := F) c 9 ∗ Fin0 (F := F) c 10 ∗ Fin0 (F := F) c 11 ∗ Fin0 (F := F) c 12 ∗ Fin0 (F := F) c 13 ∗ Fin0 (F := F) c 14 ∗ Fin0 (F := F) c 15 ∗ Fin0 (F := F) c 16 ∗ Fin0 (F := F) c 17 ∗ Fin0 (F := F) c 18)

theorem depD_sent (c : Dev nD) (k : Fin 28) (P : sProp 𝕄) (h : payers c k = {c}) (hp : pay m ρ c k c = P) : DepD m ρ c k = iprop(Fin0 c k ∗ P) := by
  unfold DepD; rw [if_neg (by rw [h]; exact Finset.singleton_ne_empty c), hp]
theorem depD_none (c : Dev nD) (k : Fin 28) (h : payers c k = ∅) : DepD m ρ c k = Fin0 c k := if_pos h

/-- Once every departure is awaited the staging buffers are whole again. -/
theorem stg_back (c : Dev nD) : iprop(DepsD m ρ c ∗ Stg c) ⊢ (iprop(mptE ksM c ∗ mptE vsM c ∗ FinS c) : sProp 𝕄) := by
  unfold DepsD Stg FinS
  by_cases h0 : c = 0
  · subst h0
    rw [if_pos rfl]
    rw [depD_sent m ρ 0 7 (mptE (F := F) (sA ksM 1) 0) (by decide) rfl,
      depD_sent m ρ 0 8 (mptE (F := F) (sA vsM 1) 0) (by decide) rfl,
      depD_sent m ρ 0 9 (mptE (F := F) (sB ksM 1) 0) (by decide) rfl,
      depD_sent m ρ 0 10 (mptE (F := F) (sB vsM 1) 0) (by decide) rfl,
      depD_sent m ρ 0 11 (mptE (F := F) (sA ksM 2) 0) (by decide) rfl,
      depD_sent m ρ 0 12 (mptE (F := F) (sA vsM 2) 0) (by decide) rfl,
      depD_sent m ρ 0 13 (mptE (F := F) (sB ksM 2) 0) (by decide) rfl,
      depD_sent m ρ 0 14 (mptE (F := F) (sB vsM 2) 0) (by decide) rfl,
      depD_sent m ρ 0 15 (mptE (F := F) (sA ksM 3) 0) (by decide) rfl,
      depD_sent m ρ 0 16 (mptE (F := F) (sA vsM 3) 0) (by decide) rfl,
      depD_sent m ρ 0 17 (mptE (F := F) (sB ksM 3) 0) (by decide) rfl,
      depD_sent m ρ 0 18 (mptE (F := F) (sB vsM 3) 0) (by decide) rfl]
    iintro ⟨⟨⟨F7, P7⟩, ⟨F8, P8⟩, ⟨F9, P9⟩, ⟨F10, P10⟩, ⟨F11, P11⟩, ⟨F12, P12⟩, ⟨F13, P13⟩, ⟨F14, P14⟩, ⟨F15, P15⟩, ⟨F16, P16⟩, ⟨F17, P17⟩, ⟨F18, P18⟩⟩, ⟨KL, KR⟩, VL, VR⟩
    isplitl [P7 P11 P15 P9 P13 P17 KL KR]
    · iapply (ks_join0 (F := F) 0)
      iframe P7 P11 P15 P9 P13 P17 KL KR
    isplitl [P8 P12 P16 P10 P14 P18 VL VR]
    · iapply (vs_join0 (F := F) 0)
      iframe P8 P12 P16 P10 P14 P18 VL VR
    iframe F7 F8 F9 F10 F11 F12 F13 F14 F15 F16 F17 F18
  by_cases h1 : c = 1
  · subst h1
    rw [if_neg (by decide), if_pos rfl]
    rw [depD_sent m ρ 1 7 (mptE (F := F) (sC ksM 0) 1) (by decide) rfl,
      depD_sent m ρ 1 8 (mptE (F := F) (sC vsM 0) 1) (by decide) rfl,
      depD_none m ρ 1 9 (by decide),
      depD_none m ρ 1 10 (by decide),
      depD_sent m ρ 1 11 (mptE (F := F) (sC ksM 2) 1) (by decide) rfl,
      depD_sent m ρ 1 12 (mptE (F := F) (sC vsM 2) 1) (by decide) rfl,
      depD_none m ρ 1 13 (by decide),
      depD_none m ρ 1 14 (by decide),
      depD_sent m ρ 1 15 (mptE (F := F) (sC ksM 3) 1) (by decide) rfl,
      depD_sent m ρ 1 16 (mptE (F := F) (sC vsM 3) 1) (by decide) rfl,
      depD_none m ρ 1 17 (by decide),
      depD_none m ρ 1 18 (by decide)]
    iintro ⟨⟨⟨F7, P7⟩, ⟨F8, P8⟩, F9, F10, ⟨F11, P11⟩, ⟨F12, P12⟩, F13, F14, ⟨F15, P15⟩, ⟨F16, P16⟩, F17, F18⟩, ⟨KL, KR⟩, VL, VR⟩
    isplitl [P7 P11 P15 KL KR]
    · iapply (ks_join1 (F := F) 1)
      iframe P7 P11 P15 KL KR
    isplitl [P8 P12 P16 VL VR]
    · iapply (vs_join1 (F := F) 1)
      iframe P8 P12 P16 VL VR
    iframe F7 F8 F9 F10 F11 F12 F13 F14 F15 F16 F17 F18
  · rw [if_neg h0, if_neg h1]
    rw [depD_none m ρ c 7 (payers_none c h0 h1 7 (by decide)),
      depD_none m ρ c 8 (payers_none c h0 h1 8 (by decide)),
      depD_none m ρ c 9 (payers_none c h0 h1 9 (by decide)),
      depD_none m ρ c 10 (payers_none c h0 h1 10 (by decide)),
      depD_none m ρ c 11 (payers_none c h0 h1 11 (by decide)),
      depD_none m ρ c 12 (payers_none c h0 h1 12 (by decide)),
      depD_none m ρ c 13 (payers_none c h0 h1 13 (by decide)),
      depD_none m ρ c 14 (payers_none c h0 h1 14 (by decide)),
      depD_none m ρ c 15 (payers_none c h0 h1 15 (by decide)),
      depD_none m ρ c 16 (payers_none c h0 h1 16 (by decide)),
      depD_none m ρ c 17 (payers_none c h0 h1 17 (by decide)),
      depD_none m ρ c 18 (payers_none c h0 h1 18 (by decide))]
    iintro ⟨H, HK, HV⟩
    iframe HK HV
    iexact H

/-! ## Key and value buffers, halves of the partial-sum buffers -/

theorem bL_set : (Finset.univ : Finset S2x640x512.Idx) \ (bC kbM).view.set = (bL kbM).view.set := by
  ext y
  have h1 : (y 1).val < 640 := (y 1).isLt
  have h0 : (y 0).val < 2 := (y 0).isLt
  have h2 : (y 2).val < 512 := (y 2).isLt
  rw [Finset.mem_sdiff, View.set_slice_whole, View.set_slice_whole]
  have hC : y ∈ (Rect.unit (s := S2x640x512) ![0, 512, 0] S2x128x512.size inb_S2x640x512_S2x128x512_0_512_0).set ↔ 512 ≤ (y 1).val := by
    rw [Rect.mem_set_unit]
    constructor
    · intro h; exact (h 1).1
    · intro h a; fin_cases a
      · exact ⟨Nat.zero_le _, by show (y 0).val < 0 + 2; omega⟩
      · exact ⟨h, by show (y 1).val < 512 + 128; omega⟩
      · exact ⟨Nat.zero_le _, by show (y 2).val < 0 + 512; omega⟩
  have hL : y ∈ (Rect.unit (s := S2x640x512) ![0, 0, 0] S2x512x512.size inb_S2x640x512_S2x512x512_0_0_0).set ↔ (y 1).val < 512 := by
    rw [Rect.mem_set_unit]
    constructor
    · intro h; have := (h 1).2; have h' : (y 1).val < 0 + 512 := this; omega
    · intro h a; fin_cases a
      · exact ⟨Nat.zero_le _, by show (y 0).val < 0 + 2; omega⟩
      · exact ⟨Nat.zero_le _, by show (y 1).val < 0 + 512; omega⟩
      · exact ⟨Nat.zero_le _, by show (y 2).val < 0 + 512; omega⟩
  rw [hC, hL]
  constructor
  · rintro ⟨-, h⟩; omega
  · intro h; exact ⟨Finset.mem_univ _, by omega⟩

theorem h1_set : (Finset.univ : Finset S2x512x768.Idx) \ (h0 pM).view.set = (h1 pM).view.set := by
  ext y
  have h1 : (y 1).val < 512 := (y 1).isLt
  have h0 : (y 0).val < 2 := (y 0).isLt
  have h2 : (y 2).val < 768 := (y 2).isLt
  rw [Finset.mem_sdiff, View.set_slice_whole, View.set_slice_whole]
  have hC : y ∈ (Rect.unit (s := S2x512x768) ![0, 256, 0] S2x256x768.size inb_S2x512x768_S2x256x768_0_256_0).set ↔ 256 ≤ (y 1).val := by
    rw [Rect.mem_set_unit]
    constructor
    · intro h; exact (h 1).1
    · intro h a; fin_cases a
      · exact ⟨Nat.zero_le _, by show (y 0).val < 0 + 2; omega⟩
      · exact ⟨h, by show (y 1).val < 256 + 256; omega⟩
      · exact ⟨Nat.zero_le _, by show (y 2).val < 0 + 768; omega⟩
  have hL : y ∈ (Rect.unit (s := S2x512x768) ![0, 0, 0] S2x256x768.size inb_S2x512x768_S2x256x768_0_0_0).set ↔ (y 1).val < 256 := by
    rw [Rect.mem_set_unit]
    constructor
    · intro h; have := (h 1).2; have h' : (y 1).val < 0 + 256 := this; omega
    · intro h a; fin_cases a
      · exact ⟨Nat.zero_le _, by show (y 0).val < 0 + 2; omega⟩
      · exact ⟨Nat.zero_le _, by show (y 1).val < 0 + 256; omega⟩
      · exact ⟨Nat.zero_le _, by show (y 2).val < 0 + 768; omega⟩
  rw [hC, hL]
  constructor
  · rintro ⟨-, h⟩; omega
  · intro h; exact ⟨Finset.mem_univ _, by omega⟩

/-- A set of elements in two, and in three, at the contents they hold. -/
theorem two {ℓ : Loc nD τ sig} (f : Buf (Elt F) ℓ) (A B S : Finset (Idx ℓ)) (hA : A ⊆ S) (hB : S \ A = B) :
    (ℓ ↦[S]{fullShare} f) ⊢ (iprop((ℓ ↦[A]{fullShare} f) ∗ (ℓ ↦[B]{fullShare} f)) : sProp 𝕄) := by
  subst hB; exact (pointsTo_split_subset hA).1
theorem twoE {ℓ : Loc nD τ sig} (A B S : Finset (Idx ℓ)) (hA : A ⊆ S) (hB : S \ A = B) :
    iprop(∃ f : Buf (Elt F) ℓ, ℓ ↦[S]{fullShare} f) ⊢ (iprop((∃ f : Buf (Elt F) ℓ, ℓ ↦[A]{fullShare} f) ∗ (∃ f : Buf (Elt F) ℓ, ℓ ↦[B]{fullShare} f)) : sProp 𝕄) := by
  iintro ⟨%f, H⟩
  ihave H := (two f A B S hA hB) $$ H
  icases H with ⟨H1, H2⟩
  isplitl [H1]; · iexists f; iexact H1
  iexists f; iexact H2
theorem oneE {ℓ : Loc nD τ sig} (A B S : Finset (Idx ℓ)) (hA : A ⊆ S) (hB : S \ A = B) :
    iprop((∃ f : Buf (Elt F) ℓ, ℓ ↦[A]{fullShare} f) ∗ (∃ f : Buf (Elt F) ℓ, ℓ ↦[B]{fullShare} f)) ⊢ (iprop(∃ f : Buf (Elt F) ℓ, ℓ ↦[S]{fullShare} f) : sProp 𝕄) := by
  subst hB
  iintro ⟨⟨%f, H1⟩, ⟨%g, H2⟩⟩
  iexists _
  iapply (pointsTo_join_subset hA)
  isplitl [H1]; · iexact H1
  iexact H2

theorem pM_split (c : Dev nD) : mptE pM c ⊢ (iprop(mptE (h0 pM) c ∗ mptE (h1 pM) c) : sProp 𝕄) := by
  have e : pM.view.set = Finset.univ := View.set_whole _
  unfold mptE mpt; rw [e]
  exact twoE (ℓ := pM.view.loc (c : Thread nD τ)) _ _ Finset.univ (Finset.subset_univ _) h1_set
theorem pM_join (c : Dev nD) : iprop(mptE (h0 pM) c ∗ mptE (h1 pM) c) ⊢ (mptE pM c : sProp 𝕄) := by
  have e : pM.view.set = Finset.univ := View.set_whole _
  unfold mptE mpt; rw [e]
  exact oneE (ℓ := pM.view.loc (c : Thread nD τ)) _ _ Finset.univ (Finset.subset_univ _) h1_set
theorem st1M_split (c : Dev nD) : mptE st1M c ⊢ (iprop(mptE (h0 st1M) c ∗ mptE (h1 st1M) c) : sProp 𝕄) := by
  have e : st1M.view.set = Finset.univ := View.set_whole _
  unfold mptE mpt; rw [e]
  exact twoE (ℓ := st1M.view.loc (c : Thread nD τ)) _ _ Finset.univ (Finset.subset_univ _) h1_set
theorem st1M_join (c : Dev nD) : iprop(mptE (h0 st1M) c ∗ mptE (h1 st1M) c) ⊢ (mptE st1M c : sProp 𝕄) := by
  have e : st1M.view.set = Finset.univ := View.set_whole _
  unfold mptE mpt; rw [e]
  exact oneE (ℓ := st1M.view.loc (c : Thread nD τ)) _ _ Finset.univ (Finset.subset_univ _) h1_set
theorem s2M_split (c : Dev nD) : mptE s2M c ⊢ (iprop(mptE (h0 s2M) c ∗ mptE (h1 s2M) c) : sProp 𝕄) := by
  have e : s2M.view.set = Finset.univ := View.set_whole _
  unfold mptE mpt; rw [e]
  exact twoE (ℓ := s2M.view.loc (c : Thread nD τ)) _ _ Finset.univ (Finset.subset_univ _) h1_set
theorem s2M_join (c : Dev nD) : iprop(mptE (h0 s2M) c ∗ mptE (h1 s2M) c) ⊢ (mptE s2M c : sProp 𝕄) := by
  have e : s2M.view.set = Finset.univ := View.set_whole _
  unfold mptE mpt; rw [e]
  exact oneE (ℓ := s2M.view.loc (c : Thread nD τ)) _ _ Finset.univ (Finset.subset_univ _) h1_set
theorem st2M_split (c : Dev nD) : mptE st2M c ⊢ (iprop(mptE (h0 st2M) c ∗ mptE (h1 st2M) c) : sProp 𝕄) := by
  have e : st2M.view.set = Finset.univ := View.set_whole _
  unfold mptE mpt; rw [e]
  exact twoE (ℓ := st2M.view.loc (c : Thread nD τ)) _ _ Finset.univ (Finset.subset_univ _) h1_set
theorem st2M_join (c : Dev nD) : iprop(mptE (h0 st2M) c ∗ mptE (h1 st2M) c) ⊢ (mptE st2M c : sProp 𝕄) := by
  have e : st2M.view.set = Finset.univ := View.set_whole _
  unfold mptE mpt; rw [e]
  exact oneE (ℓ := st2M.view.loc (c : Thread nD τ)) _ _ Finset.univ (Finset.subset_univ _) h1_set
theorem kbM_LC (c : Dev nD) : mptE kbM c ⊢ (iprop(mptE (bC kbM) c ∗ mptE (bL kbM) c) : sProp 𝕄) := by
  have e : kbM.view.set = Finset.univ := View.set_whole _
  unfold mptE mpt; rw [e]
  exact twoE (ℓ := kbM.view.loc (c : Thread nD τ)) _ _ Finset.univ (Finset.subset_univ _) bL_set
theorem kbM_AB (c : Dev nD) (f : Vec F S2x640x512 .bf16) : mpt (bL kbM) c fullShare f ⊢ (iprop(mpt (bA kbM) c fullShare f ∗ mpt (bB kbM) c fullShare f) : sProp 𝕄) := by
  exact two (ℓ := kbM.view.loc (c : Thread nD τ)) f (bA kbM).view.set (bB kbM).view.set (bL kbM).view.set (by rw [← bL_set]; exact bA_sub) (by rw [← bL_set]; exact kb_rest)
theorem kbM_ABE (c : Dev nD) : mptE (bL kbM) c ⊢ (iprop(mptE (bA kbM) c ∗ mptE (bB kbM) c) : sProp 𝕄) := by
  unfold mptE
  exact twoE (ℓ := kbM.view.loc (c : Thread nD τ)) (bA kbM).view.set (bB kbM).view.set (bL kbM).view.set (by rw [← bL_set]; exact bA_sub) (by rw [← bL_set]; exact kb_rest)
theorem vbM_LC (c : Dev nD) : mptE vbM c ⊢ (iprop(mptE (bC vbM) c ∗ mptE (bL vbM) c) : sProp 𝕄) := by
  have e : vbM.view.set = Finset.univ := View.set_whole _
  unfold mptE mpt; rw [e]
  exact twoE (ℓ := vbM.view.loc (c : Thread nD τ)) _ _ Finset.univ (Finset.subset_univ _) bL_set
theorem vbM_AB (c : Dev nD) (f : Vec F S2x640x512 .bf16) : mpt (bL vbM) c fullShare f ⊢ (iprop(mpt (bA vbM) c fullShare f ∗ mpt (bB vbM) c fullShare f) : sProp 𝕄) := by
  exact two (ℓ := vbM.view.loc (c : Thread nD τ)) f (bA kbM).view.set (bB kbM).view.set (bL kbM).view.set (by rw [← bL_set]; exact bA_sub) (by rw [← bL_set]; exact kb_rest)
theorem vbM_ABE (c : Dev nD) : mptE (bL vbM) c ⊢ (iprop(mptE (bA vbM) c ∗ mptE (bB vbM) c) : sProp 𝕄) := by
  unfold mptE
  exact twoE (ℓ := vbM.view.loc (c : Thread nD τ)) (bA kbM).view.set (bB kbM).view.set (bL kbM).view.set (by rw [← bL_set]; exact bA_sub) (by rw [← bL_set]; exact kb_rest)

/-- What a device keeps of its key and value buffers at the barrier: the rows it fills itself. -/
def kbKeep (c : Dev nD) : sProp 𝕄 :=
  if c = 0 then iprop(mptE (F := F) (bL kbM) c ∗ mptE (F := F) (bL vbM) c)
  else if c = 1 then iprop(mptE (F := F) (bC kbM) c ∗ mptE (F := F) (bC vbM) c) else iprop(emp)
theorem kb_deal (p : Dev nD) : iprop(mptE kbM p ∗ mptE vbM p)
    ⊢ (iprop(kbKeep p ∗ (if p = 0 then iprop(emp) else give0 p) ∗ (if p = 1 then iprop(emp) else give1 p)) : sProp 𝕄) := by
  unfold kbKeep
  by_cases h0 : p = 0
  · have h1 : ¬ p = 1 := by rw [h0]; decide
    rw [if_pos h0, if_pos h0, if_neg h1]
    unfold give1
    iintro ⟨HK, HV⟩
    ihave HK := (kbM_LC (F := F) p) $$ HK
    ihave HV := (vbM_LC (F := F) p) $$ HV
    icases HK with ⟨HKC, HKL⟩
    icases HV with ⟨HVC, HVL⟩
    isplitl [HKL HVL]; · iframe HKL HVL
    isplitr; · itrivial
    iframe HKC HVC
  · rw [if_neg h0, if_neg h0]
    by_cases h1 : p = 1
    all_goals
      first | rw [if_pos h1, if_pos h1] | rw [if_neg h1, if_neg h1]
      unfold give0
      first | skip | unfold give1
      iintro ⟨HK, HV⟩
      ihave HK := (kbM_LC (F := F) p) $$ HK
      ihave HV := (vbM_LC (F := F) p) $$ HV
      icases HK with ⟨HKC, HKL⟩
      icases HV with ⟨HVC, HVL⟩
      ihave HKL := (kbM_ABE (F := F) p) $$ HKL
      ihave HVL := (vbM_ABE (F := F) p) $$ HVL
      icases HKL with ⟨HKA, HKB⟩
      icases HVL with ⟨HVA, HVB⟩
    · isplitl [HKC HVC]; · iframe HKC HVC
      isplitl [HKA HVA HKB HVB]; · iframe HKA HVA HKB HVB
      itrivial
    · isplitr; · itrivial
      isplitl [HKA HVA HKB HVB]; · iframe HKA HVA HKB HVB
      unfold give1
      iframe HKC HVC

/-! ## What the first stores leave -/

theorem k_read (f : Vec F S2x512x32x64 .bf16) :
    kM.view.readAt (Elt F) (Rect.unit (s := S2x512x32x64) ![0, 0, 0, 0] S2x512x32x64.size inb_S2x512x32x64_S2x512x32x64_0_0_0_0).toLoadRect f = f := by
  funext x
  show f _ = f x
  congr 1; funext a
  fin_cases a
  · exact Fin.ext (show 0 + 1 * (x 0).val = (x 0).val by omega)
  · exact Fin.ext (show 0 + 1 * (x 1).val = (x 1).val by omega)
  · exact Fin.ext (show 0 + 1 * (x 2).val = (x 2).val by omega)
  · exact Fin.ext (show 0 + 1 * (x 3).val = (x 3).val by omega)
theorem wq_read (f : Vec F S768x512 .bf16) :
    wqM.view.readAt (Elt F) (Rect.unit (s := S768x512) ![0, 0] S768x512.size inb_S768x512_S768x512_0_0).toLoadRect f = f := by
  funext x
  show f _ = f x
  congr 1; funext a
  fin_cases a
  · exact Fin.ext (show 0 + 1 * (x 0).val = (x 0).val by omega)
  · exact Fin.ext (show 0 + 1 * (x 1).val = (x 1).val by omega)

/-- A piece stored holds what was stored. -/
theorem stored_eq {s : Shape} {e : EltTy} (dst : Memref sig .tc .vmem s e) (c' : Dev nD) (q : PosShare TreeShare) (w : Vec F s e)
    (fd T : Buf (Elt F) (dst.view.loc (c' : Thread nD τ))) (h : w = dst.view.read (Elt F) T) :
    mpt dst c' q (dst.view.write (Elt F) fd w Finset.univ) = mpt dst c' q T := by
  refine pointsTo_congr fun i hi => ?_
  obtain ⟨x, -, rfl⟩ := Finset.mem_map.mp hi
  rw [View.write_emb_of_mem _ _ (Finset.mem_univ x), h, View.read_apply]
  simp only [cast_cast, cast_eq]

theorem emb3 {n0 n1 n2 : ℕ} (y : (⟨3, ![n0, n1, n2]⟩ : Shape).Idx) (z : (⟨3, ![n0, n1, n2]⟩ : Shape).Idx)
    (h0 : (z 0).val = (y 0).val) (h1 : (z 1).val = (y 1).val) (h2 : (z 2).val = (y 2).val) : z = y := by
  funext a
  fin_cases a
  · exact Fin.ext h0
  · exact Fin.ext h1
  · exact Fin.ext h2
theorem emb2 {n0 n1 : ℕ} (y : (⟨2, ![n0, n1]⟩ : Shape).Idx) (z : (⟨2, ![n0, n1]⟩ : Shape).Idx)
    (h0 : (z 0).val = (y 0).val) (h1 : (z 1).val = (y 1).val) : z = y := by
  funext a
  fin_cases a
  · exact Fin.ext h0
  · exact Fin.ext h1

/-- A store over a whole staging buffer, and over its first 128 rows. -/
theorem written_st {κ : Kind} {sp : Space} (v : View sig κ sp S2x512x2048 .bf16) (f : v.ty.Contents (Elt F)) (w : Vec F S2x512x2048 .bf16) (y : S2x512x2048.Idx) :
    v.read (Elt F) (v.writes (Elt F) f [⟨Rect.unit (s := S2x512x2048) ![0, 0, 0] S2x512x2048.size inb_S2x512x2048_S2x512x2048_0_0_0, w⟩]) y = w y := by
  refine View.read_writes_apply_of_pieces v f w _ ?_ y ⟨_, List.mem_singleton.mpr rfl, ?_⟩
  · intro p hp x
    rw [List.mem_singleton] at hp; subst hp
    exact congrArg w (emb3 _ _ (by show (x 0).val = 0 + 1 * (x 0).val; omega) (by show (x 1).val = 0 + 1 * (x 1).val; omega)
      (by show (x 2).val = 0 + 1 * (x 2).val; omega))
  · have h0 : (y 0).val < 2 := (y 0).isLt
    have h1 : (y 1).val < 512 := (y 1).isLt
    have h2 : (y 2).val < 2048 := (y 2).isLt
    dsimp only
    rw [Rect.mem_set_unit]; intro a
    fin_cases a
    · exact ⟨Nat.zero_le _, by show (y 0).val < 0 + 2; omega⟩
    · exact ⟨Nat.zero_le _, by show (y 1).val < 0 + 512; omega⟩
    · exact ⟨Nat.zero_le _, by show (y 2).val < 0 + 2048; omega⟩
theorem rows_lo (w : Vec F S2x128x2048 .bf16) (g : Vec F S2x512x2048 .bf16) (i : S2x512x2048.Idx) (x : S2x128x2048.Idx)
    (h0 : (i 0).val = (x 0).val) (h1 : (i 1).val = (x 1).val) (h2 : (i 2).val = (x 2).val) :
    (fun i : S2x512x2048.Idx => if h : (i 1).val < 128 then w (ix3 (i 0) ⟨(i 1).val, h⟩ (i 2)) else g i) i = w x := by
  have hx : (x 1).val < 128 := (x 1).isLt
  have h : (i 1).val < 128 := by omega
  dsimp only
  rw [dif_pos h]
  exact congrArg w (emb3 _ _ h0 h1 h2)
theorem written_st1 {κ : Kind} {sp : Space} (v : View sig κ sp S2x512x2048 .bf16) (f : v.ty.Contents (Elt F)) (w : Vec F S2x128x2048 .bf16) (g : Vec F S2x512x2048 .bf16)
    (y : S2x512x2048.Idx) (hy : (y 1).val < 128) :
    v.read (Elt F) (v.writes (Elt F) f [⟨Rect.unit (s := S2x512x2048) ![0, 0, 0] S2x128x2048.size inb_S2x512x2048_S2x128x2048_0_0_0, w⟩]) y
      = (fun i : S2x512x2048.Idx => if h : (i 1).val < 128 then w (ix3 (i 0) ⟨(i 1).val, h⟩ (i 2)) else g i) y := by
  refine View.read_writes_apply_of_pieces v f (fun i : S2x512x2048.Idx => if h : (i 1).val < 128 then w (ix3 (i 0) ⟨(i 1).val, h⟩ (i 2)) else g i) _ ?_ y ⟨_, List.mem_singleton.mpr rfl, ?_⟩
  · intro p hp x
    rw [List.mem_singleton] at hp; subst hp
    have hx : (x 1).val < 128 := (x 1).isLt
    exact (rows_lo w g _ x (by show 0 + 1 * (x 0).val = (x 0).val; omega) (by show 0 + 1 * (x 1).val = (x 1).val; omega) (by show 0 + 1 * (x 2).val = (x 2).val; omega)).symm
  · have h0 : (y 0).val < 2 := (y 0).isLt
    have h2 : (y 2).val < 2048 := (y 2).isLt
    dsimp only
    rw [Rect.mem_set_unit]; intro a
    fin_cases a
    · exact ⟨Nat.zero_le _, by show (y 0).val < 0 + 2; omega⟩
    · exact ⟨Nat.zero_le _, by show (y 1).val < 0 + 128; omega⟩
    · exact ⟨Nat.zero_le _, by show (y 2).val < 0 + 2048; omega⟩

theorem ks_store0 (c : Dev nD) (hc : c = 0) (f X : Vec F S2x512x2048 .bf16)
    (hX : X = ksM.view.writes (Elt F) f [⟨Rect.unit (s := S2x512x2048) ![0, 0, 0] S2x512x2048.size inb_S2x512x2048_S2x512x2048_0_0_0,
      k0_pay1 (kM.view.readAt (Elt F) (Rect.unit (s := S2x512x32x64) ![0, 0, 0, 0] S2x512x32x64.size inb_S2x512x32x64_S2x512x32x64_0_0_0_0).toLoadRect (kstg m ρ c))⟩]) :
    mpt ksM c fullShare X = mpt ksM c fullShare (ks0 m ρ) := by
  subst hc
  refine pointsTo_congr fun i hi => ?_
  have h := written_st ksM.view f (k0_pay1 (kM.view.readAt (Elt F) (Rect.unit (s := S2x512x32x64) ![0, 0, 0, 0] S2x512x32x64.size inb_S2x512x32x64_S2x512x32x64_0_0_0_0).toLoadRect (kstg m ρ 0))) i
  rw [← hX] at h
  exact h.trans (congrFun (congrArg k0_pay1 (k_read (kstg m ρ 0))) i)
theorem ks_store1 (c : Dev nD) (hc : c = 1) (d : Fin 4) (f X : Vec F S2x512x2048 .bf16)
    (hX : X = ksM.view.writes (Elt F) f [⟨Rect.unit (s := S2x512x2048) ![0, 0, 0] S2x128x2048.size inb_S2x512x2048_S2x128x2048_0_0_0,
      k0_pay3 (kM.view.readAt (Elt F) (Rect.unit (s := S2x512x32x64) ![0, 0, 0, 0] S2x128x32x64.size inb_S2x512x32x64_S2x128x32x64_0_0_0_0).toLoadRect (kstg m ρ c))⟩]) :
    mpt (sC ksM d) c fullShare X = mpt (sC ksM d) c fullShare (ks1 m ρ) := by
  subst hc
  refine pointsTo_congr fun i hi => ?_
  obtain ⟨x, -, rfl⟩ := Finset.mem_map.mp hi
  have hx : (x 1).val < 128 := (x 1).isLt
  have h := written_st1 ksM.view f (k0_pay3 (kM.view.readAt (Elt F) (Rect.unit (s := S2x512x32x64) ![0, 0, 0, 0] S2x128x32x64.size inb_S2x512x32x64_S2x128x32x64_0_0_0_0).toLoadRect (kstg m ρ 1)))
    (ks0 m ρ) ((sC ksM d).view.emb x) (by show 0 + 1 * (x 1).val < 128; omega)
  rw [← hX] at h
  exact h
theorem vs_store0 (c : Dev nD) (hc : c = 0) (f X : Vec F S2x512x2048 .bf16)
    (hX : X = vsM.view.writes (Elt F) f [⟨Rect.unit (s := S2x512x2048) ![0, 0, 0] S2x512x2048.size inb_S2x512x2048_S2x512x2048_0_0_0,
      k0_pay2 (vM.view.readAt (Elt F) (Rect.unit (s := S2x512x32x64) ![0, 0, 0, 0] S2x512x32x64.size inb_S2x512x32x64_S2x512x32x64_0_0_0_0).toLoadRect (vstg m ρ c))⟩]) :
    mpt vsM c fullShare X = mpt vsM c fullShare (vs0 m ρ) := by
  subst hc
  refine pointsTo_congr fun i hi => ?_
  have h := written_st vsM.view f (k0_pay2 (vM.view.readAt (Elt F) (Rect.unit (s := S2x512x32x64) ![0, 0, 0, 0] S2x512x32x64.size inb_S2x512x32x64_S2x512x32x64_0_0_0_0).toLoadRect (vstg m ρ 0))) i
  rw [← hX] at h
  exact h.trans (congrFun (congrArg k0_pay2 (k_read (vstg m ρ 0))) i)
theorem vs_store1 (c : Dev nD) (hc : c = 1) (d : Fin 4) (f X : Vec F S2x512x2048 .bf16)
    (hX : X = vsM.view.writes (Elt F) f [⟨Rect.unit (s := S2x512x2048) ![0, 0, 0] S2x128x2048.size inb_S2x512x2048_S2x128x2048_0_0_0,
      k0_pay4 (vM.view.readAt (Elt F) (Rect.unit (s := S2x512x32x64) ![0, 0, 0, 0] S2x128x32x64.size inb_S2x512x32x64_S2x128x32x64_0_0_0_0).toLoadRect (vstg m ρ c))⟩]) :
    mpt (sC vsM d) c fullShare X = mpt (sC vsM d) c fullShare (vs1 m ρ) := by
  subst hc
  refine pointsTo_congr fun i hi => ?_
  obtain ⟨x, -, rfl⟩ := Finset.mem_map.mp hi
  have hx : (x 1).val < 128 := (x 1).isLt
  have h := written_st1 vsM.view f (k0_pay4 (vM.view.readAt (Elt F) (Rect.unit (s := S2x512x32x64) ![0, 0, 0, 0] S2x128x32x64.size inb_S2x512x32x64_S2x128x32x64_0_0_0_0).toLoadRect (vstg m ρ 1)))
    (vs0 m ρ) ((sC vsM d).view.emb x) (by show 0 + 1 * (x 1).val < 128; omega)
  rw [← hX] at h
  exact h

/-- The rows a device fills itself, copied from its staging buffer. -/
theorem kb_store0 (c : Dev nD) (hc : c = 0) (f X : Vec F S2x640x512 .bf16)
    (hX : X = View.write (Elt F) (kbM.access (Rect.unit (s := S2x640x512) ![0, 0, 0] S2x512x512.size inb_S2x640x512_S2x512x512_0_0_0)) f
      (k0_pay5 (ksM.view.readAt (Elt F) (Rect.unit (s := S2x512x2048) ![0, 0, 0] S2x512x512.size inb_S2x512x2048_S2x512x512_0_0_0).toLoadRect (ks0 m ρ))) Finset.univ) :
    mpt (bL kbM) c fullShare X = mpt (bL kbM) c fullShare (kAll m ρ c) := by
  subst hc hX
  refine stored_eq (bL kbM) 0 fullShare _ f (kAll m ρ 0) ?_
  unfold k0_pay5
  rw [shapeCast_id]
  funext x
  exact (gather_lo (ks0 m ρ) (ks1 m ρ) 0 ((bL kbM).view.emb x) ((sL ksM).view.emb x)
    (by have : (x 1).val < 512 := (x 1).isLt; show 0 + 1 * (x 1).val < 512; omega) rfl rfl
    (by show 0 + 1 * (x 2).val = 512 * 0 + (0 + 1 * (x 2).val); omega)).symm
theorem kb_store1 (c : Dev nD) (hc : c = 1) (f X : Vec F S2x640x512 .bf16)
    (hX : X = View.write (Elt F) (kbM.access (Rect.unit (s := S2x640x512) ![0, 512, 0] S2x128x512.size inb_S2x640x512_S2x128x512_0_512_0)) f
      (k0_pay7 (ksM.view.readAt (Elt F) (Rect.unit (s := S2x512x2048) ![0, 0, 512] S2x128x512.size inb_S2x512x2048_S2x128x512_0_0_512).toLoadRect (ks1 m ρ))) Finset.univ) :
    mpt (bC kbM) c fullShare X = mpt (bC kbM) c fullShare (kAll m ρ c) := by
  subst hc hX
  refine stored_eq (bC kbM) 1 fullShare _ f (kAll m ρ 1) ?_
  unfold k0_pay7
  rw [shapeCast_id]
  funext x
  exact (gather_hi (ks0 m ρ) (ks1 m ρ) 1 ((bC kbM).view.emb x) ((sC ksM 1).view.emb x)
    (by show 512 ≤ 512 + 1 * (x 1).val; omega) rfl
    (by show (0 + 1 * (x 1).val) + 512 = 512 + 1 * (x 1).val; omega)
    (by show 512 + 1 * (x 2).val = 512 * 1 + (0 + 1 * (x 2).val); omega)).symm
theorem vb_store0 (c : Dev nD) (hc : c = 0) (f X : Vec F S2x640x512 .bf16)
    (hX : X = View.write (Elt F) (vbM.access (Rect.unit (s := S2x640x512) ![0, 0, 0] S2x512x512.size inb_S2x640x512_S2x512x512_0_0_0)) f
      (k0_pay6 (vsM.view.readAt (Elt F) (Rect.unit (s := S2x512x2048) ![0, 0, 0] S2x512x512.size inb_S2x512x2048_S2x512x512_0_0_0).toLoadRect (vs0 m ρ))) Finset.univ) :
    mpt (bL vbM) c fullShare X = mpt (bL vbM) c fullShare (vAll m ρ c) := by
  subst hc hX
  refine stored_eq (bL vbM) 0 fullShare _ f (vAll m ρ 0) ?_
  unfold k0_pay6
  rw [shapeCast_id]
  funext x
  exact (gather_lo (vs0 m ρ) (vs1 m ρ) 0 ((bL kbM).view.emb x) ((sL ksM).view.emb x)
    (by have : (x 1).val < 512 := (x 1).isLt; show 0 + 1 * (x 1).val < 512; omega) rfl rfl
    (by show 0 + 1 * (x 2).val = 512 * 0 + (0 + 1 * (x 2).val); omega)).symm
theorem vb_store1 (c : Dev nD) (hc : c = 1) (f X : Vec F S2x640x512 .bf16)
    (hX : X = View.write (Elt F) (vbM.access (Rect.unit (s := S2x640x512) ![0, 512, 0] S2x128x512.size inb_S2x640x512_S2x128x512_0_512_0)) f
      (k0_pay8 (vsM.view.readAt (Elt F) (Rect.unit (s := S2x512x2048) ![0, 0, 512] S2x128x512.size inb_S2x512x2048_S2x128x512_0_0_512).toLoadRect (vs1 m ρ))) Finset.univ) :
    mpt (bC vbM) c fullShare X = mpt (bC vbM) c fullShare (vAll m ρ c) := by
  subst hc hX
  refine stored_eq (bC vbM) 1 fullShare _ f (vAll m ρ 1) ?_
  unfold k0_pay8
  rw [shapeCast_id]
  funext x
  exact (gather_hi (vs0 m ρ) (vs1 m ρ) 1 ((bC kbM).view.emb x) ((sC ksM 1).view.emb x)
    (by show 512 ≤ 512 + 1 * (x 1).val; omega) rfl
    (by show (0 + 1 * (x 1).val) + 512 = 512 + 1 * (x 1).val; omega)
    (by show 512 + 1 * (x 2).val = 512 * 1 + (0 + 1 * (x 2).val); omega)).symm

/-- The masks and the queries. -/
theorem b0M_store (c : Dev nD) (f X : Vec F S256x384 .f32)
    (hX : X = b0M.view.writes (Elt F) f [⟨Rect.unit (s := S256x384) ![0, 0] S256x384.size inb_S256x384_S256x384_0_0, k0_pay13⟩]) :
    mpt b0M c fullShare X = mpt b0M c fullShare k0_pay13 := by
  refine pointsTo_congr fun y hy => ?_
  have h : b0M.view.read (Elt F) (b0M.view.writes (Elt F) f [⟨Rect.unit (s := S256x384) ![0, 0] S256x384.size inb_S256x384_S256x384_0_0, k0_pay13⟩]) y = (k0_pay13 : Vec F S256x384 .f32) y := by
    refine View.read_writes_apply_of_pieces b0M.view f k0_pay13 _ ?_ y ⟨_, List.mem_singleton.mpr rfl, ?_⟩
    · intro p hp x
      rw [List.mem_singleton] at hp; subst hp
      exact congrArg (k0_pay13 : Vec F S256x384 .f32) (emb2 _ _ (by show (x 0).val = 0 + 1 * (x 0).val; omega) (by show (x 1).val = 0 + 1 * (x 1).val; omega))
    · have h0 : (y 0).val < 256 := (y 0).isLt
      have h1 : (y 1).val < 384 := (y 1).isLt
      dsimp only
      rw [Rect.mem_set_unit]; intro a
      fin_cases a
      · exact ⟨Nat.zero_le _, by show (y 0).val < 0 + 256; omega⟩
      · exact ⟨Nat.zero_le _, by show (y 1).val < 0 + 384; omega⟩
  rw [← hX] at h
  exact h
theorem b1M_store (c : Dev nD) (f X : Vec F S256x512 .f32)
    (hX : X = b1M.view.writes (Elt F) f [⟨Rect.unit (s := S256x512) ![0, 0] S256x512.size inb_S256x512_S256x512_0_0, k0_pay14⟩]) :
    mpt b1M c fullShare X = mpt b1M c fullShare k0_pay14 := by
  refine pointsTo_congr fun y hy => ?_
  have h : b1M.view.read (Elt F) (b1M.view.writes (Elt F) f [⟨Rect.unit (s := S256x512) ![0, 0] S256x512.size inb_S256x512_S256x512_0_0, k0_pay14⟩]) y = (k0_pay14 : Vec F S256x512 .f32) y := by
    refine View.read_writes_apply_of_pieces b1M.view f k0_pay14 _ ?_ y ⟨_, List.mem_singleton.mpr rfl, ?_⟩
    · intro p hp x
      rw [List.mem_singleton] at hp; subst hp
      exact congrArg (k0_pay14 : Vec F S256x512 .f32) (emb2 _ _ (by show (x 0).val = 0 + 1 * (x 0).val; omega) (by show (x 1).val = 0 + 1 * (x 1).val; omega))
    · have h0 : (y 0).val < 256 := (y 0).isLt
      have h1 : (y 1).val < 512 := (y 1).isLt
      dsimp only
      rw [Rect.mem_set_unit]; intro a
      fin_cases a
      · exact ⟨Nat.zero_le _, by show (y 0).val < 0 + 256; omega⟩
      · exact ⟨Nat.zero_le _, by show (y 1).val < 0 + 512; omega⟩
  rw [← hX] at h
  exact h
theorem q_store (c : Dev nD) (f X : Vec F S2x512x512 .bf16)
    (hX : X = qM.view.writes (Elt F) f
      [⟨Rect.unit (s := S2x512x512) ![1, 0, 0] S1x512x512.size inb_S2x512x512_S1x512x512_1_0_0,
        k0_pay12 (k0_pay11 (wqM.view.readAt (Elt F) (Rect.unit (s := S768x512) ![0, 0] S768x512.size inb_S768x512_S768x512_0_0).toLoadRect (wqstg m ρ c))
          (xM.view.readAt (Elt F) (Rect.unit (s := S2x512x768) ![1, 0, 0] S1x512x768.size inb_S2x512x768_S1x512x768_1_0_0).toLoadRect (xstg m ρ c)))⟩,
       ⟨Rect.unit (s := S2x512x512) ![0, 0, 0] S1x512x512.size inb_S2x512x512_S1x512x512_0_0_0,
        k0_pay10 (wqM.view.readAt (Elt F) (Rect.unit (s := S768x512) ![0, 0] S768x512.size inb_S768x512_S768x512_0_0).toLoadRect (wqstg m ρ c))
          (xM.view.readAt (Elt F) (Rect.unit (s := S2x512x768) ![0, 0, 0] S1x512x768.size inb_S2x512x768_S1x512x768_0_0_0).toLoadRect (xstg m ρ c))⟩]) :
    mpt qM c fullShare X = mpt qM c fullShare (qAll m ρ c) := by
  refine pointsTo_congr fun y hy => ?_
  rw [wq_read] at hX
  have h := View.read_writes_apply_of_pieces qM.view f (qAll m ρ c)
      [⟨Rect.unit (s := S2x512x512) ![1, 0, 0] S1x512x512.size inb_S2x512x512_S1x512x512_1_0_0,
        k0_pay12 (k0_pay11 (wqstg m ρ c) (xM.view.readAt (Elt F) (Rect.unit (s := S2x512x768) ![1, 0, 0] S1x512x768.size inb_S2x512x768_S1x512x768_1_0_0).toLoadRect (xstg m ρ c)))⟩,
       ⟨Rect.unit (s := S2x512x512) ![0, 0, 0] S1x512x512.size inb_S2x512x512_S1x512x512_0_0_0,
        k0_pay10 (wqstg m ρ c) (xM.view.readAt (Elt F) (Rect.unit (s := S2x512x768) ![0, 0, 0] S1x512x768.size inb_S2x512x768_S1x512x768_0_0_0).toLoadRect (xstg m ρ c))⟩] ?_ y ?_
  · rw [← hX] at h
    exact h
  · intro p hp x
    rw [List.mem_cons, List.mem_singleton] at hp
    have hx0 : (x 0).val < p.1.shape.size 0 := (x 0).isLt
    rcases hp with rfl | rfl
    · have hx : (x 0).val < 1 := hx0
      have hq : ¬ (1 + 1 * (x 0).val) = 0 := by omega
      refine Eq.trans ?_ (if_neg hq).symm
      exact congrArg (k0_pay12 (k0_pay11 (wqstg m ρ c) (xwin (xstg m ρ c) 1))) (emb3 _ _ (by show (x 0).val = 0; omega) (by show (x 1).val = 0 + 1 * (x 1).val; omega)
        (by show (x 2).val = 0 + 1 * (x 2).val; omega))
    · have hx : (x 0).val < 1 := hx0
      have hq : (0 + 1 * (x 0).val) = 0 := by omega
      refine Eq.trans ?_ (if_pos hq).symm
      exact congrArg (k0_pay10 (wqstg m ρ c) (xwin (xstg m ρ c) 0)) (emb3 _ _ (by show (x 0).val = 0; omega) (by show (x 1).val = 0 + 1 * (x 1).val; omega)
        (by show (x 2).val = 0 + 1 * (x 2).val; omega))
  · have h0 : (y 0).val < 2 := (y 0).isLt
    have h1 : (y 1).val < 512 := (y 1).isLt
    have h2 : (y 2).val < 512 := (y 2).isLt
    by_cases e : (y 0).val = 0
    · refine ⟨_, List.mem_cons_of_mem _ (List.mem_singleton.mpr rfl), ?_⟩
      dsimp only
      rw [Rect.mem_set_unit]; intro a
      fin_cases a
      · exact ⟨Nat.zero_le _, by show (y 0).val < 0 + 1; omega⟩
      · exact ⟨Nat.zero_le _, by show (y 1).val < 0 + 512; omega⟩
      · exact ⟨Nat.zero_le _, by show (y 2).val < 0 + 512; omega⟩
    · refine ⟨_, List.mem_cons_self, ?_⟩
      dsimp only
      rw [Rect.mem_set_unit]; intro a
      fin_cases a
      · exact ⟨by show 1 ≤ (y 0).val; omega, by show (y 0).val < 1 + 1; omega⟩
      · exact ⟨Nat.zero_le _, by show (y 1).val < 0 + 512; omega⟩
      · exact ⟨Nat.zero_le _, by show (y 2).val < 0 + 512; omega⟩

end Cert.KernelIdealProof
-- ==== Proof.ISegA.lean ====
/-
# The barrier, the sends of keys and values, the queries and the masks

The first stretch of the body on every device: it lets the others write, waits until it may write itself, sends its share of
the keys and values (devices 0 and 1), and fills the queries and the two masks.
-/
module

public import proofs.«01_k».proof.Proof.IStg

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The departures of keys and values a device pays. -/
def depL (c : Dev nD) : List (Dev nD × Fin 28) :=
  if c = 0 then [(0, 7), (0, 8), (0, 9), (0, 10), (0, 11), (0, 12), (0, 13), (0, 14), (0, 15), (0, 16), (0, 17), (0, 18)]
  else if c = 1 then [(1, 7), (1, 8), (1, 11), (1, 12), (1, 15), (1, 16)] else []
/-- The rights to pay for the sends of keys and values: arrivals and departures. -/
def KvTok (c : Dev nD) : sProp 𝕄 := bigSepL (kvL c ++ depL c) fun x => Tok (F := F) c x
/-- Nothing has been awaited on the arrivals and departures of keys and values. -/
def KvArr (c : Dev nD) : sProp 𝕄 := iprop((Cr (F := F) c 1 ∗ Pos c 1) ∗ (Cr (F := F) c 2 ∗ Pos c 2) ∗ (Cr (F := F) c 3 ∗ Pos c 3) ∗ (Cr (F := F) c 4 ∗ Pos c 4) ∗ (Cr (F := F) c 5 ∗ Pos c 5) ∗ (Cr (F := F) c 6 ∗ Pos c 6))
def KvPos (c : Dev nD) : sProp 𝕄 := iprop(Pos (F := F) c 7 ∗ Pos (F := F) c 8 ∗ Pos (F := F) c 9 ∗ Pos (F := F) c 10 ∗ Pos (F := F) c 11 ∗ Pos (F := F) c 12 ∗ Pos (F := F) c 13 ∗ Pos (F := F) c 14 ∗ Pos (F := F) c 15 ∗ Pos (F := F) c 16 ∗ Pos (F := F) c 17 ∗ Pos (F := F) c 18)

theorem dev1_eq (c : Dev nD) : (⟨k0_dev1 c, k0_dev1_lt c⟩ : Dev nD) = c + 1 := by revert c; decide
theorem dev2_eq (c : Dev nD) : (⟨k0_dev2 c, k0_dev2_lt c⟩ : Dev nD) = c + 2 := by revert c; decide
theorem dev3_eq (c : Dev nD) : (⟨k0_dev3 c, k0_dev3_lt c⟩ : Dev nD) = c + 3 := by revert c; decide
theorem ne1 (c : Dev nD) : c ≠ c + 1 := by revert c; decide
theorem ne2 (c : Dev nD) : c ≠ c + 2 := by revert c; decide
theorem ne3 (c : Dev nD) : c ≠ c + 3 := by revert c; decide
theorem cond1_iff (c : Dev nD) : k0_cond1 c = 1#1 ↔ c = 0 := by revert c; decide
theorem cond2_iff (c : Dev nD) : k0_cond2 c = 1#1 ↔ c = 1 := by revert c; decide
theorem bar_amt (c : Dev nD) : (payers c 0).card * amt c 0 = 3 := by revert c; decide
theorem kv_above (c : Dev nD) : ∀ x ∈ kvL c ++ arL c, lvk 0 < lvk x.2 := by revert c; decide
theorem mptE_def {s : Shape} {e : EltTy} (b : Memref sig .tc .vmem s e) (c : Dev nD) :
    mptE (F := F) b c = iprop(∃ f : Buf (Elt F) (b.view.loc (c : Thread nD τ)), b.view.loc (c : Thread nD τ) ↦[b.view.set]{fullShare} f) := rfl
theorem mptE_intro {s : Shape} {e : EltTy} (b : Memref sig .tc .vmem s e) (c : Dev nD) (f : Buf (Elt F) (b.view.loc (c : Thread nD τ))) :
    mpt b c fullShare f ⊢ (mptE b c : sProp 𝕄) := by
  unfold mptE; iintro H; iexists f; iexact H
theorem arr_keep (c : Dev nD) (k : Fin 28) (h : payers c k ≠ ∅) : iprop(Cr c k ∗ Pos c k) ⊢ (Arr m ρ c k : sProp 𝕄) := by
  unfold Arr; rw [if_neg h]
theorem arr_have (K : Dev nD × Fin 28 → ℕ) (c : Dev nD) (k : Fin 28) (h : payers c k = ∅) (P : sProp 𝕄) (hP : pay m ρ c k 0 = P) :
    iprop(recs m ρ K ∗ (Cr c k ∗ Pos c k) ∗ P) ⊢ (|={Set.univ}=> Arr m ρ c k : sProp 𝕄) := by
  subst hP
  iintro ⟨HR, ⟨-, HP⟩, HY⟩
  iapply (closeArr m ρ K c k h)
  isplitl [HR]; · iexact HR
  isplitl [HP]; · iexact HP
  iexact HY

theorem wp_next {α β : Type} (c : Dev nD) {Q : β → sProp 𝕄} (a : PUnit) (f : PUnit → Prog (TpuEff nD τ sig (Elt F) Λ₀ .tc) α) (g : α → Prog (TpuEff nD τ sig (Elt F) Λ₀ .tc) β) :
    (wp frame (wpE (defs₀ (F := F)) 𝒱₀ (c : Thread nD τ) none) Set.univ (f a >>= g) Q : sProp 𝕄)
      ⊢ wp frame (wpE (defs₀ (F := F)) 𝒱₀ (c : Thread nD τ) none) Set.univ (((Prog.ret a).bind f).bind g) Q := Entails.refl _

theorem arr_ne (c : Dev nD) (h0 : c ≠ 0) (h1 : c ≠ 1) (k : Fin 28) (h : 1 ≤ k.val ∧ k.val ≤ 6) : payers c k ≠ ∅ := by
  unfold payers
  rw [if_neg (by omega)]
  by_cases hk : k.val ≤ 4
  · rw [if_pos hk, if_neg h0]; exact Finset.singleton_ne_empty _
  · rw [if_neg hk, if_pos h.2, if_neg h1]; exact Finset.singleton_ne_empty _

set_option maxRecDepth 65536 in

set_option sl_exec.resultNames true in
/-- The first stretch. -/
theorem segA_wp (K : Dev nD × Fin 28 → ℕ) (c : Dev nD)
    (k : Dev nD → BitVec 32 → BitVec 32 → BitVec 32 → Prog (TpuEff nD τ sig (Elt F) Λ₀ .tc) PUnit) (Q : PUnit → sProp 𝕄) :
    iprop(recs m ρ K ∗ Ow c (owedL c) ∗ Tok c (c + 1, 0) ∗ Tok c (c + 2, 0) ∗ Tok c (c + 3, 0) ∗ KvTok c ∗ Cr c 0 ∗ Pos c 0 ∗ KvArr c ∗ KvPos c
      ∗ mptE ksM c ∗ mptE vsM c ∗ (mptE kbM c ∗ mptE vbM c) ∗ mptE st1M c ∗ mptE st2M c ∗ mptE qM c ∗ mptE b0M c ∗ mptE b1M c
      ∗ mpt xM c fullShare (xstg m ρ c) ∗ mpt wqM c fullShare (wqstg m ρ c) ∗ mpt kM c fullShare (kstg m ρ c) ∗ mpt vM c fullShare (vstg m ρ c)
      ∗ (iprop(Ow c (arL c) ∗ Fin0 c 0 ∗ Arr m ρ c 1 ∗ Arr m ρ c 2 ∗ Arr m ρ c 3 ∗ Arr m ρ c 4 ∗ Arr m ρ c 5 ∗ Arr m ρ c 6 ∗ Deps c ∗ Stg c ∗ land1 (px c) ∗ land2 (py c)
          ∗ mpt qM c fullShare (qAll m ρ c) ∗ mpt b0M c fullShare k0_pay13 ∗ mpt b1M c fullShare k0_pay14
          ∗ mpt xM c fullShare (xstg m ρ c) ∗ mpt wqM c fullShare (wqstg m ρ c) ∗ mpt kM c fullShare (kstg m ρ c) ∗ mpt vM c fullShare (vstg m ρ c))
        -∗ wp frame (wpE (defs₀ (F := F)) 𝒱₀ (c : Thread nD τ) none) Set.univ
            (k c (Scalar.remsi (Scalar.divsi (Dev.word c) 1#32) 4#32)
              (Scalar.extui (Scalar.cmpi .ne (Scalar.remsi (Scalar.divsi (Dev.word c) 1#32) 4#32) 0#32)) 0#32) Q))
    ⊢ wp frame (wpE (defs₀ (F := F)) 𝒱₀ (c : Thread nD τ) none) Set.univ (segA k) Q := by
  unfold segA
  simp only [k0_part11_eq_skeleton, k0_part12_eq_skeleton, k0_part13_eq_skeleton, k0_part11_skel]
  simp only [semSignalWord, Prog.lift, Prog.bind_op, Prog.bind_ret, Prog.pure_eq_ret, wp_deviceId]
  unfold k0_part12_skel k0_part13_skel
  simp only [semSignalWord, semWaitWord, Prog.bind_op, Prog.bind_ret]
  simp only [k0_part1_eq_skeleton, k0_part2_eq_skeleton, k0_part3_eq_skeleton, k0_part4_eq_skeleton, k0_part5_eq_skeleton, k0_part6_eq_skeleton]
  unfold mpt
  iintro ⟨#HR, HO, HT1, HT2, HT3, HKT, HC0, HP0, HKA, HKP, Hks, Hvs, Hkv, Hst1, Hst2, Hq, Hb0, Hb1, Hx, Hwq, Hk, Hv, Hcont⟩
  ihave Hkv := (kb_deal (F := F) c) $$ Hkv
  icases Hkv with ⟨Hkeep, Hg0, Hg1⟩
  ihave Hst1 := (show (mptE (F := F) st1M c : sProp 𝕄) ⊢ land1 c from st1M_split c) $$ Hst1
  ihave Hst2 := (show (mptE (F := F) st2M c : sProp 𝕄) ⊢ land2 c from st2M_split c) $$ Hst2
  ihave HB := (bar_split (F := F) c) $$ [Hg0 Hg1 Hst1 Hst2]
  · isplitl [Hg0]; · iexact Hg0
    isplitl [Hg1]; · iexact Hg1
    isplitl [Hst1]; · iexact Hst1
    iexact Hst2
  icases HB with ⟨HB1, HB2, HB3⟩
  ihave Hq := (Entails.of_eq (mptE_def (F := F) qM c)) $$ Hq
  icases Hq with ⟨%fq, Hq⟩
  ihave Hb0 := (Entails.of_eq (mptE_def (F := F) b0M c)) $$ Hb0
  icases Hb0 with ⟨%fb0, Hb0⟩
  ihave Hb1 := (Entails.of_eq (mptE_def (F := F) b1M c)) $$ Hb1
  icases Hb1 with ⟨%fb1, Hb1⟩
  iapply (signalG m ρ K c (dev1_eq c) rfl (ne1 c) rfl ((c + 2, 0) :: (c + 3, 0) :: (kvL c ++ arL c))) $$ [HO HT1 HB1]
  · isplitr; · iexact HR
    isplitl [HO]; · iexact HO
    isplitl [HT1]; · iexact HT1
    iexact HB1
  iintro HO
  iapply (signalG m ρ K c (dev2_eq c) rfl (ne2 c) rfl ((c + 3, 0) :: (kvL c ++ arL c))) $$ [HO HT2 HB2]
  · isplitr; · iexact HR
    isplitl [HO]; · iexact HO
    isplitl [HT2]; · iexact HT2
    iexact HB2
  iintro HO
  iapply (signalG m ρ K c (dev3_eq c) rfl (ne3 c) rfl (kvL c ++ arL c)) $$ [HO HT3 HB3]
  · isplitr; · iexact HR
    isplitl [HO]; · iexact HO
    isplitl [HT3]; · iexact HT3
    iexact HB3
  iintro HO
  iapply (waitG m ρ K c 0 (sm := .reg barS) rfl (wpE_semWait_eq 𝒱₀ (c : Thread nD τ) none Set.univ) (bar_amt c) (kvL c ++ arL c) (kv_above c)) $$ [HC0 HO HP0]
  · isplitr; · iexact HR
    isplitl [HC0]; · iexact HC0
    isplitl [HO]; · iexact HO
    iexact HP0
  iintro ⟨HO, HF0, Hgot⟩
  ihave Hgot := (bar_recv m ρ c) $$ Hgot
  icases Hgot with ⟨Hg0, Hg1, Hl1, Hl2⟩
  ihave Hks := (Entails.of_eq (mptE_def (F := F) ksM c)) $$ Hks
  icases Hks with ⟨%fks, Hks⟩
  ihave Hvs := (Entails.of_eq (mptE_def (F := F) vsM c)) $$ Hvs
  icases Hvs with ⟨%fvs, Hvs⟩
  unfold KvArr KvPos
  icases HKA with ⟨HA1, HA2, HA3, HA4, HA5, HA6⟩
  icases HKP with ⟨HP7, HP8, HP9, HP10, HP11, HP12, HP13, HP14, HP15, HP16, HP17, HP18⟩
  have hdisj : c = 0 ∨ c = 1 ∨ (c ≠ 0 ∧ c ≠ 1) := by
    by_cases a : c = 0
    · exact Or.inl a
    · by_cases b : c = 1
      · exact Or.inr (Or.inl b)
      · exact Or.inr (Or.inr ⟨a, b⟩)
  rcases hdisj with hc | hc | ⟨hc, hd⟩
  · have hC1 := (cond1_iff c).mpr hc
    have hC2 : ¬ k0_cond2 c = 1#1 := fun h => absurd ((cond2_iff c).mp h) (by rw [hc]; decide)
    have eT : KvTok (F := F) c = iprop(Tok c (1, 1) ∗ Tok c (2, 1) ∗ Tok c (3, 1) ∗ Tok c (1, 2) ∗ Tok c (1, 3) ∗ Tok c (1, 4) ∗ Tok c (2, 2) ∗ Tok c (2, 3) ∗ Tok c (2, 4) ∗ Tok c (3, 2) ∗ Tok c (3, 3) ∗ Tok c (3, 4) ∗ Tok c (c, 7) ∗ Tok c (c, 8) ∗ Tok c (c, 9) ∗ Tok c (c, 10) ∗ Tok c (c, 11) ∗ Tok c (c, 12) ∗ Tok c (c, 13) ∗ Tok c (c, 14) ∗ Tok c (c, 15) ∗ Tok c (c, 16) ∗ Tok c (c, 17) ∗ Tok c (c, 18)) := by rw [hc]; rfl
    ihave HKT := (Entails.of_eq eT) $$ HKT
    icases HKT with ⟨TA1x1, TA2x1, TA3x1, TA1x2, TA1x3, TA1x4, TA2x2, TA2x3, TA2x4, TA3x2, TA3x3, TA3x4, TD7, TD8, TD9, TD10, TD11, TD12, TD13, TD14, TD15, TD16, TD17, TD18⟩
    have eO : Ow (F := F) c (kvL c ++ arL c) = Ow c ((1, 1) :: (2, 1) :: (3, 1) :: (1, 2) :: (1, 3) :: (1, 4) :: (2, 2) :: (2, 3) :: (2, 4) :: (3, 2) :: (3, 3) :: (3, 4) :: arL c) := by rw [hc]; rfl
    ihave HO := (Entails.of_eq eO) $$ HO
    have eK : kbKeep (F := F) c = iprop((∃ f : Buf (Elt F) ((bL kbM).view.loc (c : Thread nD τ)), (bL kbM).view.loc (c : Thread nD τ) ↦[(bL kbM).view.set]{fullShare} f)
        ∗ (∃ f : Buf (Elt F) ((bL vbM).view.loc (c : Thread nD τ)), (bL vbM).view.loc (c : Thread nD τ) ↦[(bL vbM).view.set]{fullShare} f)) := if_pos hc
    ihave Hkeep := (Entails.of_eq eK) $$ Hkeep
    icases Hkeep with ⟨⟨%fkb, Hkb⟩, ⟨%fvb, Hvb⟩⟩
    ihave Hg0 := (Entails.of_eq (if_pos hc)) $$ Hg0
    unfold give0
    icases Hg0 with ⟨⟨HDkA1, HDvA1, HDkB1, HDvB1⟩, ⟨HDkA2, HDvA2, HDkB2, HDvB2⟩, ⟨HDkA3, HDvA3, HDkB3, HDvB3⟩⟩
    sl_exec
    ihave Hks := (Entails.of_eq (ks_store0 m ρ c hc _ _ ?hXk)) $$ Hks
    case hXk => rfl
    ihave Hks := (ks_split0 (F := F) c (ks0 m ρ)) $$ Hks
    icases Hks with ⟨HkA1, HkA2, HkA3, HkB1, HkB2, HkB3, HkL, HkR⟩
    iapply (sendK m ρ K c 7 1 (c' := 1) (Fin.ext k0_dev4_eq) (src := sA1 ksM) (dst := bA kbM) rfl rfl (ks0 m ρ) (kAll m ρ 1) (by rw [hc]; decide) (by rw [hc]; decide)
      (by rw [hc]; rfl) (by rfl) (by rw [hc]; rfl) (by rw [hc]; rfl) (kread_A (ks0 m ρ) (ks1 m ρ) 1) ((2, 1) :: (3, 1) :: (1, 2) :: (1, 3) :: (1, 4) :: (2, 2) :: (2, 3) :: (2, 4) :: (3, 2) :: (3, 3) :: (3, 4) :: arL c)) $$ [HkA1 HDkA1 HO TA1x1 TD7 HP7]
    · isplitr; · iexact HR
      isplitl [HkA1]; · iexact HkA1
      isplitl [HDkA1]; · iexact HDkA1
      isplitl [HO]; · iexact HO
      isplitl [TA1x1]; · iexact TA1x1
      isplitl [TD7]; · iexact TD7
      iexact HP7
    iintro ⟨HD7, HO⟩
    sl_exec
    iapply (sendK m ρ K c 11 1 (c' := 2) (Fin.ext k0_dev5_eq) (src := sA2 ksM) (dst := bA kbM) rfl rfl (ks0 m ρ) (kAll m ρ 2) (by rw [hc]; decide) (by rw [hc]; decide)
      (by rw [hc]; rfl) (by rfl) (by rw [hc]; rfl) (by rw [hc]; rfl) (kread_A (ks0 m ρ) (ks1 m ρ) 2) ((3, 1) :: (1, 2) :: (1, 3) :: (1, 4) :: (2, 2) :: (2, 3) :: (2, 4) :: (3, 2) :: (3, 3) :: (3, 4) :: arL c)) $$ [HkA2 HDkA2 HO TA2x1 TD11 HP11]
    · isplitr; · iexact HR
      isplitl [HkA2]; · iexact HkA2
      isplitl [HDkA2]; · iexact HDkA2
      isplitl [HO]; · iexact HO
      isplitl [TA2x1]; · iexact TA2x1
      isplitl [TD11]; · iexact TD11
      iexact HP11
    iintro ⟨HD11, HO⟩
    sl_exec
    iapply (sendK m ρ K c 15 1 (c' := 3) (Fin.ext k0_dev6_eq) (src := sA3 ksM) (dst := bA kbM) rfl rfl (ks0 m ρ) (kAll m ρ 3) (by rw [hc]; decide) (by rw [hc]; decide)
      (by rw [hc]; rfl) (by rfl) (by rw [hc]; rfl) (by rw [hc]; rfl) (kread_A (ks0 m ρ) (ks1 m ρ) 3) ((1, 2) :: (1, 3) :: (1, 4) :: (2, 2) :: (2, 3) :: (2, 4) :: (3, 2) :: (3, 3) :: (3, 4) :: arL c)) $$ [HkA3 HDkA3 HO TA3x1 TD15 HP15]
    · isplitr; · iexact HR
      isplitl [HkA3]; · iexact HkA3
      isplitl [HDkA3]; · iexact HDkA3
      isplitl [HO]; · iexact HO
      isplitl [TA3x1]; · iexact TA3x1
      isplitl [TD15]; · iexact TD15
      iexact HP15
    iintro ⟨HD15, HO⟩
    sl_exec
    ihave Hvs := (Entails.of_eq (vs_store0 m ρ c hc _ _ ?hXv)) $$ Hvs
    case hXv => rfl
    ihave Hvs := (vs_split0 (F := F) c (vs0 m ρ)) $$ Hvs
    icases Hvs with ⟨HvA1, HvA2, HvA3, HvB1, HvB2, HvB3, HvL, HvR⟩
    iapply (sendK m ρ K c 8 2 (c' := 1) (Fin.ext k0_dev7_eq) (src := sA1 vsM) (dst := bA vbM) rfl rfl (vs0 m ρ) (vAll m ρ 1) (by rw [hc]; decide) (by rw [hc]; decide)
      (by rw [hc]; rfl) (by rfl) (by rw [hc]; rfl) (by rw [hc]; rfl) (kread_A (vs0 m ρ) (vs1 m ρ) 1) ((1, 3) :: (1, 4) :: (2, 2) :: (2, 3) :: (2, 4) :: (3, 2) :: (3, 3) :: (3, 4) :: arL c)) $$ [HvA1 HDvA1 HO TA1x2 TD8 HP8]
    · isplitr; · iexact HR
      isplitl [HvA1]; · iexact HvA1
      isplitl [HDvA1]; · iexact HDvA1
      isplitl [HO]; · iexact HO
      isplitl [TA1x2]; · iexact TA1x2
      isplitl [TD8]; · iexact TD8
      iexact HP8
    iintro ⟨HD8, HO⟩
    sl_exec
    iapply (sendK m ρ K c 9 3 (c' := 1) (Fin.ext k0_dev8_eq) (src := sB1 ksM) (dst := bB kbM) rfl rfl (ks0 m ρ) (kAll m ρ 1) (by rw [hc]; decide) (by rw [hc]; decide)
      (by rw [hc]; rfl) (by rfl) (by rw [hc]; rfl) (by rw [hc]; rfl) (kread_B (ks0 m ρ) (ks1 m ρ) 1) ((1, 4) :: (2, 2) :: (2, 3) :: (2, 4) :: (3, 2) :: (3, 3) :: (3, 4) :: arL c)) $$ [HkB1 HDkB1 HO TA1x3 TD9 HP9]
    · isplitr; · iexact HR
      isplitl [HkB1]; · iexact HkB1
      isplitl [HDkB1]; · iexact HDkB1
      isplitl [HO]; · iexact HO
      isplitl [TA1x3]; · iexact TA1x3
      isplitl [TD9]; · iexact TD9
      iexact HP9
    iintro ⟨HD9, HO⟩
    sl_exec
    iapply (sendK m ρ K c 10 4 (c' := 1) (Fin.ext k0_dev9_eq) (src := sB1 vsM) (dst := bB vbM) rfl rfl (vs0 m ρ) (vAll m ρ 1) (by rw [hc]; decide) (by rw [hc]; decide)
      (by rw [hc]; rfl) (by rfl) (by rw [hc]; rfl) (by rw [hc]; rfl) (kread_B (vs0 m ρ) (vs1 m ρ) 1) ((2, 2) :: (2, 3) :: (2, 4) :: (3, 2) :: (3, 3) :: (3, 4) :: arL c)) $$ [HvB1 HDvB1 HO TA1x4 TD10 HP10]
    · isplitr; · iexact HR
      isplitl [HvB1]; · iexact HvB1
      isplitl [HDvB1]; · iexact HDvB1
      isplitl [HO]; · iexact HO
      isplitl [TA1x4]; · iexact TA1x4
      isplitl [TD10]; · iexact TD10
      iexact HP10
    iintro ⟨HD10, HO⟩
    sl_exec
    iapply (sendK m ρ K c 12 2 (c' := 2) (Fin.ext k0_dev10_eq) (src := sA2 vsM) (dst := bA vbM) rfl rfl (vs0 m ρ) (vAll m ρ 2) (by rw [hc]; decide) (by rw [hc]; decide)
      (by rw [hc]; rfl) (by rfl) (by rw [hc]; rfl) (by rw [hc]; rfl) (kread_A (vs0 m ρ) (vs1 m ρ) 2) ((2, 3) :: (2, 4) :: (3, 2) :: (3, 3) :: (3, 4) :: arL c)) $$ [HvA2 HDvA2 HO TA2x2 TD12 HP12]
    · isplitr; · iexact HR
      isplitl [HvA2]; · iexact HvA2
      isplitl [HDvA2]; · iexact HDvA2
      isplitl [HO]; · iexact HO
      isplitl [TA2x2]; · iexact TA2x2
      isplitl [TD12]; · iexact TD12
      iexact HP12
    iintro ⟨HD12, HO⟩
    sl_exec
    iapply (sendK m ρ K c 13 3 (c' := 2) (Fin.ext k0_dev11_eq) (src := sB2 ksM) (dst := bB kbM) rfl rfl (ks0 m ρ) (kAll m ρ 2) (by rw [hc]; decide) (by rw [hc]; decide)
      (by rw [hc]; rfl) (by rfl) (by rw [hc]; rfl) (by rw [hc]; rfl) (kread_B (ks0 m ρ) (ks1 m ρ) 2) ((2, 4) :: (3, 2) :: (3, 3) :: (3, 4) :: arL c)) $$ [HkB2 HDkB2 HO TA2x3 TD13 HP13]
    · isplitr; · iexact HR
      isplitl [HkB2]; · iexact HkB2
      isplitl [HDkB2]; · iexact HDkB2
      isplitl [HO]; · iexact HO
      isplitl [TA2x3]; · iexact TA2x3
      isplitl [TD13]; · iexact TD13
      iexact HP13
    iintro ⟨HD13, HO⟩
    sl_exec
    iapply (sendK m ρ K c 14 4 (c' := 2) (Fin.ext k0_dev12_eq) (src := sB2 vsM) (dst := bB vbM) rfl rfl (vs0 m ρ) (vAll m ρ 2) (by rw [hc]; decide) (by rw [hc]; decide)
      (by rw [hc]; rfl) (by rfl) (by rw [hc]; rfl) (by rw [hc]; rfl) (kread_B (vs0 m ρ) (vs1 m ρ) 2) ((3, 2) :: (3, 3) :: (3, 4) :: arL c)) $$ [HvB2 HDvB2 HO TA2x4 TD14 HP14]
    · isplitr; · iexact HR
      isplitl [HvB2]; · iexact HvB2
      isplitl [HDvB2]; · iexact HDvB2
      isplitl [HO]; · iexact HO
      isplitl [TA2x4]; · iexact TA2x4
      isplitl [TD14]; · iexact TD14
      iexact HP14
    iintro ⟨HD14, HO⟩
    sl_exec
    iapply (sendK m ρ K c 16 2 (c' := 3) (Fin.ext k0_dev13_eq) (src := sA3 vsM) (dst := bA vbM) rfl rfl (vs0 m ρ) (vAll m ρ 3) (by rw [hc]; decide) (by rw [hc]; decide)
      (by rw [hc]; rfl) (by rfl) (by rw [hc]; rfl) (by rw [hc]; rfl) (kread_A (vs0 m ρ) (vs1 m ρ) 3) ((3, 3) :: (3, 4) :: arL c)) $$ [HvA3 HDvA3 HO TA3x2 TD16 HP16]
    · isplitr; · iexact HR
      isplitl [HvA3]; · iexact HvA3
      isplitl [HDvA3]; · iexact HDvA3
      isplitl [HO]; · iexact HO
      isplitl [TA3x2]; · iexact TA3x2
      isplitl [TD16]; · iexact TD16
      iexact HP16
    iintro ⟨HD16, HO⟩
    sl_exec
    iapply (sendK m ρ K c 17 3 (c' := 3) (Fin.ext k0_dev14_eq) (src := sB3 ksM) (dst := bB kbM) rfl rfl (ks0 m ρ) (kAll m ρ 3) (by rw [hc]; decide) (by rw [hc]; decide)
      (by rw [hc]; rfl) (by rfl) (by rw [hc]; rfl) (by rw [hc]; rfl) (kread_B (ks0 m ρ) (ks1 m ρ) 3) ((3, 4) :: arL c)) $$ [HkB3 HDkB3 HO TA3x3 TD17 HP17]
    · isplitr; · iexact HR
      isplitl [HkB3]; · iexact HkB3
      isplitl [HDkB3]; · iexact HDkB3
      isplitl [HO]; · iexact HO
      isplitl [TA3x3]; · iexact TA3x3
      isplitl [TD17]; · iexact TD17
      iexact HP17
    iintro ⟨HD17, HO⟩
    iapply (sendK m ρ K c 18 4 (c' := 3) (Fin.ext k0_dev15_eq) (src := sB3 vsM) (dst := bB vbM) rfl rfl (vs0 m ρ) (vAll m ρ 3) (by rw [hc]; decide) (by rw [hc]; decide)
      (by rw [hc]; rfl) (by rfl) (by rw [hc]; rfl) (by rw [hc]; rfl) (kread_B (vs0 m ρ) (vs1 m ρ) 3) (arL c)) $$ [HvB3 HDvB3 HO TA3x4 TD18 HP18]
    · isplitr; · iexact HR
      isplitl [HvB3]; · iexact HvB3
      isplitl [HDvB3]; · iexact HDvB3
      isplitl [HO]; · iexact HO
      isplitl [TA3x4]; · iexact TA3x4
      isplitl [TD18]; · iexact TD18
      iexact HP18
    iintro ⟨HD18, HO⟩
    iapply (wp_next (F := F) c _ _ _)
    sl_exec
    ihave Hkb := (Entails.of_eq (kb_store0 m ρ c hc _ _ ?hXl)) $$ Hkb
    case hXl => rfl
    ihave Hkb := (kbM_AB (F := F) c (kAll m ρ c)) $$ Hkb
    icases Hkb with ⟨HkbA, HkbB⟩
    ihave Hvb := (Entails.of_eq (vb_store0 m ρ c hc _ _ ?hXl)) $$ Hvb
    case hXl => rfl
    ihave Hvb := (vbM_AB (F := F) c (vAll m ρ c)) $$ Hvb
    icases Hvb with ⟨HvbA, HvbB⟩
    imod (arr_have m ρ K c 1 (by rw [hc]; decide) (mpt (bA kbM) c fullShare (kAll m ρ c)) rfl) $$ [HA1 HkbA] with HA1
    · isplitr; · iexact HR
      isplitl [HA1]; · iexact HA1
      iexact HkbA
    imod (arr_have m ρ K c 2 (by rw [hc]; decide) (mpt (bA vbM) c fullShare (vAll m ρ c)) rfl) $$ [HA2 HvbA] with HA2
    · isplitr; · iexact HR
      isplitl [HA2]; · iexact HA2
      iexact HvbA
    imod (arr_have m ρ K c 3 (by rw [hc]; decide) (mpt (bB kbM) c fullShare (kAll m ρ c)) rfl) $$ [HA3 HkbB] with HA3
    · isplitr; · iexact HR
      isplitl [HA3]; · iexact HA3
      iexact HkbB
    imod (arr_have m ρ K c 4 (by rw [hc]; decide) (mpt (bB vbM) c fullShare (vAll m ρ c)) rfl) $$ [HA4 HvbB] with HA4
    · isplitr; · iexact HR
      isplitl [HA4]; · iexact HA4
      iexact HvbB
    ihave HA5 := (arr_keep m ρ c 5 (by rw [hc]; decide)) $$ HA5
    ihave HA6 := (arr_keep m ρ c 6 (by rw [hc]; decide)) $$ HA6
    ihave Hq := (Entails.of_eq (q_store m ρ c _ _ ?hXq)) $$ Hq
    case hXq => rfl
    ihave Hb0 := (Entails.of_eq (b0M_store c _ _ ?hXb)) $$ Hb0
    case hXb => rfl
    ihave Hb1 := (Entails.of_eq (b1M_store c _ _ ?hXb)) $$ Hb1
    case hXb => rfl
    iapply Hcont
    isplitl [HO]; · iexact HO
    isplitl [HF0]; · iexact HF0
    isplitl [HA1]; · iexact HA1
    isplitl [HA2]; · iexact HA2
    isplitl [HA3]; · iexact HA3
    isplitl [HA4]; · iexact HA4
    isplitl [HA5]; · iexact HA5
    isplitl [HA6]; · iexact HA6
    isplitl [HD7 HD8 HD9 HD10 HD11 HD12 HD13 HD14 HD15 HD16 HD17 HD18]
    · unfold Deps
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      iexact HD18
    isplitl [HkL HkR HvL HvR]
    · iapply (Entails.of_eq (show Stg (F := F) c = _ from if_pos hc).symm)
      isplitl [HkL HkR]
      · isplitl [HkL]; · iapply (mptE_intro (sL ksM) c _); iexact HkL
        iexists _; iexact HkR
      isplitl [HvL]; · iapply (mptE_intro (sL vsM) c _); iexact HvL
      iexists _; iexact HvR
    isplitl [Hl1]; · iexact Hl1
    isplitl [Hl2]; · iexact Hl2
    isplitl [Hq]; · iexact Hq
    isplitl [Hb0]; · iexact Hb0
    isplitl [Hb1]; · iexact Hb1
    isplitl [Hx]; · iexact Hx
    isplitl [Hwq]; · iexact Hwq
    isplitl [Hk]; · iexact Hk
    iexact Hv

  · have hC1 : ¬ k0_cond1 c = 1#1 := fun h => absurd ((cond1_iff c).mp h) (by rw [hc]; decide)
    have hC2 := (cond2_iff c).mpr hc
    have h01 : ¬ c = 0 := by rw [hc]; decide
    have eT : KvTok (F := F) c = iprop(Tok c (0, 5) ∗ Tok c (0, 6) ∗ Tok c (2, 5) ∗ Tok c (2, 6) ∗ Tok c (3, 5) ∗ Tok c (3, 6) ∗ Tok c (c, 7) ∗ Tok c (c, 8) ∗ Tok c (c, 11) ∗ Tok c (c, 12) ∗ Tok c (c, 15) ∗ Tok c (c, 16)) := by rw [hc]; rfl
    ihave HKT := (Entails.of_eq eT) $$ HKT
    icases HKT with ⟨TA0x5, TA0x6, TA2x5, TA2x6, TA3x5, TA3x6, TD7, TD8, TD11, TD12, TD15, TD16⟩
    have eO : Ow (F := F) c (kvL c ++ arL c) = Ow c ((0, 5) :: (0, 6) :: (2, 5) :: (2, 6) :: (3, 5) :: (3, 6) :: arL c) := by rw [hc]; rfl
    ihave HO := (Entails.of_eq eO) $$ HO
    have eK : kbKeep (F := F) c = iprop((∃ f : Buf (Elt F) ((bC kbM).view.loc (c : Thread nD τ)), (bC kbM).view.loc (c : Thread nD τ) ↦[(bC kbM).view.set]{fullShare} f)
        ∗ (∃ f : Buf (Elt F) ((bC vbM).view.loc (c : Thread nD τ)), (bC vbM).view.loc (c : Thread nD τ) ↦[(bC vbM).view.set]{fullShare} f)) := (if_neg h01).trans (if_pos hc)
    ihave Hkeep := (Entails.of_eq eK) $$ Hkeep
    icases Hkeep with ⟨⟨%fkb, Hkb⟩, ⟨%fvb, Hvb⟩⟩
    ihave Hg1 := (Entails.of_eq (if_pos hc)) $$ Hg1
    unfold give1
    icases Hg1 with ⟨⟨HDkC0, HDvC0⟩, ⟨HDkC2, HDvC2⟩, ⟨HDkC3, HDvC3⟩⟩
    sl_exec
    ihave Hks := (ks_split1 (F := F) c _) $$ Hks
    icases Hks with ⟨HkC0, HkC2, HkC3, HkC1, HkR⟩
    ihave HkC0 := (Entails.of_eq (ks_store1 m ρ c hc 0 _ _ ?hXk)) $$ HkC0
    case hXk => rfl
    ihave HkC2 := (Entails.of_eq (ks_store1 m ρ c hc 2 _ _ ?hXk)) $$ HkC2
    case hXk => rfl
    ihave HkC3 := (Entails.of_eq (ks_store1 m ρ c hc 3 _ _ ?hXk)) $$ HkC3
    case hXk => rfl
    ihave HkC1 := (Entails.of_eq (ks_store1 m ρ c hc 1 _ _ ?hXk)) $$ HkC1
    case hXk => rfl
    ihave HkC1 := (Entails.of_eq (show mpt (sC ksM 1) c fullShare (ks1 m ρ) = ((sC1 ksM).view.loc (c : Thread nD τ) ↦[(sC1 ksM).view.set]{fullShare} ks1 m ρ) from rfl)) $$ HkC1
    ihave Hvs := (vs_split1 (F := F) c _) $$ Hvs
    icases Hvs with ⟨HvC0, HvC2, HvC3, HvC1, HvR⟩
    ihave HvC0 := (Entails.of_eq (vs_store1 m ρ c hc 0 _ _ ?hXk)) $$ HvC0
    case hXk => rfl
    ihave HvC2 := (Entails.of_eq (vs_store1 m ρ c hc 2 _ _ ?hXk)) $$ HvC2
    case hXk => rfl
    ihave HvC3 := (Entails.of_eq (vs_store1 m ρ c hc 3 _ _ ?hXk)) $$ HvC3
    case hXk => rfl
    ihave HvC1 := (Entails.of_eq (vs_store1 m ρ c hc 1 _ _ ?hXk)) $$ HvC1
    case hXk => rfl
    ihave HvC1 := (Entails.of_eq (show mpt (sC vsM 1) c fullShare (vs1 m ρ) = ((sC1 vsM).view.loc (c : Thread nD τ) ↦[(sC1 vsM).view.set]{fullShare} vs1 m ρ) from rfl)) $$ HvC1
    iapply (sendK m ρ K c 7 5 (c' := 0) (Fin.ext k0_dev16_eq) (src := sC0 ksM) (dst := bC kbM) rfl rfl (ks1 m ρ) (kAll m ρ 0) (by rw [hc]; decide) (by rw [hc]; decide)
      (by rw [hc]; rfl) (by rfl) (by rw [hc]; rfl) (by rw [hc]; rfl) (kread_C (ks0 m ρ) (ks1 m ρ) 0) ((0, 6) :: (2, 5) :: (2, 6) :: (3, 5) :: (3, 6) :: arL c)) $$ [HkC0 HDkC0 HO TA0x5 TD7 HP7]
    · isplitr; · iexact HR
      isplitl [HkC0]; · iexact HkC0
      isplitl [HDkC0]; · iexact HDkC0
      isplitl [HO]; · iexact HO
      isplitl [TA0x5]; · iexact TA0x5
      isplitl [TD7]; · iexact TD7
      iexact HP7
    iintro ⟨HD7, HO⟩
    sl_exec
    iapply (sendK m ρ K c 8 6 (c' := 0) (Fin.ext k0_dev17_eq) (src := sC0 vsM) (dst := bC vbM) rfl rfl (vs1 m ρ) (vAll m ρ 0) (by rw [hc]; decide) (by rw [hc]; decide)
      (by rw [hc]; rfl) (by rfl) (by rw [hc]; rfl) (by rw [hc]; rfl) (kread_C (vs0 m ρ) (vs1 m ρ) 0) ((2, 5) :: (2, 6) :: (3, 5) :: (3, 6) :: arL c)) $$ [HvC0 HDvC0 HO TA0x6 TD8 HP8]
    · isplitr; · iexact HR
      isplitl [HvC0]; · iexact HvC0
      isplitl [HDvC0]; · iexact HDvC0
      isplitl [HO]; · iexact HO
      isplitl [TA0x6]; · iexact TA0x6
      isplitl [TD8]; · iexact TD8
      iexact HP8
    iintro ⟨HD8, HO⟩
    sl_exec
    iapply (sendK m ρ K c 11 5 (c' := 2) (Fin.ext k0_dev18_eq) (src := sC2 ksM) (dst := bC kbM) rfl rfl (ks1 m ρ) (kAll m ρ 2) (by rw [hc]; decide) (by rw [hc]; decide)
      (by rw [hc]; rfl) (by rfl) (by rw [hc]; rfl) (by rw [hc]; rfl) (kread_C (ks0 m ρ) (ks1 m ρ) 2) ((2, 6) :: (3, 5) :: (3, 6) :: arL c)) $$ [HkC2 HDkC2 HO TA2x5 TD11 HP11]
    · isplitr; · iexact HR
      isplitl [HkC2]; · iexact HkC2
      isplitl [HDkC2]; · iexact HDkC2
      isplitl [HO]; · iexact HO
      isplitl [TA2x5]; · iexact TA2x5
      isplitl [TD11]; · iexact TD11
      iexact HP11
    iintro ⟨HD11, HO⟩
    sl_exec
    iapply (sendK m ρ K c 12 6 (c' := 2) (Fin.ext k0_dev19_eq) (src := sC2 vsM) (dst := bC vbM) rfl rfl (vs1 m ρ) (vAll m ρ 2) (by rw [hc]; decide) (by rw [hc]; decide)
      (by rw [hc]; rfl) (by rfl) (by rw [hc]; rfl) (by rw [hc]; rfl) (kread_C (vs0 m ρ) (vs1 m ρ) 2) ((3, 5) :: (3, 6) :: arL c)) $$ [HvC2 HDvC2 HO TA2x6 TD12 HP12]
    · isplitr; · iexact HR
      isplitl [HvC2]; · iexact HvC2
      isplitl [HDvC2]; · iexact HDvC2
      isplitl [HO]; · iexact HO
      isplitl [TA2x6]; · iexact TA2x6
      isplitl [TD12]; · iexact TD12
      iexact HP12
    iintro ⟨HD12, HO⟩
    sl_exec
    iapply (sendK m ρ K c 15 5 (c' := 3) (Fin.ext k0_dev20_eq) (src := sC3 ksM) (dst := bC kbM) rfl rfl (ks1 m ρ) (kAll m ρ 3) (by rw [hc]; decide) (by rw [hc]; decide)
      (by rw [hc]; rfl) (by rfl) (by rw [hc]; rfl) (by rw [hc]; rfl) (kread_C (ks0 m ρ) (ks1 m ρ) 3) ((3, 6) :: arL c)) $$ [HkC3 HDkC3 HO TA3x5 TD15 HP15]
    · isplitr; · iexact HR
      isplitl [HkC3]; · iexact HkC3
      isplitl [HDkC3]; · iexact HDkC3
      isplitl [HO]; · iexact HO
      isplitl [TA3x5]; · iexact TA3x5
      isplitl [TD15]; · iexact TD15
      iexact HP15
    iintro ⟨HD15, HO⟩
    iapply (sendK m ρ K c 16 6 (c' := 3) (Fin.ext k0_dev21_eq) (src := sC3 vsM) (dst := bC vbM) rfl rfl (vs1 m ρ) (vAll m ρ 3) (by rw [hc]; decide) (by rw [hc]; decide)
      (by rw [hc]; rfl) (by rfl) (by rw [hc]; rfl) (by rw [hc]; rfl) (kread_C (vs0 m ρ) (vs1 m ρ) 3) (arL c)) $$ [HvC3 HDvC3 HO TA3x6 TD16 HP16]
    · isplitr; · iexact HR
      isplitl [HvC3]; · iexact HvC3
      isplitl [HDvC3]; · iexact HDvC3
      isplitl [HO]; · iexact HO
      isplitl [TA3x6]; · iexact TA3x6
      isplitl [TD16]; · iexact TD16
      iexact HP16
    iintro ⟨HD16, HO⟩
    iapply (wp_next (F := F) c _ _ _)
    sl_exec
    ihave Hkb := (Entails.of_eq (kb_store1 m ρ c hc _ _ ?hXl)) $$ Hkb
    case hXl => rfl
    ihave Hvb := (Entails.of_eq (vb_store1 m ρ c hc _ _ ?hXl)) $$ Hvb
    case hXl => rfl
    ihave HA1 := (arr_keep m ρ c 1 (by rw [hc]; decide)) $$ HA1
    ihave HA2 := (arr_keep m ρ c 2 (by rw [hc]; decide)) $$ HA2
    ihave HA3 := (arr_keep m ρ c 3 (by rw [hc]; decide)) $$ HA3
    ihave HA4 := (arr_keep m ρ c 4 (by rw [hc]; decide)) $$ HA4
    imod (arr_have m ρ K c 5 (by rw [hc]; decide) (mpt (bC kbM) c fullShare (kAll m ρ c)) rfl) $$ [HA5 Hkb] with HA5
    · isplitr; · iexact HR
      isplitl [HA5]; · iexact HA5
      iexact Hkb
    imod (arr_have m ρ K c 6 (by rw [hc]; decide) (mpt (bC vbM) c fullShare (vAll m ρ c)) rfl) $$ [HA6 Hvb] with HA6
    · isplitr; · iexact HR
      isplitl [HA6]; · iexact HA6
      iexact Hvb
    imod (closeDep m ρ K c 9 (by rw [hc]; decide)) $$ [HP9] with HD9
    · isplitr; · iexact HR
      iexact HP9
    imod (closeDep m ρ K c 10 (by rw [hc]; decide)) $$ [HP10] with HD10
    · isplitr; · iexact HR
      iexact HP10
    imod (closeDep m ρ K c 13 (by rw [hc]; decide)) $$ [HP13] with HD13
    · isplitr; · iexact HR
      iexact HP13
    imod (closeDep m ρ K c 14 (by rw [hc]; decide)) $$ [HP14] with HD14
    · isplitr; · iexact HR
      iexact HP14
    imod (closeDep m ρ K c 17 (by rw [hc]; decide)) $$ [HP17] with HD17
    · isplitr; · iexact HR
      iexact HP17
    imod (closeDep m ρ K c 18 (by rw [hc]; decide)) $$ [HP18] with HD18
    · isplitr; · iexact HR
      iexact HP18
    ihave Hq := (Entails.of_eq (q_store m ρ c _ _ ?hXq)) $$ Hq
    case hXq => rfl
    ihave Hb0 := (Entails.of_eq (b0M_store c _ _ ?hXb)) $$ Hb0
    case hXb => rfl
    ihave Hb1 := (Entails.of_eq (b1M_store c _ _ ?hXb)) $$ Hb1
    case hXb => rfl
    iapply Hcont
    isplitl [HO]; · iexact HO
    isplitl [HF0]; · iexact HF0
    isplitl [HA1]; · iexact HA1
    isplitl [HA2]; · iexact HA2
    isplitl [HA3]; · iexact HA3
    isplitl [HA4]; · iexact HA4
    isplitl [HA5]; · iexact HA5
    isplitl [HA6]; · iexact HA6
    isplitl [HD7 HD8 HD9 HD10 HD11 HD12 HD13 HD14 HD15 HD16 HD17 HD18]
    · unfold Deps
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      iexact HD18
    isplitl [HkC1 HkR HvC1 HvR]
    · iapply (Entails.of_eq (show Stg (F := F) c = _ from (if_neg h01).trans (if_pos hc)).symm)
      isplitl [HkC1 HkR]
      · isplitl [HkC1]; · iapply (mptE_intro (sC1 ksM) c _); iexact HkC1
        iexists _; iexact HkR
      isplitl [HvC1]; · iapply (mptE_intro (sC1 vsM) c _); iexact HvC1
      iexists _; iexact HvR
    isplitl [Hl1]; · iexact Hl1
    isplitl [Hl2]; · iexact Hl2
    isplitl [Hq]; · iexact Hq
    isplitl [Hb0]; · iexact Hb0
    isplitl [Hb1]; · iexact Hb1
    isplitl [Hx]; · iexact Hx
    isplitl [Hwq]; · iexact Hwq
    isplitl [Hk]; · iexact Hk
    iexact Hv

  · have hC1 : ¬ k0_cond1 c = 1#1 := fun h => hc ((cond1_iff c).mp h)
    have hC2 : ¬ k0_cond2 c = 1#1 := fun h => hd ((cond2_iff c).mp h)
    have hkv : kvL c = [] := by unfold kvL; rw [if_neg hc, if_neg hd]
    have eO : Ow (F := F) c (kvL c ++ arL c) = Ow c (arL c) := by rw [hkv]; rfl
    ihave HO := (Entails.of_eq eO) $$ HO
    sl_exec
    ihave HA1 := (arr_keep m ρ c 1 (by exact arr_ne c hc hd 1 (by decide))) $$ HA1
    ihave HA2 := (arr_keep m ρ c 2 (by exact arr_ne c hc hd 2 (by decide))) $$ HA2
    ihave HA3 := (arr_keep m ρ c 3 (by exact arr_ne c hc hd 3 (by decide))) $$ HA3
    ihave HA4 := (arr_keep m ρ c 4 (by exact arr_ne c hc hd 4 (by decide))) $$ HA4
    ihave HA5 := (arr_keep m ρ c 5 (by exact arr_ne c hc hd 5 (by decide))) $$ HA5
    ihave HA6 := (arr_keep m ρ c 6 (by exact arr_ne c hc hd 6 (by decide))) $$ HA6
    imod (closeDep m ρ K c 7 (payers_none c hc hd 7 (by decide))) $$ [HP7] with HD7
    · isplitr; · iexact HR
      iexact HP7
    imod (closeDep m ρ K c 8 (payers_none c hc hd 8 (by decide))) $$ [HP8] with HD8
    · isplitr; · iexact HR
      iexact HP8
    imod (closeDep m ρ K c 9 (payers_none c hc hd 9 (by decide))) $$ [HP9] with HD9
    · isplitr; · iexact HR
      iexact HP9
    imod (closeDep m ρ K c 10 (payers_none c hc hd 10 (by decide))) $$ [HP10] with HD10
    · isplitr; · iexact HR
      iexact HP10
    imod (closeDep m ρ K c 11 (payers_none c hc hd 11 (by decide))) $$ [HP11] with HD11
    · isplitr; · iexact HR
      iexact HP11
    imod (closeDep m ρ K c 12 (payers_none c hc hd 12 (by decide))) $$ [HP12] with HD12
    · isplitr; · iexact HR
      iexact HP12
    imod (closeDep m ρ K c 13 (payers_none c hc hd 13 (by decide))) $$ [HP13] with HD13
    · isplitr; · iexact HR
      iexact HP13
    imod (closeDep m ρ K c 14 (payers_none c hc hd 14 (by decide))) $$ [HP14] with HD14
    · isplitr; · iexact HR
      iexact HP14
    imod (closeDep m ρ K c 15 (payers_none c hc hd 15 (by decide))) $$ [HP15] with HD15
    · isplitr; · iexact HR
      iexact HP15
    imod (closeDep m ρ K c 16 (payers_none c hc hd 16 (by decide))) $$ [HP16] with HD16
    · isplitr; · iexact HR
      iexact HP16
    imod (closeDep m ρ K c 17 (payers_none c hc hd 17 (by decide))) $$ [HP17] with HD17
    · isplitr; · iexact HR
      iexact HP17
    imod (closeDep m ρ K c 18 (payers_none c hc hd 18 (by decide))) $$ [HP18] with HD18
    · isplitr; · iexact HR
      iexact HP18
    ihave Hq := (Entails.of_eq (q_store m ρ c _ _ ?hXq)) $$ Hq
    case hXq => rfl
    ihave Hb0 := (Entails.of_eq (b0M_store c _ _ ?hXb)) $$ Hb0
    case hXb => rfl
    ihave Hb1 := (Entails.of_eq (b1M_store c _ _ ?hXb)) $$ Hb1
    case hXb => rfl
    iapply Hcont
    isplitl [HO]; · iexact HO
    isplitl [HF0]; · iexact HF0
    isplitl [HA1]; · iexact HA1
    isplitl [HA2]; · iexact HA2
    isplitl [HA3]; · iexact HA3
    isplitl [HA4]; · iexact HA4
    isplitl [HA5]; · iexact HA5
    isplitl [HA6]; · iexact HA6
    isplitl [HD7 HD8 HD9 HD10 HD11 HD12 HD13 HD14 HD15 HD16 HD17 HD18]
    · unfold Deps
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      iexact HD18
    isplitl [Hks Hvs]
    · iapply (Entails.of_eq (show Stg (F := F) c = _ from (if_neg hc).trans (if_neg hd)).symm)
      isplitl [Hks]
      · iapply (mptE_intro ksM c _); iexact Hks
      iapply (mptE_intro vsM c _); iexact Hvs
    isplitl [Hl1]; · iexact Hl1
    isplitl [Hl2]; · iexact Hl2
    isplitl [Hq]; · iexact Hq
    isplitl [Hb0]; · iexact Hb0
    isplitl [Hb1]; · iexact Hb1
    isplitl [Hx]; · iexact Hx
    isplitl [Hwq]; · iexact Hwq
    isplitl [Hk]; · iexact Hk
    iexact Hv

end Cert.KernelIdealProof
-- ==== Proof.ISegB.lean ====
/-
# Rows 0 to 256

The arrivals of the first 384 rows of keys and values are awaited (device 0 has them), then sixteen heads and two windows of the
partial product are computed.
-/
module

public import proofs.«01_k».proof.Proof.ISeg

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxRecDepth 65536 in
set_option sl_exec.resultNames true in
/-- The second stretch: with the arrivals, the queries and the mask it leaves the first half of the partial product. -/
theorem segB_wp (K : Dev nD × Fin 28 → ℕ) (c : Dev nD) (v2 v98 : BitVec 32) (hv : Scalar.cmpi .ne v98 0#32 = 1#1 ↔ c ≠ 0)
    (k : PUnit → Prog (TpuEff nD τ sig (Elt F) Λ₀ .tc) PUnit) (Q : PUnit → sProp 𝕄) :
    iprop(recs m ρ K ∗ Ow c (arL c) ∗ Arr m ρ c 1 ∗ Arr m ρ c 2 ∗ mpt qM c fullShare (qAll m ρ c) ∗ mpt b0M c fullShare k0_pay13
      ∗ mptE ctxM c ∗ mpt woM c fullShare (wostg m ρ c) ∗ mptE (h0 pM) c
      ∗ ((Ow c (arL c) ∗ Fin0 c 1 ∗ Fin0 c 2 ∗ mpt (bA kbM) c fullShare (kAll m ρ c) ∗ mpt (bA vbM) c fullShare (vAll m ρ c)
          ∗ mpt qM c fullShare (qAll m ρ c) ∗ mpt b0M c fullShare k0_pay13 ∗ mptE ctxM c ∗ mpt woM c fullShare (wostg m ρ c)
          ∗ mpt (h0 pM) c fullShare (pAll m ρ c)) -∗ wp frame (wpE (defs₀ (F := F)) 𝒱₀ (c : Thread nD τ) none) Set.univ (k ⟨⟩) Q))
    ⊢ wp frame (wpE (defs₀ (F := F)) 𝒱₀ (c : Thread nD τ) none) Set.univ (segB v2 v98 0#32 k) Q := by
  unfold mptE segB
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold mpt
  by_cases hc : c = 0
  on_goal 1 =>
    have hC : ¬ (Scalar.cmpi .ne v98 0#32 = 1#1) := fun h => hv.mp h hc
    have e1 : Arr m ρ c 1 = iprop(Fin0 c 1 ∗ ((bA kbM).view.loc (c : Thread nD τ) ↦[(bA kbM).view.set]{fullShare} kAll m ρ c)) := by
      rw [arr_here m ρ c 1 (by subst hc; decide)]; rfl
    have e2 : Arr m ρ c 2 = iprop(Fin0 c 2 ∗ ((bA vbM).view.loc (c : Thread nD τ) ↦[(bA vbM).view.set]{fullShare} vAll m ρ c)) := by
      rw [arr_here m ρ c 2 (by subst hc; decide)]; rfl
    rw [e1, e2]
    iintro ⟨#HR, HO, ⟨HF1, Hkb⟩, ⟨HF2, Hvb⟩, Hq, Hb, ⟨%fc, Hc⟩, Hwo, ⟨%fp, Hp⟩, Hk⟩
  on_goal 2 =>
    have hC : Scalar.cmpi .ne v98 0#32 = 1#1 := hv.mpr hc
    have p1 : payers c 1 = {0} := by unfold payers; rw [if_neg (by decide), if_pos (by decide), if_neg hc]
    have p2 : payers c 2 = {0} := by unfold payers; rw [if_neg (by decide), if_pos (by decide), if_neg hc]
    rw [arr_await m ρ c 1 0 p1, arr_await m ρ c 2 0 p2]
    iintro ⟨#HR, HO, ⟨HC1, HP1⟩, ⟨HC2, HP2⟩, Hq, Hb, ⟨%fc, Hc⟩, Hwo, ⟨%fp, Hp⟩, Hk⟩
    sl_exec
    iapply (waitP m ρ K c 1 0 p1 rfl (by unfold amt; rfl) (arL c) (arL_above c _ (by decide))
      ((bA kbM).view.loc (c : Thread nD τ) ↦[(bA kbM).view.set]{fullShare} kAll m ρ c) rfl) $$ [HC1 HO HP1]
    · isplitr; · iexact HR
      iframe HC1 HO
      iexact HP1
    iintro ⟨HO, HF1, Hkb⟩
    sl_exec
    iapply (waitP m ρ K c 2 0 p2 rfl (by unfold amt; rfl) (arL c) (arL_above c _ (by decide))
      ((bA vbM).view.loc (c : Thread nD τ) ↦[(bA vbM).view.set]{fullShare} vAll m ρ c) rfl) $$ [HC2 HO HP2]
    · isplitr; · iexact HR
      iframe HC2 HO
      iexact HP2
    iintro ⟨HO, HF2, Hvb⟩
  all_goals
    sl_exec
    iapply Hk
    iframe HO HF1 HF2 Hkb Hvb Hq Hb
    isplitl [Hc]; · iexists _; iexact Hc
    isplitl [Hwo]; · iexact Hwo
    ihave Hp := (Entails.of_eq (p_half0 c fullShare fp (pw m ρ c) _ ?hX)) $$ Hp
    case hX => refine p_first m ρ c fp _ ?_; rfl
    iexact Hp

end Cert.KernelIdealProof
-- ==== Proof.IBody.lean ====
/-
# The body as a whole

The five stretches and the last wait, from what the launch deals a device to its result, its scratch buffers and every
semaphore at zero.
-/
module

public import proofs.«01_k».proof.Proof.ISegA
public import proofs.«01_k».proof.Proof.ISegB
public import proofs.«01_k».proof.Proof.ISegC
public import proofs.«01_k».proof.Proof.ISegD
public import proofs.«01_k».proof.Proof.ISegE
public import proofs.«01_k».proof.Proof.IStg
public import Idealize.ShloMosaic.Lib.Pipeline.BigSepL

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- All the duties device `c` pays, as rights to pay them: what it owes, and the departures on its own semaphores. -/
def tokL (c : Dev nD) : List (Dev nD × Fin 28) := barL c ++ ((kvL c ++ depL c) ++ (arL c ++ [(c, 23), (c, 24), (c, 25), (c, 26)]))
def Toks (c : Dev nD) : sProp 𝕄 := bigSepL (tokL c) fun x => Tok (F := F) c x
/-- The semaphores that will receive units from other devices. -/
def credL : List (Fin 28) := [0, 1, 2, 3, 4, 5, 6, 19, 20, 21, 22]
def Creds (c : Dev nD) : sProp 𝕄 := bigSepL credL fun k => Cr (F := F) c k
/-- Every semaphore of the device. -/
def allK : List (Fin 28) := [0, 1, 2, 3, 4, 5, 6, 7, 8, 9, 10, 11, 12, 13, 14, 15, 16, 17, 18, 19, 20, 21, 22, 23, 24, 25, 26, 27]
def Poss (c : Dev nD) : sProp 𝕄 := bigSepL allK fun k => Pos (F := F) c k
def Zeros (c : Dev nD) : sProp 𝕄 := bigSepL allK fun k => Fin0 (F := F) c k
/-- The scratch buffers, whatever they hold. -/
def Scr (c : Dev nD) : sProp 𝕄 := iprop(mptE (F := F) ksM c ∗ mptE (F := F) vsM c ∗ mptE (F := F) kbM c ∗ mptE (F := F) vbM c ∗ mptE (F := F) qM c ∗ mptE (F := F) ctxM c ∗ mptE (F := F) b0M c ∗ mptE (F := F) b1M c ∗ mptE (F := F) pM c ∗ mptE (F := F) st1M c ∗ mptE (F := F) s2M c ∗ mptE (F := F) st2M c)
/-- The staged inputs. -/
def Ins (c : Dev nD) : sProp 𝕄 := iprop(mpt xM c fullShare (xstg m ρ c) ∗ mpt wqM c fullShare (wqstg m ρ c) ∗ mpt kM c fullShare (kstg m ρ c)
  ∗ mpt vM c fullShare (vstg m ρ c) ∗ mpt woM c fullShare (wostg m ρ c))

theorem toks_eq (c : Dev nD) : Toks (F := F) c ⊢ (iprop(Tok c (c + 1, 0) ∗ Tok c (c + 2, 0) ∗ Tok c (c + 3, 0) ∗ KvTok c
    ∗ Tok c (px c, 19) ∗ Tok c (px c, 21) ∗ Tok c (py c, 20) ∗ Tok c (py c, 22) ∗ Tok c (c, 23) ∗ Tok c (c, 24) ∗ Tok c (c, 25) ∗ Tok c (c, 26)) : sProp 𝕄) := by
  unfold Toks tokL KvTok
  rw [bigSepL_append, bigSepL_append, show (bigSepL (barL c) fun x => Tok (F := F) c x) = iprop(Tok c (c + 1, 0) ∗ Tok c (c + 2, 0) ∗ Tok c (c + 3, 0)) from rfl,
    show (bigSepL (arL c ++ [(c, 23), (c, 24), (c, 25), (c, 26)]) fun x => Tok (F := F) c x) = iprop(Tok c (px c, 19) ∗ Tok c (px c, 21) ∗ Tok c (py c, 20) ∗ Tok c (py c, 22) ∗ Tok c (c, 23) ∗ Tok c (c, 24) ∗ Tok c (c, 25) ∗ Tok c (c, 26)) from rfl]
  iintro ⟨⟨H1, H2, H3⟩, HK, ⟨H4, H5, H6, H7, H8, H9, H10, H11⟩⟩
  iframe H1 H2 H3 HK H4 H5 H6 H7 H8 H9 H10 H11

theorem creds_eq (c : Dev nD) : Creds (F := F) c = iprop(Cr (F := F) c 0 ∗ Cr (F := F) c 1 ∗ Cr (F := F) c 2 ∗ Cr (F := F) c 3 ∗ Cr (F := F) c 4 ∗ Cr (F := F) c 5 ∗ Cr (F := F) c 6 ∗ Cr (F := F) c 19 ∗ Cr (F := F) c 20 ∗ Cr (F := F) c 21 ∗ Cr (F := F) c 22) := rfl
theorem poss_eq (c : Dev nD) : Poss (F := F) c = iprop(Pos (F := F) c 0 ∗ Pos (F := F) c 1 ∗ Pos (F := F) c 2 ∗ Pos (F := F) c 3 ∗ Pos (F := F) c 4 ∗ Pos (F := F) c 5 ∗ Pos (F := F) c 6 ∗ Pos (F := F) c 7 ∗ Pos (F := F) c 8 ∗ Pos (F := F) c 9 ∗ Pos (F := F) c 10 ∗ Pos (F := F) c 11 ∗ Pos (F := F) c 12 ∗ Pos (F := F) c 13 ∗ Pos (F := F) c 14 ∗ Pos (F := F) c 15 ∗ Pos (F := F) c 16 ∗ Pos (F := F) c 17 ∗ Pos (F := F) c 18 ∗ Pos (F := F) c 19 ∗ Pos (F := F) c 20 ∗ Pos (F := F) c 21 ∗ Pos (F := F) c 22 ∗ Pos (F := F) c 23 ∗ Pos (F := F) c 24 ∗ Pos (F := F) c 25 ∗ Pos (F := F) c 26 ∗ Pos (F := F) c 27) := rfl
theorem zeros_eq (c : Dev nD) : Zeros (F := F) c = iprop(Fin0 (F := F) c 0 ∗ Fin0 (F := F) c 1 ∗ Fin0 (F := F) c 2 ∗ Fin0 (F := F) c 3 ∗ Fin0 (F := F) c 4 ∗ Fin0 (F := F) c 5 ∗ Fin0 (F := F) c 6 ∗ Fin0 (F := F) c 7 ∗ Fin0 (F := F) c 8 ∗ Fin0 (F := F) c 9 ∗ Fin0 (F := F) c 10 ∗ Fin0 (F := F) c 11 ∗ Fin0 (F := F) c 12 ∗ Fin0 (F := F) c 13 ∗ Fin0 (F := F) c 14 ∗ Fin0 (F := F) c 15 ∗ Fin0 (F := F) c 16 ∗ Fin0 (F := F) c 17 ∗ Fin0 (F := F) c 18 ∗ Fin0 (F := F) c 19 ∗ Fin0 (F := F) c 20 ∗ Fin0 (F := F) c 21 ∗ Fin0 (F := F) c 22 ∗ Fin0 (F := F) c 23 ∗ Fin0 (F := F) c 24 ∗ Fin0 (F := F) c 25 ∗ Fin0 (F := F) c 26 ∗ Fin0 (F := F) c 27) := rfl

theorem scr_eq (c : Dev nD) : Scr (F := F) c = iprop(mptE (F := F) ksM c ∗ mptE (F := F) vsM c ∗ mptE (F := F) kbM c ∗ mptE (F := F) vbM c ∗ mptE (F := F) qM c ∗ mptE (F := F) ctxM c ∗ mptE (F := F) b0M c ∗ mptE (F := F) b1M c ∗ mptE (F := F) pM c ∗ mptE (F := F) st1M c ∗ mptE (F := F) s2M c ∗ mptE (F := F) st2M c) := rfl
theorem ins_eq (c : Dev nD) : Ins m ρ c = iprop(mpt xM c fullShare (xstg m ρ c) ∗ mpt wqM c fullShare (wqstg m ρ c) ∗ mpt kM c fullShare (kstg m ρ c)
  ∗ mpt vM c fullShare (vstg m ρ c) ∗ mpt woM c fullShare (wostg m ρ c)) := rfl

theorem mptE_of {s : Shape} {e : EltTy} (b : Memref sig .tc .vmem s e) (c : Dev nD) (f : Buf (Elt F) (b.view.loc (c : Thread nD τ))) :
    mpt b c fullShare f ⊢ (mptE b c : sProp 𝕄) := mptE_intro b c f

theorem half_join {s : Shape} {e : EltTy} (b : Memref sig .tc .vmem s e) (c : Dev nD) (f : Buf (Elt F) (b.view.loc (c : Thread nD τ))) :
    iprop(mpt b c qHalf f ∗ mpt b c rHalf f) ⊢ (mptE b c : sProp 𝕄) := by
  unfold mpt
  iintro H
  ihave H := (halves (b.view.set) f).2 $$ H
  iapply (mptE_intro b c f); unfold mpt; iexact H

/-- The conditions the body decides on its device's number. -/
abbrev word2 (c : Dev nD) : BitVec 32 := Scalar.remsi (Scalar.divsi (Dev.word c) 1#32) 4#32
theorem word_ne0 (c : Dev nD) : Scalar.cmpi .ne (Scalar.extui (Scalar.cmpi .ne (word2 c) 0#32) : BitVec 32) 0#32 = 1#1 ↔ c ≠ 0 := by revert c; decide
theorem word_ne1 (c : Dev nD) : Scalar.cmpi .ne (Scalar.extui (Scalar.cmpi .ne (word2 c) 1#32) : BitVec 32) 0#32 = 1#1 ↔ c ≠ 1 := by revert c; decide
theorem word_eq0 (c : Dev nD) : Scalar.cmpi .ne (Scalar.extui (Scalar.cmpi .eq (word2 c) 0#32) : BitVec 32) 0#32 = 1#1 ↔ c = 0 := by revert c; decide
theorem word_eq1 (c : Dev nD) : Scalar.cmpi .ne (Scalar.extui (Scalar.cmpi .eq (word2 c) 1#32) : BitVec 32) 0#32 = 1#1 ↔ c = 1 := by revert c; decide

/-- The last wait: the copy of the second half of the second sum has left. -/
theorem waitS1 (K : Dev nD × Fin 28 → ℕ) (c : Dev nD) {α : Type} {Q : α → sProp 𝕄} {sm : DmaSem sig} (hs : SemLoc.dma sm = csem 26)
    {src dst : Memref sig .tc .vmem S2x256x768 .bf16} {hsrc : src.view.WordExact} {hdst : dst.view.WordExact} (ha : amt c 26 = dst.view.dmaCredit)
    {kk : PUnit → Prog (TpuEff nD τ sig (Elt F) Λ₀ .tc) α} :
    iprop(recs m ρ K ∗ Cr c 26 ∗ Ow c [] ∗ Pos c 26)
      ⊢ iprop(((Ow c [] ∗ Fin0 c 26 ∗ mpt (h1 s2M) c qHalf (s2All m ρ c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) :=
  waitD m ρ K c 26 c (payers_one c 26 (by decide)) hs ha [] (fun x hx => absurd hx List.not_mem_nil)

/-- The last wait of the body. -/
def lastWait : Prog (TpuEff nD τ sig (Elt F) Λ₀ .tc) PUnit :=
  .op (.waitDma2 ((SemArray.slice cc0_scratch15 (Rect.unit (s := S4) ![3] S1.size inb_S4_S1_3)).squeeze S_ squeezes_S1_S_).sem (h0 st1M) (h0 pM)
    ((Memref.isWhole_whole cc0_scratch9).wordExact_slice rfl _ wordsbf16_S2x512x768_S2x256x768_0_0_0)
    ((Memref.isWhole_whole cc0_scratch8).wordExact_slice rfl _ wordsbf16_S2x512x768_S2x256x768_0_0_0)) fun _ => Prog.ret ⟨⟩

set_option maxRecDepth 65536 in
theorem body_eq : cc0_body (F := F) xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16
    = (segA fun d0 v2 v98 c => segB v2 v98 c fun _ => segC d0 v2 fun v964 => segD d0 v2 v964 fun v1106 => segE v2 v1106) >>= fun _ => lastWait := by
  rw [cc0_body_eq_skeleton, ← part46_eq]; rfl

set_option maxRecDepth 65536 in

/-- The body on device `c`: from all its rights, credits, buffers and staged inputs to its result, the rest unchanged or
    back, nothing owed and every semaphore at zero. -/
theorem body_wp (K : Dev nD × Fin 28 → ℕ) (c : Dev nD) (Q : PUnit → sProp 𝕄) :
    iprop(recs m ρ K ∗ Ow c (owedL c) ∗ Toks c ∗ Creds c ∗ Poss c ∗ Scr c ∗ Ins m ρ c ∗ mptE outM c
      ∗ ((Ow c [] ∗ Zeros c ∗ Scr c ∗ Ins m ρ c ∗ mpt outM c fullShare (outAll m ρ c)) -∗ Q ⟨⟩))
    ⊢ wp frame (wpE (defs₀ (F := F)) 𝒱₀ (c : Thread nD τ) none) Set.univ (cc0_body (F := F) xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16) Q := by
  rw [body_eq.{0}, wp_bind]
  unfold lastWait
  iintro ⟨#HR, HO, HT, HC, HP, HS, HI, Hout, Hcont⟩
  ihave HT := (toks_eq (F := F) c) $$ HT
  icases HT with ⟨T1, T2, T3, HKT, T19, T21, T20, T22, T23, T24, T25, T26⟩
  ihave HC := (Entails.of_eq (creds_eq (F := F) c)) $$ HC
  ihave HP := (Entails.of_eq (poss_eq (F := F) c)) $$ HP
  icases HC with ⟨HC0, HC1, HC2, HC3, HC4, HC5, HC6, HC19, HC20, HC21, HC22⟩
  icases HP with ⟨HP0, HP1, HP2, HP3, HP4, HP5, HP6, HP7, HP8, HP9, HP10, HP11, HP12, HP13, HP14, HP15, HP16, HP17, HP18, HP19, HP20, HP21, HP22, HP23, HP24, HP25, HP26, HP27⟩
  ihave HS := (Entails.of_eq (scr_eq (F := F) c)) $$ HS
  ihave HI := (Entails.of_eq (ins_eq m ρ c)) $$ HI
  icases HS with ⟨SksM, SvsM, SkbM, SvbM, SqM, SctxM, Sb0M, Sb1M, SpM, Sst1M, Ss2M, Sst2M⟩
  icases HI with ⟨Ix, Iwq, Ik, Iv, Iwo⟩
  ihave SpM := (pM_split (F := F) c) $$ SpM
  icases SpM with ⟨Sp0, Sp1⟩
  ihave Ss2M := (s2M_split (F := F) c) $$ Ss2M
  icases Ss2M with ⟨Ss0, Ss1⟩
  iapply (segA_wp m ρ K c _ _)
  isplitr; · iexact HR
  iframe HO T1 T2 T3 HKT HC0 HP0
  isplitl [HC1 HP1 HC2 HP2 HC3 HP3 HC4 HP4 HC5 HP5 HC6 HP6]
  · unfold KvArr
    isplitl [HC1 HP1]; · isplitl [HC1] <;> iassumption
    isplitl [HC2 HP2]; · isplitl [HC2] <;> iassumption
    isplitl [HC3 HP3]; · isplitl [HC3] <;> iassumption
    isplitl [HC4 HP4]; · isplitl [HC4] <;> iassumption
    isplitl [HC5 HP5]; · isplitl [HC5] <;> iassumption
    isplitl [HC6] <;> iassumption
  isplitl [HP7 HP8 HP9 HP10 HP11 HP12 HP13 HP14 HP15 HP16 HP17 HP18]
  · unfold KvPos
    iframe HP7 HP8 HP9 HP10 HP11 HP12 HP13 HP14 HP15 HP16 HP17
    iexact HP18
  iframe SksM SvsM
  isplitl [SkbM SvbM]
  · isplitl [SkbM] <;> iassumption
  iframe Sst1M Sst2M SqM Sb0M Sb1M Ix Iwq Ik Iv
  iintro ⟨HO, Z0, A1, A2, A3, A4, A5, A6, HD, HStg, Hl1, Hl2, SqM, Sb0M, Sb1M, Ix, Iwq, Ik, Iv⟩
  unfold land1 land2
  icases Hl1 with ⟨L19, L21⟩
  icases Hl2 with ⟨L20, L22⟩
  iapply (segB_wp m ρ K c _ _ (word_ne0 c) _ _)
  isplitr; · iexact HR
  iframe HO A1 A2 SqM Sb0M SctxM Iwo Sp0
  iintro ⟨HO, Z1, Z2, SkA, SvA, SqM, Sb0M, SctxM, Iwo, Sp0⟩
  iapply (segC_wp m ρ K c _ (word_ne0 c) (word_ne1 c) _ _)
  isplitr; · iexact HR
  iframe HO T23 T19 Sp0 L19 A3 A4 A5 A6 SkA SvA SqM Sb1M SctxM Iwo Sp1
  iintro ⟨HO, HC23, Sp0, Z3, Z4, Z5, Z6, SkbM, SvbM, SqM, Sb1M, SctxM, Iwo, Sp1⟩
  iapply (segD_wp m ρ K c _ _ _)
  isplitr; · iexact HR
  iframe HO T24 T25 T26 T20 T21 T22 HC19 HC20 HC21 HC22 HP19 HP20 HP21 HP22 L21 L20 L22 Sp0 SctxM Sp1 Ss0 Ss1 Hout
  iintro ⟨HO, HC24, HC25, HC26, Z19, Z20, Z21, Z22, Sp0, Sp1, Ss0, Ss1, SctxM, Sa0, Sa1, Sb0, Sb1, Hout⟩
  iapply (segE_wp m ρ K c _ (word_eq0 c) (word_eq1 c) _)
  isplitr; · iexact HR
  iframe HO HD HC23 HC24 HC25 HP23 HP24 HP25 Sb1 Hout
  iintro ⟨HO, HD, Z23, Z24, Z25, Rp0, Rs0, Rp1, Sb1, Hout⟩
  iapply (waitS1 m ρ K c rfl (by unfold amt; rfl)) $$ [HC26 HO HP26]
  · isplitr; · iexact HR
    iframe HC26 HO
    iexact HP26
  iintro ⟨HO, Z26, Rs1⟩
  imod (closeG m ρ K c 27 (by rw [show payers c 27 = ∅ from rfl])) $$ [HP27] with Z27
  · isplitr; · iexact HR
    iexact HP27
  iapply (Entails.of_eq (wp_ret (Fr := frame) (wpE := wpE (defs₀ (F := F)) 𝒱₀ (c : Thread nD τ) none) (E := Set.univ) (PUnit.unit : PUnit) Q).symm)
  imodintro
  ihave HB := (stg_back m ρ c) $$ [HD HStg]
  · isplitl [HD] <;> iassumption
  unfold FinS
  icases HB with ⟨SksM, SvsM, Z7, Z8, Z9, Z10, Z11, Z12, Z13, Z14, Z15, Z16, Z17, Z18⟩
  ihave SkbM := (mptE_of kbM c (kAll m ρ c)) $$ SkbM
  ihave SvbM := (mptE_of vbM c (vAll m ρ c)) $$ SvbM
  ihave SqM := (mptE_of qM c (qAll m ρ c)) $$ SqM
  ihave Sb0M := (mptE_of b0M c k0_pay13) $$ Sb0M
  ihave Sb1M := (mptE_of b1M c k0_pay14) $$ Sb1M
  ihave Sp0 := (half_join (h0 pM) c (pAll m ρ c)) $$ [Rp0 Sp0]
  · isplitl [Rp0] <;> iassumption
  ihave Sp1 := (half_join (h1 pM) c (pAll m ρ c)) $$ [Rp1 Sp1]
  · isplitl [Rp1] <;> iassumption
  ihave Ss0 := (half_join (h0 s2M) c (s2All m ρ c)) $$ [Rs0 Ss0]
  · isplitl [Rs0] <;> iassumption
  ihave Ss1 := (half_join (h1 s2M) c (s2All m ρ c)) $$ [Rs1 Ss1]
  · isplitl [Rs1] <;> iassumption
  ihave SpM := (pM_join (F := F) c) $$ [Sp0 Sp1]
  · isplitl [Sp0] <;> iassumption
  ihave Ss2M := (s2M_join (F := F) c) $$ [Ss0 Ss1]
  · isplitl [Ss0] <;> iassumption
  ihave Sst1M := (st1M_join (F := F) c) $$ [Sa0 Sa1]
  · isplitl [Sa0] <;> iassumption
  ihave Sst2M := (st2M_join (F := F) c) $$ [Sb0 Sb1]
  · isplitl [Sb0] <;> iassumption
  iapply Hcont
  isplitl [HO]; · iexact HO
  isplitl [Z0 Z1 Z2 Z3 Z4 Z5 Z6 Z7 Z8 Z9 Z10 Z11 Z12 Z13 Z14 Z15 Z16 Z17 Z18 Z19 Z20 Z21 Z22 Z23 Z24 Z25 Z26 Z27]
  · iapply (Entails.of_eq (zeros_eq (F := F) c).symm)
    iframe Z0 Z1 Z2 Z3 Z4 Z5 Z6 Z7 Z8 Z9 Z10 Z11 Z12 Z13 Z14 Z15 Z16 Z17 Z18 Z19 Z20 Z21 Z22 Z23 Z24 Z25 Z26
    iexact Z27
  isplitl [SksM SvsM SkbM SvbM SqM SctxM Sb0M Sb1M SpM Sst1M Ss2M Sst2M]
  · iapply (Entails.of_eq (scr_eq (F := F) c).symm)
    iframe SksM SvsM SkbM SvbM SqM SctxM Sb0M Sb1M SpM Sst1M Ss2M
    iexact Sst2M
  isplitl [Ix Iwq Ik Iv Iwo]
  · iapply (Entails.of_eq (ins_eq m ρ c).symm)
    iframe Ix Iwq Ik Iv
    iexact Iwo
  iexact Hout

end Cert.KernelIdealProof
-- ==== Proof.IRun.lean ====
/-
# The launch and the run

What the launch deals each device — its semaphores' cells, the rights to pay and the credits of the protocol — the body's
obligation to the pipeline, and the run of the whole program: it ends, each result array holds the computed contents, the
arguments are unchanged and every semaphore counter is at zero.
-/
module

public import proofs.«01_k».proof.Proof.IBody
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores -/

/-- The kernel's own semaphores: every one of the protocol but the barrier. -/
abbrev osem : Fin 27 → SemLoc sig := fun k => csem k.succ
theorem ownSemFacts : Pipeline.OwnSemFacts cfg0.spec osem := by decide

theorem kcell_injective : Function.Injective (kcell : Dev nD × Fin 28 → GSem nD τ sig) := by
  rintro ⟨c, k⟩ ⟨c', k'⟩ h
  have h1 : c = c' := congrArg (fun g : GSem nD τ sig => g.1.1) h
  have h2 : k = k' := by rw [← kidx_csem k, ← kidx_csem k', show csem k = csem k' from congrArg Prod.snd h]
  rw [h1, h2]

/-- The cells of the protocol. -/
def cellsK : Finset (GSem nD τ sig) := Finset.univ.map ⟨kcell, kcell_injective⟩
/-- A duty of the protocol's first round, paid by device `p`. -/
def dutyOf (p : Dev nD) (x : Dev nD × Fin 28) : GSem nD τ sig × ℕ × Dev nD := (kcell x, 0, p)
theorem dutyOf_injective (p : Dev nD) : Function.Injective (dutyOf p) := fun _ _ h => kcell_injective (congrArg Prod.fst h)
theorem tokL_nodup : ∀ p : Dev nD, (tokL p).Nodup := by decide
/-- The duties device `p` pays. -/
def dutiesOf (p : Dev nD) : Finset (GSem nD τ sig × ℕ × Dev nD) := ((tokL p).map (dutyOf p)).toFinset
def toksK : Finset (GSem nD τ sig × ℕ × Dev nD) := Finset.univ.biUnion dutiesOf

theorem dutiesOf_disjoint : ∀ p ∈ (Finset.univ : Finset (Dev nD)), ∀ p' ∈ (Finset.univ : Finset (Dev nD)), p ≠ p' → Disjoint (dutiesOf p) (dutiesOf p') := by
  intro p _ p' _ hp
  rw [Finset.disjoint_left]
  intro a ha hb
  obtain ⟨x, -, rfl⟩ := List.mem_map.mp (List.mem_toFinset.mp ha)
  obtain ⟨y, -, h⟩ := List.mem_map.mp (List.mem_toFinset.mp hb)
  exact hp (congrArg (fun t : GSem nD τ sig × ℕ × Dev nD => t.2.2) h).symm

/-- The ghost state of the launch: the pipeline's copy and the protocol's. -/
def u₀ : UU := (initOf (Pipeline.cells cfgs cellOf_inj) (Pipeline.launchToks cfgs cellOf_inj), initOf cellsK toksK)

/-- What the launch element deals device `c`. -/
def G (c : Dev nD) : sProp 𝕄 :=
  iprop((bigSep Finset.univ fun k : Fin 28 => roundState ER (rd m ρ) (kcell (c, k)) 0)
    ∗ (bigSep Finset.univ fun k : Fin 28 => iprop(atPos ER (kcell (c, k)) 0 ∅ 0 ∗ reached ER (kcell (c, k)) 0)) ∗ Toks c)

theorem toksK_eq : bigSep toksK (fun x => (dutyTok ER x.1 x.2.1 x.2.2 : sProp 𝕄)) = bigSep Finset.univ fun c : Dev nD => Toks c := by
  unfold toksK
  rw [BI.bigSep_biUnion_eq Finset.univ dutiesOf _ dutiesOf_disjoint]
  refine bigSep_congr fun p _ => ?_
  unfold dutiesOf
  rw [bigSep_eq_bigSepL _ ((tokL_nodup p).map (dutyOf_injective p)), bigSepL_map]
  rfl

theorem fundK : BI.own (ER (initOf cellsK toksK)) ⊢ (|==> bigSep Finset.univ (G m ρ) : sProp 𝕄) := by
  have hX (Φ : GSem nD τ sig → sProp 𝕄) : bigSep cellsK Φ = bigSep Finset.univ fun c : Dev nD => bigSep Finset.univ fun k : Fin 28 => Φ (kcell (c, k)) := by
    unfold cellsK; rw [bigSep_map, bigSep_univ_prod]; rfl
  iintro HX
  imod (Rounds.fund ER (rd m ρ) cellsK toksK) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (toksK_eq (F := F))) $$ Htok
  unfold G; simp only [bigSep_sep']
  isplitl [Hst']; · iexact Hst'
  isplitl [Hat' Hr']
  · isplitl [Hat'] <;> iassumption
  iexact Htok'

theorem univ_eq (Φ : Fin 28 → sProp 𝕄) : bigSep Finset.univ Φ = bigSepL allK Φ := bigSep_univ_eq_bigSepL allK (by decide) (by decide) Φ

/-- The barrier semaphore and the kernel's own are all the semaphores of the protocol. -/
theorem sems_eq (c : Dev nD) :
    (iprop(unscopedSems0 c ∗ Pipeline.ownSems0 (Ix := Unit) (Name := ℕ) (U := UU) (Lvl := ℕ) (Val := Elt F) (τ := τ) osem c) : sProp 𝕄) = Zeros c := by
  rw [Pipeline.ownSems0_eq_of_list c osem [0, 1, 2, 3, 4, 5, 6, 7, 8, 9, 10, 11, 12, 13, 14, 15, 16, 17, 18, 19, 20, 21, 22, 23, 24, 25, 26] (by decide) (by decide)]
  unfold unscopedSems0; rw [bigSep_eq_bigSepL_of_eq [SemLoc.reg barS] (by decide) (by decide)]; rfl

/-- On one device: its cells are opened, its positions and rights kept. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ Toks c) := by
  unfold G
  iintro ⟨Hos, Hus, Hst, Hat, Htok⟩
  ihave Hz := (Entails.of_eq (sems_eq (F := F) c)) $$ [Hos Hus]
  · isplitl [Hus] <;> iassumption
  ihave Hv := (Entails.of_eq (show (Zeros c : sProp 𝕄) = bigSep Finset.univ (fun k : Fin 28 => semVal (kcell (c, k)) 0) from (univ_eq (F := F) _).symm)) $$ Hz
  imod (show iprop((bigSep Finset.univ fun k : Fin 28 => semVal (kcell (c, k)) 0) ∗ bigSep Finset.univ fun k : Fin 28 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  iframe Hinv Hat
  iexact Htok

/-- The cells under their names, and that each has reached round 0. -/
def recs0 (K : Dev nD × Fin 28 → ℕ) : sProp 𝕄 :=
  iprop((bigSep Finset.univ fun ck : Dev nD × Fin 28 => cellInv ER (rd m ρ) (K ck) (kcell ck))
    ∗ (bigSep Finset.univ fun ck : Dev nD × Fin 28 => reached ER (kcell ck) 0))
instance recs0_persistent (K : Dev nD × Fin 28 → ℕ) : BI.Persistent (recs0 m ρ K) := by unfold recs0; infer_instance

/-- What the global step makes of it. -/
def G' (c : Dev nD) : sProp 𝕄 := iprop(∃ K, recs0 m ρ K ∗ Poss c ∗ Toks c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 28 → ℕ) (c : Dev nD) :
    iprop(recs0 m ρ K ∗ ((bigSep Finset.univ fun k : Fin 28 => atPos ER (kcell (c, k)) 0 ∅ 0) ∗ Toks c)) ⊢ G' m ρ c := by
  unfold G'
  iintro ⟨HR, HP, HT⟩
  iexists K
  isplitl [HR]; · iexact HR
  isplitl [HP]; · unfold Poss; iapply (Entails.of_eq (univ_eq (F := F) fun k => Pos (F := F) c k)); iexact HP
  iexact HT

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ Toks c) : sProp 𝕄)
      ⊢ bigSep Finset.univ (G' m ρ) := by
  rw [bigSep_sep', bigSep_sep', ← bigSep_univ_prod (fun ck : Dev nD × Fin 28 => iprop(∃ κ : ℕ, cellInv ER (rd m ρ) κ (kcell ck))),
    bigSep_congr (s := Finset.univ) (fun (c : Dev nD) _ => bigSep_sep' Finset.univ (fun k : Fin 28 => (atPos ER (kcell (c, k)) 0 ∅ 0 : sProp 𝕄)) (fun k => reached ER (kcell (c, k)) 0)),
    bigSep_sep', ← bigSep_univ_prod (fun ck : Dev nD × Fin 28 => (reached ER (kcell ck) 0 : sProp 𝕄))]
  iintro ⟨HI, ⟨Hat, #HR⟩, Htok⟩
  ihave HK := (BI.bigSep_exists_pi Finset.univ (fun (ck : Dev nD × Fin 28) (κ : ℕ) => (cellInv ER (rd m ρ) κ (kcell ck) : sProp 𝕄))) $$ HI
  icases HK with ⟨%K, #HI⟩
  iapply (with_persistent (R := recs0 m ρ K) fun c _ => G'_intro m ρ K c)
  isplitr
  · unfold recs0; isplitl; · iexact HI
    iexact HR
  · iapply (Entails.of_eq (bigSep_sep' Finset.univ (fun c : Dev nD => bigSep Finset.univ fun k : Fin 28 => (atPos ER (kcell (c, k)) 0 ∅ 0 : sProp 𝕄)) fun c => Toks c).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed to a cell: one amount for each time it is listed. -/
theorem Ot_at (l : List (Dev nD × Fin 28)) (y : Dev nD × Fin 28) : Ot l (kcell y) () = l.count y * amt y.1 y.2 := by
  induction l with
  | nil => simp [Ot]
  | cons x l ih =>
    unfold Ot
    rw [Pi.add_apply, Finsupp.add_apply, ih, tallyAt_apply, List.count_cons]
    by_cases h : x = y
    · subst h; simp [add_mul]
    · rw [if_neg (fun e => h (kcell_injective e.1).symm), if_neg (by simpa using h)]; simp

theorem owed_count : ∀ c : Dev nD, ∀ k ∈ credL, (∑ d : Dev nD, (owedL d).count (c, k)) = (payers c k).card := by decide

theorem launch_k (c : Dev nD) (k : Fin 28) (hk : k ∈ credL) :
    tallyOn (kcell (c, k)) (launchCredit (Pipeline.owing fun d => Ot (owedL d)) 0 (kcell (c, k)))
      = (tallyAt (kcell (c, k)) () ((payers c k).card * amt c k) : CellTallies nD τ sig Unit) := by
  unfold tallyAt; refine congrArg _ (Finsupp.ext fun u => ?_); cases u
  rw [Pipeline.launchCredit_owing, Finsupp.single_eq_same, Finset.sum_congr rfl fun d _ => Ot_at (owedL d) (c, k), ← Finset.sum_mul, owed_count c k hk]

theorem credL_nodup : (credL.map csem).Nodup := by decide

theorem creds_intro (c : Dev nD) : (Pipeline.launchCred (fun d => Ot (owedL d)) c : sProp 𝕄) ⊢ Creds c := by
  unfold Pipeline.launchCred Creds
  refine (BI.bigSep_subset (Finset.subset_univ (credL.map csem).toFinset)).trans ?_
  rw [bigSep_eq_bigSepL _ credL_nodup, bigSepL_map]
  exact bigSepL_mono fun k hk => Entails.of_eq (congrArg (fun t => (cred t : sProp 𝕄)) (launch_k c k hk))

/-! ## The pipeline's data and the body's obligation -/

/-- What a device's body starts from: the protocol's records, its positions and rights, its credits and scratch buffers. -/
def Φ₀ (c : Dev nD) : sProp 𝕄 := iprop(((∃ K, recs m ρ K ∗ Poss c ∗ Toks c) ∗ Creds c) ∗ Scr c)
/-- What it ends with: every semaphore at zero and the scratch buffers. -/
def Φ₁ (c : Dev nD) : sProp 𝕄 := iprop(Zeros (F := F) c ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAll m ρ c
  Φ t := match t with
    | ⟨0, _⟩ => Φ₀ m ρ c
    | ⟨_ + 1, _⟩ => Φ₁ c
  q _ := fullShare
  owed t := match t with
    | ⟨0, _⟩ => Ot (owedL c)
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c`, whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem whole_eq {s : Shape} {e : EltTy} (b : Memref sig .tc .vmem s e) (h : b.view.set = Finset.univ) (c : Dev nD) (f : Buf (Elt F) (b.view.loc (c : Thread nD τ))) :
    (mpt b c fullShare f : sProp 𝕄) = (b.view.loc (c : Thread nD τ) ↦{fullShare} f) := by unfold mpt; rw [h]
theorem wholeE_eq {s : Shape} {e : EltTy} (b : Memref sig .tc .vmem s e) (h : b.view.set = Finset.univ) (c : Dev nD) :
    (mptE b c : sProp 𝕄) = iprop(∃ f : Buf (Elt F) (b.view.loc (c : Thread nD τ)), (b.view.loc (c : Thread nD τ) ↦{fullShare} f)) := by
  unfold mptE; simp only [whole_eq b h]

theorem scr_rest (c : Dev nD) : (Scr c : sProp 𝕄) = Pipeline.scopedRest cfg0.spec c := by
  rw [scopedRest0_eq]; unfold Scr
  rw [wholeE_eq ksM (View.set_whole _), wholeE_eq vsM (View.set_whole _), wholeE_eq kbM (View.set_whole _), wholeE_eq vbM (View.set_whole _), wholeE_eq qM (View.set_whole _), wholeE_eq ctxM (View.set_whole _), wholeE_eq b0M (View.set_whole _), wholeE_eq b1M (View.set_whole _), wholeE_eq pM (View.set_whole _), wholeE_eq st1M (View.set_whole _), wholeE_eq s2M (View.set_whole _), wholeE_eq st2M (View.set_whole _)]

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xstg m ρ c) ∗ stg c cc0_stg1_0 (wqstg m ρ c) ∗ stg c cc0_stg2_0 (kstg m ρ c) ∗ stg c cc0_stg3_0 (vstg m ρ c) ∗ stg c cc0_stg4_0 (wostg m ρ c) ∗ stg c cc0_stg5_0 (outAll m ρ c))

theorem before_0 (c : Dev nD) (d) : (dats m ρ 0 c).before (0 : Fin 6) t0_0 d = xstg m ρ c := by
  unfold Dat.before; rw [if_pos (fetch0_0 t0_0)]; rfl

theorem before_1 (c : Dev nD) (d) : (dats m ρ 0 c).before (1 : Fin 6) t0_0 d = wqstg m ρ c := by
  unfold Dat.before; rw [if_pos (fetch0_1 t0_0)]; rfl

theorem before_2 (c : Dev nD) (d) : (dats m ρ 0 c).before (2 : Fin 6) t0_0 d = kstg m ρ c := by
  unfold Dat.before; rw [if_pos (fetch0_2 t0_0)]; rfl

theorem before_3 (c : Dev nD) (d) : (dats m ρ 0 c).before (3 : Fin 6) t0_0 d = vstg m ρ c := by
  unfold Dat.before; rw [if_pos (fetch0_3 t0_0)]; rfl

theorem before_4 (c : Dev nD) (d) : (dats m ρ 0 c).before (4 : Fin 6) t0_0 d = wostg m ρ c := by
  unfold Dat.before; rw [if_pos (fetch0_4 t0_0)]; rfl

set_option maxRecDepth 4000 in
/-- The body, from what the pipeline hands it to what it hands back. -/
theorem sound_body (c : Dev nD) :
    bodyPre m ρ c ⊢ wp frame (wpE (defs₀ (F := F)) 𝒱₀ (c : Thread nD τ) none) Set.univ
      (cc0_body (F := F) xM (Memref.isWhole_whole _) wqM (Memref.isWhole_whole _) kM (Memref.isWhole_whole _) vM (Memref.isWhole_whole _) woM (Memref.isWhole_whole _) outM (Memref.isWhole_whole _) ksM (Memref.isWhole_whole _) vsM (Memref.isWhole_whole _) kbM (Memref.isWhole_whole _) vbM (Memref.isWhole_whole _) qM (Memref.isWhole_whole _) ctxM (Memref.isWhole_whole _) b0M (Memref.isWhole_whole _) b1M (Memref.isWhole_whole _) pM (Memref.isWhole_whole _) st1M (Memref.isWhole_whole _) s2M (Memref.isWhole_whole _) st2M (Memref.isWhole_whole _) cc0_scratch12 cc0_scratch13 cc0_scratch14 cc0_scratch15 cc0_scratch16) (fun _ => bodyPost m ρ c) := by
  unfold bodyPre Φ₀
  iintro ⟨⟨⟨⟨%K, #HR, HP, HT⟩, HC⟩, HS⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xstg m ρ c := by rw [hg0]; exact before_0 m ρ c d0
  subst e0
  have e1 : g1 = wqstg m ρ c := by rw [hg1]; exact before_1 m ρ c d1
  subst e1
  have e2 : g2 = kstg m ρ c := by rw [hg2]; exact before_2 m ρ c d2
  subst e2
  have e3 : g3 = vstg m ρ c := by rw [hg3]; exact before_3 m ρ c d3
  subst e3
  have e4 : g4 = wostg m ρ c := by rw [hg4]; exact before_4 m ρ c d4
  subst e4
  unfold Dat.owesAt Pipeline.owesWithin
  icases Ho with ⟨%W, %hW, HO⟩
  rw [show (dats m ρ 0 c).owed t0_0.castSucc = Ot (owedL c) from rfl]
  iapply (body_wp m ρ K c _)
  isplitr; · iexact HR
  isplitl [HO]; · unfold Ow; iexists W; iexact HO
  iframe HT HC HP HS
  isplitl [H0 H1 H2 H3 H4]
  · unfold Ins
    rw [whole_eq xM (View.set_whole _), whole_eq wqM (View.set_whole _), whole_eq kM (View.set_whole _), whole_eq vM (View.set_whole _), whole_eq woM (View.set_whole _)]
    iframe H0 H1 H2 H3
    iexact H4
  isplitl [H5]
  · rw [wholeE_eq outM (View.set_whole _)]; iexists g5; iexact H5
  unfold Ow Ins bodyPost Φ₁ Dat.owesAt Pipeline.owesWithin
  rw [show (dats m ρ 0 c).owed t0_0.succ = 0 from rfl, whole_eq xM (View.set_whole _), whole_eq wqM (View.set_whole _), whole_eq kM (View.set_whole _), whole_eq vM (View.set_whole _), whole_eq woM (View.set_whole _), whole_eq outM (View.set_whole _)]
  iintro ⟨⟨%W', HO⟩, HZ, HS, ⟨H0, H1, H2, H3, H4⟩, H5⟩
  isplitl [HZ HS]
  · isplitl [HZ] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The body's obligation to the pipeline. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The run -/

theorem share_eq (c : Dev nD) (w : Fin cfg0.W) : (dats m ρ 0 c).share w = fullShare := by unfold Dat.share; split <;> rfl

/-- What a device has before its scratch buffers are dealt. -/
def start (c : Dev nD) : sProp 𝕄 := iprop((∃ K, recs m ρ K ∗ Poss c ∗ Toks c) ∗ Creds c)

theorem start_intro (c : Dev nD) :
    iprop(Pipeline.unscopedRestP Pipeline.Prefetch.none cfg0.spec c (fun b => m ((c : Thread nD τ).loc b)) ∗ levAts L lv
        ∗ Pipeline.launchCred (fun d => Ot (owedL d)) c ∗ prngReg c (ρ c) ∗ G' m ρ c)
      ⊢ |={Set.univ}=> iprop(start m ρ c ∗ emp) := by
  unfold start G' recs0 recs
  iintro ⟨-, #Hlev, Hcr, -, ⟨%K, ⟨#H1, #H2⟩, HP, HT⟩⟩
  ihave Hc := (creds_intro (F := F) c) $$ Hcr
  imodintro
  isplitl
  · isplitl [HP HT]
    · iexists K
      isplitr
      · isplitr; · iexact H1
        isplitr; · iexact H2
        iexact Hlev
      isplitl [HP] <;> iassumption
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_rest]
  unfold Φ₀ start
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_rest]
  unfold Φ₁
  rw [← sems_eq]
  iintro ⟨⟨HB, HO⟩, HS⟩
  isplitl [HB]; · iexact HB
  isplitl [HO] <;> iassumption

theorem owed_lv : ∀ c : Dev nD, ∀ x ∈ owedL c, 0 < lvk x.2 := by decide
theorem stage_lv : ∀ (w : Fin 6) (s : Fin (spec0 w).nbuf), lvk (kidx (.dma ((spec0 w).sem s))) = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_k c _ (owedL c) fun x hx => by rw [stage_lv w s]; exact owed_lv c x hx
    · exact mayWait_k c _ [] fun x hx => absurd hx List.not_mem_nil

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the four devices ends, each array at
    the contents the data name, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Ot (owedL d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fundK m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdealProof

end
-- ==== Proof.Frames.lean ====
/- The run claims of the three programs and the named constant's claim. -/
module

public import proofs.«01_k».proof.Defs
public import proofs.«01_k».proof.Proof.KRun
public import proofs.«01_k».proof.Proof.IRun
public import proofs.«01_k».proof.Proof.Gen.ReferenceIdeal.Run
public import Idealize.ShloMosaic.Lib.Quiescent

@[expose] public section

noncomputable section

namespace Cert.Proof

open Idealize.ShloMosaic Idealize.SL.Sem

/-- The printed program runs on the four devices: its arguments end unchanged and every counter at zero. -/
theorem frame_kernel : Cert.quiescent_Kernel := fun m g _ =>
  (θ_run Cert.Kernel.defs _ _).mono (fun _ h => ⟨fun c =>
      ⟨(h.1 c 0).trans (Cert.KernelProof.finalA_in m g c 0 rfl), (h.1 c 1).trans (Cert.KernelProof.finalA_in m g c 1 rfl),
       (h.1 c 2).trans (Cert.KernelProof.finalA_in m g c 2 rfl), (h.1 c 3).trans (Cert.KernelProof.finalA_in m g c 3 rfl),
       (h.1 c 4).trans (Cert.KernelProof.finalA_in m g c 4 rfl)⟩, h.2⟩)
    (Cert.KernelProof.run_main (F := Bits) m g)

/-- The idealized program runs on the four devices likewise. -/
theorem frame_ideal : Cert.quiescent_KernelIdeal := fun m g _ =>
  (θ_run Cert.KernelIdeal.defs _ _).mono (fun _ h => ⟨fun c =>
      ⟨(h.1 c 0).trans (Cert.KernelIdealProof.finalA_in m g c 0 rfl), (h.1 c 1).trans (Cert.KernelIdealProof.finalA_in m g c 1 rfl),
       (h.1 c 2).trans (Cert.KernelIdealProof.finalA_in m g c 2 rfl), (h.1 c 3).trans (Cert.KernelIdealProof.finalA_in m g c 3 rfl),
       (h.1 c 4).trans (Cert.KernelIdealProof.finalA_in m g c 4 rfl)⟩, h.2⟩)
    (Cert.KernelIdealProof.run_main (F := Ideal) m g)

/-- The reference's operations write none of its arguments, and it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Attn.lean ====
/-
# The attention block over the extended reals

The result the kernel and the reference share, written as sums over plain coordinates: the queries, the scores inside the
window (minus infinity outside), the softmax of a row against the values, the product with the output matrix. Beside it
the facts the two sides need: a softmax over all keys is the softmax over any band that holds the window, when the row has
a finite score and no infinite one; and scores made of finite numbers are finite.
-/
module

public import Idealize.ShloMosaic.PureOps.Ideal
public import Idealize.ShloMosaic.PureOps.Ideal.Laws

@[expose] public section

noncomputable section

namespace Cert.Attn

open Idealize.ShloMosaic
open scoped BigOperators

/-! ## Softmax of a row -/

/-- The largest score of a row. -/
def rowMax {n : ℕ} (s : Fin n → EReal) : EReal := Finset.univ.fold max ⊥ s
/-- The sum of a row's exponentials, taken below the largest score. -/
def rowDen {n : ℕ} (s : Fin n → EReal) : EReal := ∑ j, Ideal.exp (s j - rowMax s)
/-- The softmax of the scores `s` against the values `v`. -/
def att {n : ℕ} (s v : Fin n → EReal) : EReal := ∑ j, Ideal.div (Ideal.exp (s j - rowMax s)) (rowDen s) * v j

/-- Minus infinity less anything has exponential zero. -/
theorem exp_bot_sub (x : EReal) : Ideal.exp (⊥ - x) = 0 := by rw [sub_eq_add_neg, EReal.bot_add]; rfl

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- The largest score as a supremum. -/
theorem rowMax_eq_sup {n : ℕ} (s : Fin n → EReal) : rowMax s = Finset.univ.sup s := rfl

/-- Scores of minus infinity outside a band do not change the largest score. -/
theorem rowMax_band {n m : ℕ} (e : Fin n → Fin m) (s : Fin m → EReal) (hs : ∀ j, j ∉ Set.range e → s j = ⊥) :
    rowMax (s ∘ e) = rowMax s := by
  rw [rowMax_eq_sup, rowMax_eq_sup]
  refine le_antisymm (Finset.sup_le fun i _ => Finset.le_sup (f := s) (Finset.mem_univ (e i))) (Finset.sup_le fun j _ => ?_)
  by_cases h : j ∈ Set.range e
  · obtain ⟨i, rfl⟩ := h
    exact Finset.le_sup (f := s ∘ e) (Finset.mem_univ i)
  · rw [hs j h]; exact bot_le

/-- A sum over all positions of a function that vanishes outside a band is the sum over the band. -/
theorem sum_band {n m : ℕ} (e : Fin n → Fin m) (he : Function.Injective e) (f : Fin m → EReal) (hf : ∀ j, j ∉ Set.range e → f j = 0) :
    ∑ i, f (e i) = ∑ j, f j :=
  Finset.sum_of_injOn e he.injOn (fun _ _ => Finset.mem_univ _)
    (fun j _ h => hf j fun ⟨i, hi⟩ => h ⟨i, Finset.mem_coe.mpr (Finset.mem_univ i), hi⟩) (fun _ _ => rfl)

theorem rowDen_band {n m : ℕ} (e : Fin n → Fin m) (he : Function.Injective e) (s : Fin m → EReal) (hs : ∀ j, j ∉ Set.range e → s j = ⊥) :
    rowDen (s ∘ e) = rowDen s := by
  unfold rowDen
  rw [rowMax_band e s hs]
  exact sum_band e he (fun j => Ideal.exp (s j - rowMax s)) fun j hj => by show Ideal.exp (s j - _) = 0; rw [hs j hj, exp_bot_sub]

/-- A row with a score above minus infinity and none at plus infinity has a positive sum of exponentials. -/
theorem rowDen_ne_zero {n : ℕ} (s : Fin n → EReal) (ht : ∀ j, s j ≠ ⊤) (j₀ : Fin n) (hb : s j₀ ≠ ⊥) : rowDen s ≠ 0 := by
  obtain ⟨j, -, hj⟩ := Finset.exists_mem_eq_sup Finset.univ ⟨j₀, Finset.mem_univ j₀⟩ s
  have hmax : rowMax s = s j := hj
  have hne : s j ≠ ⊥ := fun h => hb (le_bot_iff.mp ((Finset.le_sup (f := s) (Finset.mem_univ j₀)).trans (hj.trans h).le))
  have h1 : Ideal.exp (s j - rowMax s) = 1 := by
    rw [hmax, EReal.sub_self (ht j) hne]
    show ((Real.exp 0 : ℝ) : EReal) = 1
    rw [Real.exp_zero]; rfl
  have hle : (1 : EReal) ≤ rowDen s := h1 ▸ Finset.single_le_sum (f := fun j => Ideal.exp (s j - rowMax s)) (fun _ _ => exp_nonneg _) (Finset.mem_univ j)
  exact fun h => not_le.mpr (zero_lt_one (α := EReal)) (h ▸ hle)

/-- The softmax over a band holding every score above minus infinity is the softmax over the whole row. -/
theorem att_band {n m : ℕ} (e : Fin n → Fin m) (he : Function.Injective e) (s v : Fin m → EReal) (hs : ∀ j, j ∉ Set.range e → s j = ⊥)
    (hd : rowDen s ≠ 0) : att (s ∘ e) (v ∘ e) = att s v := by
  unfold att
  rw [rowMax_band e s hs, rowDen_band e he s hs]
  refine sum_band e he (fun j => Ideal.div (Ideal.exp (s j - rowMax s)) (rowDen s) * v j) fun j hj => ?_
  show Ideal.div (Ideal.exp (s j - _)) _ * v j = 0
  rw [hs j hj, exp_bot_sub, Ideal.div, if_neg hd, zero_mul, zero_mul]

/-! ## Finite numbers -/

/-- A value that is a real number. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.sum {ι : Type} (t : Finset ι) (f : ι → EReal) (h : ∀ i, Fin' (f i)) : Fin' (∑ i ∈ t, f i) := by
  classical
  choose g hg using h
  refine ⟨∑ i ∈ t, g i, ?_⟩
  rw [show f = fun i => ((g i : ℝ) : EReal) from funext hg]
  induction t using Finset.induction_on with
  | empty => rfl
  | insert a t ha ih => rw [Finset.sum_insert ha, Finset.sum_insert ha, ih, EReal.coe_add]

theorem Fin'.ne_top {x : EReal} (h : Fin' x) : x ≠ ⊤ := by obtain ⟨a, rfl⟩ := h; exact EReal.coe_ne_top a
theorem Fin'.ne_bot {x : EReal} (h : Fin' x) : x ≠ ⊥ := by obtain ⟨a, rfl⟩ := h; exact EReal.coe_ne_bot a

/-- A value whose absolute value is below plus infinity is a real number. -/
theorem fin_of_abs_lt {x : EReal} (h : max x (-x) < ⊤) : Fin' x := by
  induction x using EReal.rec with
  | bot => exact absurd h (by simp)
  | top => exact absurd h (by simp)
  | coe r => exact ⟨r, rfl⟩

/-- The scale of the scores, one eighth, as the programs print it. -/
def scale : EReal := Ideal.ofBits .f32 0x3E000000#32
theorem scale_fin : Fin' scale := by
  refine ⟨1 / 8, ?_⟩
  unfold scale
  simp [Ideal.ofBits, Ideal.ieee, -EReal.coe_mul]
  norm_num

/-- The word of minus infinity. -/
theorem ofBits_ninf : Ideal.ofBits .f32 0xFF800000#32 = ⊥ := by simp [Ideal.ofBits, Ideal.ieee]
/-- The word of plus infinity. -/
theorem ofBits_inf : Ideal.ofBits .f32 0x7F800000#32 = ⊤ := by simp [Ideal.ofBits, Ideal.ieee]

/-! ## The block -/

/-- Column `d` of head `h` among the 2048 columns. -/
def hd (h : Fin 32) (d : Fin 64) : Fin 2048 := ⟨64 * h.val + d.val, by omega⟩
/-- A column's head, and its place within the head. -/
def headC (k : Fin 2048) : Fin 32 := ⟨k.val / 64, by omega⟩
def placeC (k : Fin 2048) : Fin 64 := ⟨k.val % 64, by omega⟩

/-- Query `i` attends to key `j`: they are at most 128 apart. -/
abbrev Near (i j : ℕ) : Prop := i ≤ j + 128 ∧ j ≤ i + 128

section
variable (X : Fin 2 → Fin 512 → Fin 768 → EReal) (WQ : Fin 768 → Fin 2048 → EReal)
  (K V : Fin 2 → Fin 2048 → Fin 32 → Fin 64 → EReal) (WO : Fin 2048 → Fin 768 → EReal)

/-- The queries, by their column among the 2048. -/
def Q (b : Fin 2) (i : Fin 512) (k : Fin 2048) : EReal := ∑ a, X b i a * WQ a k
/-- The score of query `i` and key `j` in head `h`. -/
def S (b : Fin 2) (h : Fin 32) (i : Fin 512) (j : Fin 2048) : EReal := (∑ d, Q X WQ b i (hd h d) * K b j h d) * scale
/-- The score inside the window, minus infinity outside. -/
def Sm (b : Fin 2) (h : Fin 32) (i : Fin 512) (j : Fin 2048) : EReal := if Near i.val j.val then S X WQ K b h i j else ⊥
/-- The attention output, by its column among the 2048. -/
def C (b : Fin 2) (i : Fin 512) (k : Fin 2048) : EReal :=
  att (Sm X WQ K b (headC k) i) fun j => V b j (headC k) (placeC k)
/-- The block's result. -/
def Out (b : Fin 2) (i : Fin 512) (n : Fin 768) : EReal := ∑ k, C X WQ K V b i k * WO k n

/-- Of finite inputs, queries, query matrix and keys, every row of scores has a positive sum of exponentials. -/
theorem den_ne_zero (hX : ∀ b i a, Fin' (X b i a)) (hW : ∀ a k, Fin' (WQ a k)) (hK : ∀ b j h d, Fin' (K b j h d))
    (b : Fin 2) (h : Fin 32) (i : Fin 512) : rowDen (Sm X WQ K b h i) ≠ 0 := by
  have hS : ∀ j, Fin' (S X WQ K b h i j) := fun j =>
    (Fin'.sum _ _ fun d => (Fin'.sum _ _ fun a => (hX _ _ _).mul (hW _ _)).mul (hK _ _ _ _)).mul scale_fin
  refine rowDen_ne_zero _ (fun j => ?_) ⟨i.val, by omega⟩ ?_
  · unfold Sm; split
    · exact (hS j).ne_top
    · exact bot_ne_top
  · unfold Sm; rw [if_pos ⟨by simp, by simp⟩]; exact (hS _).ne_bot

/-- The sum over the 2048 columns, device by device. -/
theorem sum_cols (f : Fin 2048 → EReal) : ∑ k, f k = ∑ c : Fin 4, ∑ q : Fin 512, f ⟨512 * c.val + q.val, by omega⟩ := by
  rw [← Fintype.sum_prod_type', ← (finProdFinEquiv (m := 4) (n := 512)).sum_comp f]
  exact Finset.sum_congr rfl fun x _ => congrArg f (Fin.ext (by show x.2.val + 512 * x.1.val = _; exact Nat.add_comm _ _))

end

end Cert.Attn

end
-- ==== Proof.VTools.lean ====
/-
# Reading the operations at an index

What the kernel's and the reference's terms share: the window's bit of two positions, a product as a sum over its one
contracted axis, and the largest of a row.
-/
module

public import proofs.«01_k».proof.Proof.Attn
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.Attn

open Idealize.ShloMosaic Idealize.ShloMosaic.ValueIdx
open scoped BigOperators

/-- The bit of the window: set when the two positions are at most 128 apart. -/
theorem near_bit (a b : ℕ) (ha : a < 4096) (hb : b < 4096) :
    IntOp.cmpi .sle (IntOp.absi (BitVec.ofNat 32 a - BitVec.ofNat 32 b)) 128#32 = if Near a b then 1#1 else 0#1 := by
  have hN : (BitVec.ofNat 32 a - BitVec.ofNat 32 b).toNat = if b ≤ a then a - b else 4294967296 - (b - a) := by
    rw [BitVec.toNat_sub, BitVec.toNat_ofNat, BitVec.toNat_ofNat]; split <;> omega
  have hA : (IntOp.absi (BitVec.ofNat 32 a - BitVec.ofNat 32 b)).toNat = if b ≤ a then a - b else b - a := by
    unfold IntOp.absi
    rw [BitVec.msb_eq_decide, hN]
    by_cases h : b ≤ a
    · rw [if_pos h, if_pos h, if_neg (by simp; omega), hN, if_pos h]
    · rw [if_neg h, if_neg h, if_pos (by simp; omega), BitVec.toNat_neg, hN, if_neg h]; omega
  unfold IntOp.cmpi
  have : (IntOp.absi (BitVec.ofNat 32 a - BitVec.ofNat 32 b)).sle 128#32 = decide (Near a b) := by
    rw [BitVec.sle_eq_decide, BitVec.toInt_eq_toNat_of_lt (by rw [hA]; split <;> omega), hA]
    refine decide_eq_decide.mpr ?_
    rw [show (128#32).toInt = 128 from rfl]
    split <;> constructor <;> intro h <;> (try constructor) <;> omega
  simp only [this]
  by_cases h : Near a b
  · rw [if_pos h, decide_eq_true h]; rfl
  · rw [if_neg h, decide_eq_false h]; rfl

/-- A select on the window's bit. -/
theorem select_near {α : Type} (p : Prop) [Decidable p] (x y : α) : Scalar.select (if p then 1#1 else 0#1) x y = if p then x else y := by
  split <;> rfl

/-- A host product at an index, over its one contracted axis. -/
theorem dot_sum {sl sr so : Shape} {φ₁ φ₂ : FTy} (D : DotDims sl sr so) (n : ℕ) (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k (q : D.contr.Idx), (q ⟨0, by omega⟩ : ℕ) = k.val → ∀ a, (D.lhsIdx j q a).val = (L k a).val)
    (hR : ∀ k (q : D.contr.Idx), (q ⟨0, by omega⟩ : ℕ) = k.val → ∀ a, (D.rhsIdx j q a).val = (R k a).val) :
    Host.dotGeneral D none lhs rhs j = ∑ k, lhs (L k) * rhs (R k) := by
  simp only [Host.dotGeneral]
  rw [Ideal.dotGeneral_apply, ← Equiv.sum_comp (contrEquiv1 D n hr hs).symm]
  exact Finset.sum_congr rfl fun k _ => congrArg₂ (· * ·)
    (congrArg lhs (funext fun a => Fin.ext (hL k _ (contrEquiv1_symm_val D n hr hs k) a)))
    (congrArg rhs (funext fun a => Fin.ext (hR k _ (contrEquiv1_symm_val D n hr hs k) a)))

/-- A kernel product from zero at an index, over its one contracted axis. -/
theorem mm_sum {sl sr so : Shape} {φ₁ φ₂ : FTy} (D : DotDims sl sr so) (n : ℕ) (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k (q : D.contr.Idx), (q ⟨0, by omega⟩ : ℕ) = k.val → ∀ a, (D.lhsIdx j q a).val = (L k a).val)
    (hR : ∀ k (q : D.contr.Idx), (q ⟨0, by omega⟩ : ℕ) = k.val → ∀ a, (D.rhsIdx j q a).val = (R k a).val) :
    matmul D none lhs rhs (constant so .f32 0#32) j = ∑ k, lhs (L k) * rhs (R k) := by
  simp only [matmul]
  rw [Ideal.matmul_constant_zero_apply, ← Equiv.sum_comp (contrEquiv1 D n hr hs).symm]
  exact Finset.sum_congr rfl fun k _ => congrArg₂ (· * ·)
    (congrArg lhs (funext fun a => Fin.ext (hL k _ (contrEquiv1_symm_val D n hr hs k) a)))
    (congrArg rhs (funext fun a => Fin.ext (hR k _ (contrEquiv1_symm_val D n hr hs k) a)))

end Cert.Attn

end
-- ==== Proof.HeadValue.lean ====
/-
# The kernel's payloads at coordinates

Each payload of the kernel over the extended reals, read at coordinates: the reshapes of keys and values, the product of a
batch with the query matrix, the masks, one head's softmax against its values, the product with the output matrix, and the
sums of two windows.
-/
module

public import proofs.«01_k».proof.Proof.VTools
public import proofs.«01_k».proof.Proof.ICommon

@[expose] public section

noncomputable section

namespace Cert.KernelIdealProof

open Cert.KernelIdeal Cert.KernelIdeal.Gen Idealize.ShloMosaic.TcCoe
open Idealize.ShloMosaic hiding ix1 ix2 ix3 ix4
open Idealize.ShloMosaic.ValueIdx Cert.Attn
open scoped BigOperators

/-! ## Windows -/

theorem head128_apply (f : Vec Ideal S2x512x32x64 .bf16) (b : Fin 2) (j : Fin 128) (h : Fin 32) (d : Fin 64) :
    head128 f (ix4 b j h d) = f (ix4 b ⟨j.val, by omega⟩ h d) :=
  congrArg f (funext fun a => Fin.ext (match a with
    | ⟨0, _⟩ => (by omega : 0 + 1 * b.val = b.val) | ⟨1, _⟩ => (by omega : 0 + 1 * j.val = j.val)
    | ⟨2, _⟩ => (by omega : 0 + 1 * h.val = h.val) | ⟨3, _⟩ => (by omega : 0 + 1 * d.val = d.val)))

theorem xwin_apply (f : Vec Ideal S2x512x768 .bf16) (b : Fin 2) (i : Fin 512) (a : Fin 768) : xwin f b (ix3 0 i a) = f (ix3 b i a) :=
  congrArg f (funext fun u => Fin.ext (match u with
    | ⟨0, _⟩ => (by omega : b.val + 1 * 0 = b.val) | ⟨1, _⟩ => (by omega : 0 + 1 * i.val = i.val) | ⟨2, _⟩ => (by omega : 0 + 1 * a.val = a.val)))

theorem qwin_apply (f : Vec Ideal S2x512x512 .bf16) (b r : Fin 2) (h : Fin 8) (y : Fin 256) (d : Fin 64) (i q : Fin 512)
    (hi : i.val = 256 * r.val + y.val) (hq : q.val = 64 * h.val + d.val) : qwin f b r h (ix3 0 y d) = f (ix3 b i q) :=
  congrArg f (funext fun u => Fin.ext (match u with
    | ⟨0, _⟩ => (by omega : b.val + 1 * 0 = b.val) | ⟨1, _⟩ => (by omega : 256 * r.val + 1 * y.val = i.val) | ⟨2, _⟩ => (by omega : 64 * h.val + 1 * d.val = q.val)))

theorem kwin0_apply (f : Vec Ideal S2x640x512 .bf16) (b : Fin 2) (h : Fin 8) (j : Fin 384) (d : Fin 64) (q : Fin 512)
    (hq : q.val = 64 * h.val + d.val) : kwin0 f b h (ix3 0 j d) = f (ix3 b ⟨j.val, by omega⟩ q) :=
  congrArg f (funext fun u => Fin.ext (match u with
    | ⟨0, _⟩ => (by omega : b.val + 1 * 0 = b.val) | ⟨1, _⟩ => (by omega : 0 + 1 * j.val = j.val) | ⟨2, _⟩ => (by omega : 64 * h.val + 1 * d.val = q.val)))

theorem kwin1_apply (f : Vec Ideal S2x640x512 .bf16) (b : Fin 2) (h : Fin 8) (j : Fin 512) (d : Fin 64) (q : Fin 512)
    (hq : q.val = 64 * h.val + d.val) : kwin1 f b h (ix3 0 j d) = f (ix3 b ⟨128 + j.val, by omega⟩ q) :=
  congrArg f (funext fun u => Fin.ext (match u with
    | ⟨0, _⟩ => (by omega : b.val + 1 * 0 = b.val) | ⟨1, _⟩ => (by omega : 128 + 1 * j.val = 128 + j.val) | ⟨2, _⟩ => (by omega : 64 * h.val + 1 * d.val = q.val)))

theorem cwin_apply (f : Vec Ideal S2x512x512 .bf16) (b r : Fin 2) (y : Fin 256) (q i : Fin 512) (hi : i.val = 256 * r.val + y.val) :
    cwin f b r (ix3 0 y q) = f (ix3 b i q) :=
  congrArg f (funext fun u => Fin.ext (match u with
    | ⟨0, _⟩ => (by omega : b.val + 1 * 0 = b.val) | ⟨1, _⟩ => (by omega : 256 * r.val + 1 * y.val = i.val) | ⟨2, _⟩ => (by omega : 0 + 1 * q.val = q.val)))

theorem pwin_apply (f : Vec Ideal S2x512x768 .bf16) (b r : Fin 2) (y : Fin 256) (o : Fin 768) (i : Fin 512) (hi : i.val = 256 * r.val + y.val) :
    pwin f b r (ix3 0 y o) = f (ix3 b i o) :=
  congrArg f (funext fun u => Fin.ext (match u with
    | ⟨0, _⟩ => (by omega : b.val + 1 * 0 = b.val) | ⟨1, _⟩ => (by omega : 256 * r.val + 1 * y.val = i.val) | ⟨2, _⟩ => (by omega : 0 + 1 * o.val = o.val)))

/-! ## Reshapes of keys and values -/

/-- A block of `n` rows, its heads laid side by side. -/
theorem flat_apply {n : ℕ} (f : (⟨4, ![2, n, 32, 64]⟩ : Shape).Idx → EReal)
    (h1 : (⟨4, ![2, n, 32, 64]⟩ : Shape).ShapeCasts ⟨4, ![2, n, 32, 64]⟩) (h2 : (⟨4, ![2, n, 32, 64]⟩ : Shape).ShapeCasts ⟨3, ![2, n, 2048]⟩)
    (h3 : (⟨3, ![2, n, 2048]⟩ : Shape).ShapeCasts ⟨3, ![2, n, 2048]⟩) (b : Fin 2) (j : Fin n) (k : Fin 2048) :
    shapeCast ⟨3, ![2, n, 2048]⟩ (shapeCast ⟨3, ![2, n, 2048]⟩ (shapeCast ⟨4, ![2, n, 32, 64]⟩ f h1) h2) h3 (ix3 b j k) = f (ix4 b j (headC k) (placeC k)) := by
  rw [shapeCast_apply _ _ _ (ix3 b j k) rfl, shapeCast_apply _ _ _ (ix4 b j (headC k) (placeC k)), shapeCast_apply _ _ _ (ix4 b j (headC k) (placeC k)) rfl]
  rw [Shape.rowMajor_val_three, Shape.rowMajor_val_four]
  show ((b.val * n + j.val) * 32 + k.val / 64) * 64 + k.val % 64 = (b.val * n + j.val) * 2048 + k.val
  omega

/-! ## Products -/

theorem mmQ (x : FVec Ideal S512x768 .bf16) (w : FVec Ideal S768x512 .bf16) (i q : Fin 512) :
    matmul dot_S512x768_S768x512_S512x512_1_0_0_1_n_n none x w (constant S512x512 .f32 0#32) (ix2 i q) = ∑ a, x (ix2 i a) * w (ix2 a q) :=
  mm_sum dot_S512x768_S768x512_S512x512_1_0_0_1_n_n 768 rfl rfl x w _ (fun a => ix2 i a) (fun a => ix2 a q)
    (fun _ _ h u => match u with | ⟨0, _⟩ => rfl | ⟨1, _⟩ => h) (fun _ _ h u => match u with | ⟨0, _⟩ => h | ⟨1, _⟩ => rfl)

theorem mmO (x : FVec Ideal S256x512 .bf16) (w : FVec Ideal S512x768 .bf16) (y : Fin 256) (o : Fin 768) :
    matmul dot_S256x512_S512x768_S256x768_1_0_0_1_n_n none x w (constant S256x768 .f32 0#32) (ix2 y o) = ∑ q, x (ix2 y q) * w (ix2 q o) :=
  mm_sum dot_S256x512_S512x768_S256x768_1_0_0_1_n_n 512 rfl rfl x w _ (fun a => ix2 y a) (fun a => ix2 a o)
    (fun _ _ h u => match u with | ⟨0, _⟩ => rfl | ⟨1, _⟩ => h) (fun _ _ h u => match u with | ⟨0, _⟩ => h | ⟨1, _⟩ => rfl)

theorem pay10_apply (wq : Vec Ideal S768x512 .bf16) (x : Vec Ideal S1x512x768 .bf16) (i q : Fin 512) :
    k0_pay10 wq x (ix3 0 i q) = ∑ a, (x (ix3 0 i a) : EReal) * wq (ix2 a q) := by
  unfold k0_pay10 k0_pay9
  refine (shapeCast_ab_1ab_apply _ _ _ _ _).trans ((mmQ _ _ i q).trans (Finset.sum_congr rfl fun a _ => congrArg₂ (· * ·) ?_ ?_))
  · exact shapeCast_1ab_ab_apply _ _ _ _
  · exact shapeCast_apply _ _ _ _ rfl

theorem pay46_apply (wo : Vec Ideal S512x768 .bf16) (x : Vec Ideal S1x256x512 .bf16) (y : Fin 256) (o : Fin 768) :
    k0_pay46 wo x (ix3 0 y o) = ∑ q, (x (ix3 0 y q) : EReal) * wo (ix2 q o) := by
  unfold k0_pay46 k0_pay45
  refine (shapeCast_ab_1ab_apply _ _ _ _ _).trans ((mmO _ _ y o).trans (Finset.sum_congr rfl fun a _ => congrArg₂ (· * ·) ?_ ?_))
  · exact shapeCast_1ab_ab_apply _ _ _ _
  · exact shapeCast_apply _ _ _ _ rfl

theorem pay82_apply (x z : Vec Ideal S1x256x768 .bf16) (y : Fin 256) (o : Fin 768) :
    k0_pay82 x z (ix3 0 y o) = (x (ix3 0 y o) : EReal) + z (ix3 0 y o) := by
  unfold k0_pay82
  refine (shapeCast_ab_1ab_apply _ _ _ _ _).trans ?_
  exact congrArg₂ (fun a b : EReal => a + b) (shapeCast_1ab_ab_apply x _ y o) (shapeCast_1ab_ab_apply z _ y o)

theorem pay85_apply (x z : Vec Ideal S1x256x768 .bf16) (y : Fin 256) (o : Fin 768) :
    k0_pay85 x z (ix3 0 y o) = (x (ix3 0 y o) : EReal) + z (ix3 0 y o) := by
  unfold k0_pay85
  refine (shapeCast_ab_1ab_apply _ _ _ _ _).trans ?_
  exact congrArg₂ (fun a b : EReal => a + b) (shapeCast_1ab_ab_apply x _ y o) (shapeCast_1ab_ab_apply z _ y o)

/-! ## Masks -/

theorem mask0_apply (y : Fin 256) (j : Fin 384) : mask0 (F := Ideal) (ix2 y j) = if Near y.val j.val then (0 : EReal) else ⊥ := by
  refine Eq.trans (show _ = k0_pay13 (F := Ideal) (ix2 y j) from congrArg (k0_pay13 (F := Ideal)) (funext fun u => Fin.ext (match u with
    | ⟨0, _⟩ => (by omega : 0 + 1 * y.val = y.val) | ⟨1, _⟩ => (by omega : 0 + 1 * j.val = j.val)))) ?_
  unfold k0_pay13
  refine (shapeCast_apply _ _ _ (ix2 y j) rfl).trans ?_
  refine Eq.trans ?_ ((select_near (Near y.val j.val) (0 : EReal) ⊥))
  rw [← near_bit y.val j.val (by omega) (by omega)]
  show Scalar.select (IntOp.cmpi .sle (IntOp.absi ((0#32 + _) - (0#32 + _))) _) (Ideal.ofBits .f32 0#32) ⊥ = _
  rw [BitVec.zero_add, BitVec.zero_add, iota_single_apply, iota_single_apply, Ideal.ofBits_zero_f32]
  rfl

theorem mask1_apply (y : Fin 256) (j : Fin 512) : mask1 (F := Ideal) (ix2 y j) = if Near (256 + y.val) (128 + j.val) then (0 : EReal) else ⊥ := by
  refine Eq.trans (show _ = k0_pay14 (F := Ideal) (ix2 y j) from congrArg (k0_pay14 (F := Ideal)) (funext fun u => Fin.ext (match u with
    | ⟨0, _⟩ => (by omega : 0 + 1 * y.val = y.val) | ⟨1, _⟩ => (by omega : 0 + 1 * j.val = j.val)))) ?_
  unfold k0_pay14
  refine (shapeCast_apply _ _ _ (ix2 y j) rfl).trans ?_
  refine Eq.trans ?_ ((select_near (Near (256 + y.val) (128 + j.val)) (0 : EReal) ⊥))
  rw [← near_bit (256 + y.val) (128 + j.val) (by omega) (by omega), BitVec.ofNat_add, BitVec.ofNat_add]
  show Scalar.select (IntOp.cmpi .sle (IntOp.absi ((256#32 + _) - (128#32 + _))) _) (Ideal.ofBits .f32 0#32) ⊥ = _
  rw [iota_single_apply, iota_single_apply, Ideal.ofBits_zero_f32]
  rfl

/-! ## One head -/

section
variable {n : ℕ} (D1 : DotDims ⟨2, ![256, 64]⟩ ⟨2, ![n, 64]⟩ ⟨2, ![256, n]⟩) (D2 : DotDims ⟨2, ![256, n]⟩ ⟨2, ![n, 64]⟩ ⟨2, ![256, 64]⟩)
  (hr : (⟨2, ![256, n]⟩ : Shape).Reduces [1] ⟨1, ![256]⟩) (hc : (⟨1, ![256]⟩ : Shape).ShapeCasts ⟨2, ![256, 1]⟩)
  (hb : (⟨2, ![256, 1]⟩ : Shape).Broadcasts ⟨2, ![256, n]⟩)
  (q : FVec Ideal ⟨2, ![256, 64]⟩ .bf16) (k v : FVec Ideal ⟨2, ![n, 64]⟩ .bf16) (ms : FVec Ideal ⟨2, ![256, n]⟩ .f32)

/-- A head's scores, exponentials, and output over `n` keys, as the kernel computes them. -/
def hScr : FVec Ideal ⟨2, ![256, n]⟩ .f32 :=
  addf (mulf (matmul D1 none q k (constant _ .f32 0#32)) (broadcast _ (Scalar.ofBits .f32 0x3E000000#32))) ms
def hExp : FVec Ideal ⟨2, ![256, n]⟩ .f32 :=
  exp (subf (hScr D1 q k ms) (broadcastTo ⟨2, ![256, n]⟩ (shapeCast ⟨2, ![256, 1]⟩ (multiReduction .maximumf [1] ⟨1, ![256]⟩ (hScr D1 q k ms) 0xFF800000#32 hr (.inl rfl) rfl) hc) hb))
def hOut : FVec Ideal ⟨2, ![256, 64]⟩ .f32 :=
  matmul D2 none (truncf .bf16 (divf (hExp D1 hr hc hb q k ms) (broadcastTo ⟨2, ![256, n]⟩ (shapeCast ⟨2, ![256, 1]⟩ (multiReduction .add [1] ⟨1, ![256]⟩ (hExp D1 hr hc hb q k ms) 0#32 hr (.inl rfl) rfl) hc) hb)) (by decide)) v (constant _ .f32 0#32)

/-- A column of row values, spread along the rows. -/
theorem spread_apply (f : FVec Ideal ⟨1, ![256]⟩ .f32) (y : Fin 256) (j : Fin n) :
    broadcastTo ⟨2, ![256, n]⟩ (shapeCast ⟨2, ![256, 1]⟩ f hc) hb (ix2 y j) = f (ix1 y) :=
  (broadcastTo_apply _ hb _ (ix2 y 0) (fun a => match a with | ⟨0, _⟩ => rfl | ⟨1, _⟩ => rfl)).trans (shapeCast_a_a1_apply _ _ _ _)

/-- The row of a head's scores. -/
def hRow (y : Fin 256) (j : Fin n) : EReal := (∑ d, (q (ix2 y d) : EReal) * k (ix2 j d)) * scale + ms (ix2 y j)

variable (h1 : ∀ (a : FVec Ideal ⟨2, ![256, 64]⟩ .bf16) (b : FVec Ideal ⟨2, ![n, 64]⟩ .bf16) (y : Fin 256) (j : Fin n),
    matmul D1 none a b (constant _ .f32 0#32) (ix2 y j) = ∑ d, (a (ix2 y d) : EReal) * b (ix2 j d))
  (h2 : ∀ (a : FVec Ideal ⟨2, ![256, n]⟩ .bf16) (b : FVec Ideal ⟨2, ![n, 64]⟩ .bf16) (y : Fin 256) (d : Fin 64),
    matmul D2 none a b (constant _ .f32 0#32) (ix2 y d) = ∑ j, (a (ix2 y j) : EReal) * b (ix2 j d))
include h1

theorem hScr_apply (y : Fin 256) (j : Fin n) : hScr D1 q k ms (ix2 y j) = hRow q k ms y j :=
  congrArg (fun t : EReal => t * scale + ms (ix2 y j)) (h1 q k y j)

theorem hExp_apply (y : Fin 256) (j : Fin n) : hExp D1 hr hc hb q k ms (ix2 y j) = Ideal.exp (hRow q k ms y j - rowMax (hRow q k ms y)) := by
  refine congrArg Ideal.exp (congrArg₂ (fun a b : EReal => a - b) (hScr_apply D1 q k ms h1 y j) ((spread_apply hc hb _ y j).trans ?_))
  refine (Ideal.multiReduction_maximumf_single _ _ hr _ _ _).trans ?_
  have e : hScr D1 q k ms ∘ hr.lift (ix1 y) = hRow q k ms y := by
    funext u
    refine Eq.trans (congrArg (hScr D1 q k ms) ?_) (hScr_apply D1 q k ms h1 y u)
    funext a; apply Fin.ext; match a with | ⟨0, _⟩ => rfl | ⟨1, _⟩ => rfl
  rw [e]
  show Finset.fold max (Ideal.ofBits .f32 0xFF800000#32) _ _ = _
  rw [ofBits_ninf]; rfl

include h2

theorem hOut_apply (y : Fin 256) (d : Fin 64) : hOut D1 D2 hr hc hb q k v ms (ix2 y d) = att (hRow q k ms y) (fun j => v (ix2 j d)) := by
  unfold hOut
  rw [h2]
  refine Finset.sum_congr rfl fun j _ => congrArg (fun t : EReal => t * v (ix2 j d)) ?_
  refine congrArg₂ Ideal.div (hExp_apply D1 hr hc hb q k ms h1 y j) ((spread_apply hc hb _ y j).trans ?_)
  refine (Ideal.multiReduction_add_single _ _ hr _ _ _).trans ?_
  refine Finset.sum_congr rfl fun u _ => Eq.trans (congrArg (hExp D1 hr hc hb q k ms) ?_) (hExp_apply D1 hr hc hb q k ms h1 y u)
  funext a; apply Fin.ext; match a with | ⟨0, _⟩ => rfl | ⟨1, _⟩ => rfl
end

/-- A head of 384 keys. -/
theorem pay15_apply (q : Vec Ideal S1x256x64 .bf16) (k : Vec Ideal S1x384x64 .bf16) (ms : Vec Ideal S256x384 .f32) (v : Vec Ideal S1x384x64 .bf16)
    (y : Fin 256) (d : Fin 64) : k0_pay15 q k ms v (ix3 0 y d)
      = att (fun j => (∑ e, (q (ix3 0 y e) : EReal) * k (ix3 0 j e)) * scale + ms (ix2 y j)) (fun j => v (ix3 0 j d)) := by
  refine (shapeCast_ab_1ab_apply (truncf .bf16 (hOut dot_S256x64_S384x64_S256x384_1_1_0_0_n_n dot_S256x384_S384x64_S256x64_1_0_0_1_n_n reduces_S256x384_S256 shapeCasts_S256_S256x1 broadcasts_S256x1_S256x384
    (shapeCast S256x64 q shapeCasts_S1x256x64_S256x64) (shapeCast S384x64 k shapeCasts_S1x384x64_S384x64) (shapeCast S384x64 v shapeCasts_S1x384x64_S384x64) ms) bitsLt_bf16_f32) shapeCasts_S256x64_S1x256x64 0 y d).trans ?_
  refine (hOut_apply _ _ _ _ _ _ _ _ _
    (fun a b y j => mm_sum dot_S256x64_S384x64_S256x384_1_1_0_0_n_n 64 rfl rfl a b _ (fun e => ix2 y e) (fun e => ix2 j e)
      (fun _ _ h u => match u with | ⟨0, _⟩ => rfl | ⟨1, _⟩ => h) (fun _ _ h u => match u with | ⟨0, _⟩ => rfl | ⟨1, _⟩ => h))
    (fun a b y e => mm_sum dot_S256x384_S384x64_S256x64_1_0_0_1_n_n 384 rfl rfl a b _ (fun j => ix2 y j) (fun j => ix2 j e)
      (fun _ _ h u => match u with | ⟨0, _⟩ => rfl | ⟨1, _⟩ => h) (fun _ _ h u => match u with | ⟨0, _⟩ => h | ⟨1, _⟩ => rfl)) y d).trans ?_
  refine congrArg₂ att (funext fun j => congrArg (fun t : EReal => t * scale + ms (ix2 y j)) (Finset.sum_congr rfl fun e _ => congrArg₂ (· * ·) ?_ ?_)) (funext fun j => ?_)
  all_goals exact shapeCast_1ab_ab_apply _ _ _ _

/-- A head of 512 keys. -/
theorem pay50_apply (q : Vec Ideal S1x256x64 .bf16) (k : Vec Ideal S1x512x64 .bf16) (ms : Vec Ideal S256x512 .f32) (v : Vec Ideal S1x512x64 .bf16)
    (y : Fin 256) (d : Fin 64) : k0_pay50 q k ms v (ix3 0 y d)
      = att (fun j => (∑ e, (q (ix3 0 y e) : EReal) * k (ix3 0 j e)) * scale + ms (ix2 y j)) (fun j => v (ix3 0 j d)) := by
  refine (shapeCast_ab_1ab_apply (truncf .bf16 (hOut dot_S256x64_S512x64_S256x512_1_1_0_0_n_n dot_S256x512_S512x64_S256x64_1_0_0_1_n_n reduces_S256x512_S256 shapeCasts_S256_S256x1 broadcasts_S256x1_S256x512
    (shapeCast S256x64 q shapeCasts_S1x256x64_S256x64) (shapeCast S512x64 k shapeCasts_S1x512x64_S512x64) (shapeCast S512x64 v shapeCasts_S1x512x64_S512x64) ms) bitsLt_bf16_f32) shapeCasts_S256x64_S1x256x64 0 y d).trans ?_
  refine (hOut_apply _ _ _ _ _ _ _ _ _
    (fun a b y j => mm_sum dot_S256x64_S512x64_S256x512_1_1_0_0_n_n 64 rfl rfl a b _ (fun e => ix2 y e) (fun e => ix2 j e)
      (fun _ _ h u => match u with | ⟨0, _⟩ => rfl | ⟨1, _⟩ => h) (fun _ _ h u => match u with | ⟨0, _⟩ => rfl | ⟨1, _⟩ => h))
    (fun a b y e => mm_sum dot_S256x512_S512x64_S256x64_1_0_0_1_n_n 512 rfl rfl a b _ (fun j => ix2 y j) (fun j => ix2 j e)
      (fun _ _ h u => match u with | ⟨0, _⟩ => rfl | ⟨1, _⟩ => h) (fun _ _ h u => match u with | ⟨0, _⟩ => h | ⟨1, _⟩ => rfl)) y d).trans ?_
  refine congrArg₂ att (funext fun j => congrArg (fun t : EReal => t * scale + ms (ix2 y j)) (Finset.sum_congr rfl fun e _ => congrArg₂ (· * ·) ?_ ?_)) (funext fun j => ?_)
  all_goals exact shapeCast_1ab_ab_apply _ _ _ _

end Cert.KernelIdealProof

end
-- ==== Proof.DevValue.lean ====
/-
# What each device computes

From the blocks staged on the devices, as blocks of whole arrays: device `c`'s queries are columns of all the queries, its
640 gathered rows are rows of all the keys (values), its attention output is columns of the whole one, and the sum of the
four partial products is the block's result.
-/
module

public import proofs.«01_k».proof.Proof.HeadValue

@[expose] public section

noncomputable section

namespace Cert.KernelIdealProof

open Cert.KernelIdeal Cert.KernelIdeal.Gen Idealize.ShloMosaic.TcCoe
open Idealize.ShloMosaic hiding ix1 ix2 ix3 ix4
open Idealize.ShloMosaic.ValueIdx Cert.Attn
open scoped BigOperators

variable (m : (ℓ : Loc nD τ sig) → Buf (Elt Ideal) ℓ) (ρ : Dev nD → PrngReg)
variable (X : Fin 2 → Fin 512 → Fin 768 → EReal) (WQ : Fin 768 → Fin 2048 → EReal)
  (K V : Fin 2 → Fin 2048 → Fin 32 → Fin 64 → EReal) (WO : Fin 2048 → Fin 768 → EReal)

/-- The staged blocks are the devices' blocks of whole arrays. -/
structure Staged : Prop where
  x : ∀ c b i a, xstg m ρ c (ix3 b i a) = X b i a
  wq : ∀ c a q, wqstg m ρ c (ix2 a q) = WQ a (colOf c q)
  k : ∀ c b j h d, kstg m ρ c (ix4 b j h d) = K b (colOf c j) h d
  v : ∀ c b j h d, vstg m ρ c (ix4 b j h d) = V b (colOf c j) h d
  wo : ∀ c q o, wostg m ρ c (ix2 q o) = WO (colOf c q) o

variable {m ρ X WQ K V WO} (H : Staged m ρ X WQ K V WO)
include H

theorem qAll_apply (c : Dev nD) (b : Fin 2) (i q : Fin 512) : qAll m ρ c (ix3 b i q) = Q X WQ b i (colOf c q) := by
  have e : ∀ b' : Fin 2, k0_pay10 (wqstg m ρ c) (xwin (xstg m ρ c) b') (ix3 0 i q) = Q X WQ b' i (colOf c q) := fun b' =>
    (pay10_apply _ _ i q).trans (Finset.sum_congr rfl fun a _ => congrArg₂ (fun a b : EReal => a * b) ((xwin_apply _ b' i a).trans (H.x c b' i a)) (H.wq c a q))
  match b with
  | ⟨0, _⟩ => exact e 0
  | ⟨1, _⟩ => exact e 1

theorem kAll_apply (c : Dev nD) (b : Fin 2) (j : Fin 640) (q : Fin 512) :
    kAll m ρ c (ix3 b j q) = K b ⟨j.val, by omega⟩ (headC (colOf c q)) (placeC (colOf c q)) := by
  unfold kAll gather
  by_cases hj : j.val < 512
  · refine (dif_pos (show ((ix3 b j q) 1).val < 512 from hj)).trans ?_
    refine (flat_apply (kstg m ρ 0) _ _ _ b ⟨j.val, hj⟩ (colOf c q)).trans ((H.k 0 b _ _ _).trans ?_)
    exact congrArg (K b · _ _) (Fin.ext (by show 512 * 0 + j.val = j.val; omega))
  · refine (dif_neg (show ¬ ((ix3 b j q) 1).val < 512 from hj)).trans ?_
    have h1 : j.val - 512 < 128 := by omega
    refine (dif_pos h1).trans ?_
    refine (flat_apply (head128 (kstg m ρ 1)) _ _ _ b ⟨j.val - 512, h1⟩ (colOf c q)).trans ((head128_apply _ b _ _ _).trans ((H.k 1 b _ _ _).trans ?_))
    exact congrArg (K b · _ _) (Fin.ext (by show 512 * 1 + (j.val - 512) = j.val; omega))

theorem vAll_apply (c : Dev nD) (b : Fin 2) (j : Fin 640) (q : Fin 512) :
    vAll m ρ c (ix3 b j q) = V b ⟨j.val, by omega⟩ (headC (colOf c q)) (placeC (colOf c q)) := by
  unfold vAll gather
  by_cases hj : j.val < 512
  · refine (dif_pos (show ((ix3 b j q) 1).val < 512 from hj)).trans ?_
    refine (flat_apply (vstg m ρ 0) _ _ _ b ⟨j.val, hj⟩ (colOf c q)).trans ((H.v 0 b _ _ _).trans ?_)
    exact congrArg (V b · _ _) (Fin.ext (by show 512 * 0 + j.val = j.val; omega))
  · refine (dif_neg (show ¬ ((ix3 b j q) 1).val < 512 from hj)).trans ?_
    have h1 : j.val - 512 < 128 := by omega
    refine (dif_pos h1).trans ?_
    refine (flat_apply (head128 (vstg m ρ 1)) _ _ _ b ⟨j.val - 512, h1⟩ (colOf c q)).trans ((head128_apply _ b _ _ _).trans ((H.v 1 b _ _ _).trans ?_))
    exact congrArg (V b · _ _) (Fin.ext (by show 512 * 1 + (j.val - 512) = j.val; omega))

omit H in
/-- Over a band of `n` keys from `off`, the row of scores inside the band, the mask added, is the whole row read there. -/
theorem band_row {n : ℕ} (off : ℕ) (hn : off + n ≤ 2048) (b : Fin 2) (i : Fin 512) (h : Fin 32) (j : Fin n) (ms : EReal)
    (hms : ms = if Near i.val (off + j.val) then 0 else ⊥) :
    S X WQ K b h i ⟨off + j.val, by omega⟩ + ms = Sm X WQ K b h i ⟨off + j.val, by omega⟩ := by
  subst hms; unfold Sm
  by_cases hN : Near i.val (off + j.val)
  · rw [if_pos hN, if_pos hN, add_zero]
  · rw [if_neg hN, if_neg hN, EReal.add_bot]

omit H in
/-- The attention output from a band of keys that holds the row's window. -/
theorem band_att (n off : ℕ) (hn : off + n ≤ 2048) (b : Fin 2) (i : Fin 512) (k : Fin 2048)
    (hd : rowDen (Sm X WQ K b (headC k) i) ≠ 0) (hout : ∀ j : ℕ, (j < off ∨ off + n ≤ j) → ¬ Near i.val j) (s v : Fin n → EReal)
    (hs : ∀ j, s j = Sm X WQ K b (headC k) i ⟨off + j.val, by omega⟩) (hv : ∀ j, v j = V b ⟨off + j.val, by omega⟩ (headC k) (placeC k)) :
    att s v = C X WQ K V b i k := by
  refine (congrArg₂ att (funext hs) (funext hv)).trans (att_band (fun j : Fin n => (⟨off + j.val, by omega⟩ : Fin 2048))
    (fun a b h => Fin.ext (by have := congrArg Fin.val h; dsimp only at this; omega)) (Sm X WQ K b (headC k) i) (fun j => V b j (headC k) (placeC k)) (fun j hj => if_neg (hout j.val ?_)) hd)
  by_contra hc
  exact hj ⟨⟨j.val - off, by omega⟩, Fin.ext (by show off + (j.val - off) = j.val; omega)⟩

variable (hden : ∀ b h i, rowDen (Sm X WQ K b h i) ≠ 0)

omit H in
/-- A device's column, by its head and place in it, and by those of the column among all. -/
theorem colOf_head (c : Dev nD) (q : Fin 512) (d : Fin 64) :
    hd (headC (colOf c q)) d = colOf c ⟨64 * (headOf q).val + d.val, by have := (headOf q).isLt; omega⟩ :=
  Fin.ext (by show 64 * ((512 * c.val + q.val) / 64) + d.val = 512 * c.val + (64 * (q.val / 64) + d.val); omega)

omit H in
theorem headC_col (c : Dev nD) (q : Fin 512) (d : Fin 64) (h) : headC (colOf c ⟨64 * (headOf q).val + d.val, h⟩) = headC (colOf c q) :=
  Fin.ext (by show (512 * c.val + (64 * (q.val / 64) + d.val)) / 64 = (512 * c.val + q.val) / 64; omega)
omit H in
theorem placeC_col (c : Dev nD) (q : Fin 512) (d : Fin 64) (h) : placeC (colOf c ⟨64 * (headOf q).val + d.val, h⟩) = d :=
  Fin.ext (by show (512 * c.val + (64 * (q.val / 64) + d.val)) % 64 = d.val; omega)
omit H in
theorem split_col (q : Fin 512) : q.val = 64 * (headOf q).val + (inHead q).val := by show q.val = 64 * (q.val / 64) + q.val % 64; omega
omit H in
theorem split_row (i : Fin 512) : i.val = 256 * (halfOf i).val + (inHalf i).val := by show i.val = 256 * (i.val / 256) + i.val % 256; omega

/-- A product of a query row and a gathered key row over one head of a device. -/
theorem score_apply (c : Dev nD) (b : Fin 2) (i q : Fin 512) (j : Fin 640) (qf kf : Fin 64 → EReal)
    (hq : ∀ d : Fin 64, qf d = qAll m ρ c (ix3 b i ⟨64 * (headOf q).val + d.val, by have := (headOf q).isLt; omega⟩))
    (hk : ∀ d : Fin 64, kf d = kAll m ρ c (ix3 b j ⟨64 * (headOf q).val + d.val, by have := (headOf q).isLt; omega⟩)) :
    (∑ d, qf d * kf d) * scale = S X WQ K b (headC (colOf c q)) i ⟨j.val, by omega⟩ := by
  refine congrArg (fun t : EReal => t * scale) (Finset.sum_congr rfl fun d _ => ?_)
  rw [hq d, hk d, qAll_apply H, kAll_apply H, colOf_head, headC_col, placeC_col]

include hden

theorem ctxAll_apply (c : Dev nD) (b : Fin 2) (i q : Fin 512) : ctxAll m ρ c (ix3 b i q) = C X WQ K V b i (colOf c q) := by
  unfold ctxAll
  by_cases hi : i.val < 256
  · refine (if_pos (show ((ix3 b i q) 1).val < 256 from hi)).trans ?_
    have hy : (inHalf i).val = i.val := Nat.mod_eq_of_lt hi
    refine (pay15_apply _ _ _ _ (inHalf i) (inHead q)).trans (band_att 384 0 (by omega) b i (colOf c q) (hden _ _ _) (fun j hj hN => by omega) _ _ (fun j => ?_) (fun j => ?_))
    · refine Eq.trans (congrArg (fun t : EReal => t + _) (score_apply H c b i q ⟨j.val, by omega⟩ _ _
        (fun d => qwin_apply _ b 0 (headOf q) (inHalf i) d i _ (by show i.val = 256 * 0 + (inHalf i).val; omega) rfl) (fun d => kwin0_apply _ b (headOf q) j d _ rfl))) ?_
      refine Eq.trans ?_ (band_row 0 (by omega) b i _ j _ ((mask0_apply (inHalf i) j).trans ?_))
      · exact congrArg (fun t => S X WQ K b (headC (colOf c q)) i t + _) (Fin.ext (Nat.zero_add _).symm)
      · rw [hy, Nat.zero_add]
    · refine (kwin0_apply _ b (headOf q) j (inHead q) q (split_col q)).trans ((vAll_apply H c b _ q).trans ?_)
      exact congrArg (V b · _ _) (Fin.ext (Nat.zero_add _).symm)
  · refine (if_neg (show ¬ ((ix3 b i q) 1).val < 256 from hi)).trans ?_
    have hy : 256 + (inHalf i).val = i.val := by show 256 + i.val % 256 = i.val; omega
    refine (pay50_apply _ _ _ _ (inHalf i) (inHead q)).trans (band_att 512 128 (by omega) b i (colOf c q) (hden _ _ _) (fun j hj hN => by omega) _ _ (fun j => ?_) (fun j => ?_))
    · refine Eq.trans (congrArg (fun t : EReal => t + _) (score_apply H c b i q ⟨128 + j.val, by omega⟩ _ _
        (fun d => qwin_apply _ b 1 (headOf q) (inHalf i) d i _ (by show i.val = 256 * 1 + (inHalf i).val; omega) rfl) (fun d => kwin1_apply _ b (headOf q) j d _ rfl))) ?_
      exact band_row 128 (by omega) b i _ j _ ((mask1_apply (inHalf i) j).trans (by rw [hy]))
    · exact (kwin1_apply _ b (headOf q) j (inHead q) q (split_col q)).trans (vAll_apply H c b _ q)

/-- Device `c`'s part of the last product. -/
theorem pAll_apply (c : Dev nD) (b : Fin 2) (i : Fin 512) (o : Fin 768) :
    pAll m ρ c (ix3 b i o) = ∑ q, C X WQ K V b i (colOf c q) * WO (colOf c q) o := by
  refine (pay46_apply _ _ (inHalf i) o).trans (Finset.sum_congr rfl fun q _ => congrArg₂ (fun a b : EReal => a * b) ?_ (H.wo c q o))
  exact (cwin_apply _ b (halfOf i) (inHalf i) q i (split_row i)).trans (ctxAll_apply H hden c b i q)

omit H hden in
theorem s2All_apply (c : Dev nD) (b : Fin 2) (i : Fin 512) (o : Fin 768) :
    s2All m ρ c (ix3 b i o) = (pAll m ρ c (ix3 b i o) : EReal) + pAll m ρ (px c) (ix3 b i o) :=
  (pay82_apply _ _ (inHalf i) o).trans (congrArg₂ (fun a b : EReal => a + b) (pwin_apply _ b (halfOf i) (inHalf i) o i (split_row i)) (pwin_apply _ b (halfOf i) (inHalf i) o i (split_row i)))

omit H hden in
/-- The four devices' parts in the order the exchanges add them. -/
theorem sum_devs (p : Dev nD → EReal) (c : Dev nD) : (p c + p (px c)) + (p (py c) + p (px (py c))) = ∑ d : Fin 4, p d := by
  rw [Fin.sum_univ_four]
  have hp : px 0 = 1 ∧ px 1 = 0 ∧ px 2 = 3 ∧ px 3 = 2 ∧ py 0 = 3 ∧ py 1 = 2 ∧ py 2 = 1 ∧ py 3 = 0 := by decide
  obtain ⟨x0, x1, x2, x3, y0, y1, y2, y3⟩ := hp
  have hc : c = 0 ∨ c = 1 ∨ c = 2 ∨ c = 3 := by revert c; decide
  rcases hc with rfl | rfl | rfl | rfl
  · rw [y0, x0, x3, add_comm (p 3), ← add_assoc]
  · rw [y1, x1, x2, add_comm (p 1), ← add_assoc]
  · rw [y2, x2, x1, add_comm (p 1), add_comm, ← add_assoc]
  · rw [y3, x3, x0, add_comm (p 3), add_comm, ← add_assoc]

/-- Every device's result is the block's. -/
theorem outAll_apply (c : Dev nD) (b : Fin 2) (i : Fin 512) (o : Fin 768) : outAll m ρ c (ix3 b i o) = Out X WQ K V WO b i o := by
  refine (pay85_apply _ _ (inHalf i) o).trans ((congrArg₂ (fun a b : EReal => a + b)
    ((pwin_apply _ b (halfOf i) (inHalf i) o i (split_row i)).trans (s2All_apply c b i o))
    ((pwin_apply _ b (halfOf i) (inHalf i) o i (split_row i)).trans (s2All_apply (py c) b i o))).trans ?_)
  refine (sum_devs (fun d => pAll m ρ d (ix3 b i o)) c).trans ((Finset.sum_congr rfl fun d _ => pAll_apply H hden d b i o).trans ?_)
  exact (sum_cols fun k => C X WQ K V b i k * WO k o).symm

end Cert.KernelIdealProof

end
-- ==== Proof.RefValue.lean ====
/-
# The reference's result

The reference's composed term, in pieces, and each piece read at coordinates: it is the block of `Attn` of its arguments.
-/
module

public import proofs.«01_k».proof.Proof.VTools
public import proofs.«01_k».proof.Proof.Gen.ReferenceIdeal.Run

@[expose] public section

noncomputable section

namespace Cert.RefValue

open Cert.ReferenceIdeal Cert.ReferenceIdeal.Gen Cert.ReferenceIdeal.Value Idealize.ShloMosaic Idealize.ShloMosaic.TcCoe Idealize.SL.Sem
open Idealize.ShloMosaic.ValueIdx Cert.Attn
open scoped BigOperators

variable (x : S2x512x768.Idx → EReal) (wq : S768x2048.Idx → EReal) (k v : S2x2048x32x64.Idx → EReal) (wo : S2048x768.Idx → EReal)

/-! ## The pieces -/

/-- The window. -/
def msk : IVec S512x2048 1 :=
  cmpi .sle (absi (subi (broadcastInDim S512x2048 ![0, 1] bcast_S512x1_S512x2048_0_1 (broadcastInDim S512x1 ![0] bcast_S512_S512x1_0 (iotaInDim S512 32 0))) (broadcastInDim S512x2048 ![0, 1] bcast_S1x2048_S512x2048_0_1 (broadcastInDim S1x2048 ![1] bcast_S2048_S1x2048_1 (iotaInDim S2048 32 0))))) (broadcastInDim S512x2048 ![] bcast_S_S512x2048 (constantI S_ 32 128#32))
/-- The queries. -/
def qry : FVec Ideal S2x512x2048 .f32 :=
  Host.dotGeneral dot_S2x512x768_S768x2048_S2x512x2048_2_0_01_1_n_n none (φ₁ := .f32) (φ₂ := .f32) x wq
/-- The scores before the window. -/
def raw : FVec Ideal S2x32x512x2048 .f32 :=
  mulf (Host.dotGeneral dot_S2x512x32x64_S2x2048x32x64_S2x32x512x2048_3_3_1_1_02_02 none (φ₁ := .f32) (φ₂ := .f32) (shapeCast _ (qry x wq) shapeCasts_S2x512x2048_S2x512x32x64) k) (broadcastInDim S2x32x512x2048 ![] bcast_S_S2x32x512x2048 (constant S_ .f32 0x3E000000#32))
/-- The scores. -/
def scr : FVec Ideal S2x32x512x2048 .f32 :=
  select (broadcastInDim S2x32x512x2048 ![0, 1, 2, 3] bcast_S1x1x512x2048_S2x32x512x2048_0_1_2_3 (broadcastInDim S1x1x512x2048 ![2, 3] bcast_S512x2048_S1x1x512x2048_2_3 msk)) (raw x wq k) (broadcastInDim S2x32x512x2048 ![] bcast_S_S2x32x512x2048 (id (constant S_ .f32 0xFF800000#32)))
/-- The exponentials. -/
def exs : FVec Ideal S2x32x512x2048 .f32 :=
  Host.exp (subf (scr x wq k) (broadcastInDim S2x32x512x2048 ![0, 1, 2, 3] bcast_S2x32x512x1_S2x32x512x2048_0_1_2_3 (broadcastInDim S2x32x512x1 ![0, 1, 2] bcast_S2x32x512_S2x32x512x1_0_1_2 (Host.reduce FloatOps.maximumf (scr x wq k) (constant S_ .f32 0xFF800000#32) reducesTo_S2x32x512x2048_S2x32x512_d3 h_S_))))
/-- Whether a row has a key in its window. -/
def kept : IVec S1x1x512x1 1 := broadcastInDim S1x1x512x1 ![2] bcast_S512_S1x1x512x1_2 (Host.reduce IntOp.ori msk (constantI S_ 1 0#1) reducesTo_S512x2048_S512_d1 h_S_)
/-- The weights. -/
def wts : FVec Ideal S2x32x512x2048 .f32 :=
  select (broadcastInDim S2x32x512x2048 ![0, 1, 2, 3] bcast_S1x1x512x1_S2x32x512x2048_0_1_2_3 kept)
    (Host.divf (exs x wq k) (broadcastInDim S2x32x512x2048 ![0, 1, 2, 3] bcast_S2x32x512x1_S2x32x512x2048_0_1_2_3 (select (broadcastInDim S2x32x512x1 ![0, 1, 2, 3] bcast_S1x1x512x1_S2x32x512x1_0_1_2_3 kept) (broadcastInDim S2x32x512x1 ![0, 1, 2] bcast_S2x32x512_S2x32x512x1_0_1_2 (Host.reduceAdd (exs x wq k) (constant S_ .f32 0#32) reducesTo_S2x32x512x2048_S2x32x512_d3 h_S_)) (broadcastInDim S2x32x512x1 ![] bcast_S_S2x32x512x1 (id (constant S_ .f32 0x3F800000#32))))))
    (broadcastInDim S2x32x512x2048 ![] bcast_S_S2x32x512x2048 (id (constant S_ .f32 0#32)))
/-- The attention output. -/
def ctx : FVec Ideal S2x512x2048 .f32 :=
  shapeCast _ (transpose S2x512x32x64 [0, 3, 1, 2] (Host.dotGeneral dot_S2x2048x32x64_S2x32x512x2048_S2x32x64x512_1_3_3_2_02_01 none (φ₁ := .f32) (φ₂ := .f32) v (wts x wq k)) transposes_S2x32x64x512_S2x512x32x64_0_3_1_2) shapeCasts_S2x512x32x64_S2x512x2048

/-- The reference's term, of the pieces. -/
theorem out_eq (m : (ℓ : Loc nD τ sig) → Buf (Elt Ideal) ℓ) (c : Dev nD) :
    res_main_v43 m c = Host.dotGeneral dot_S2x512x2048_S2048x768_S2x512x768_2_0_01_1_n_n none (φ₁ := .f32) (φ₂ := .f32)
      (ctx (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  unfold res_main_v43 ctx wts kept exs scr raw qry msk
  rfl

/-! ## The arguments by their coordinates -/

abbrev aX (b : Fin 2) (i : Fin 512) (a : Fin 768) : EReal := x (ix3 b i a)
abbrev aW (a : Fin 768) (n : Fin 2048) : EReal := wq (ix2 a n)
abbrev aK (b : Fin 2) (j : Fin 2048) (h : Fin 32) (d : Fin 64) : EReal := k (ix4 b j h d)
abbrev aO (n : Fin 2048) (o : Fin 768) : EReal := wo (ix2 n o)

theorem msk_apply (i : Fin 512) (j : Fin 2048) : msk (ix2 i j) = if Near i.val j.val then 1#1 else 0#1 := by
  refine Eq.trans ?_ (near_bit i.val j.val (by omega) (by omega))
  show IntOp.cmpi .sle (IntOp.absi (_ - _)) _ = _
  rw [broadcastInDim_apply _ _ _ _ (ix2 i 0) (by intro a; match a with | ⟨0, _⟩ => rfl | ⟨1, _⟩ => rfl),
    broadcastInDim_apply _ _ _ _ (ix1 i) (by intro a; match a with | ⟨0, _⟩ => rfl),
    broadcastInDim_apply _ _ _ (ix2 i j) (ix2 0 j) (by intro a; match a with | ⟨0, _⟩ => rfl | ⟨1, _⟩ => rfl),
    broadcastInDim_apply _ _ _ _ (ix1 j) (by intro a; match a with | ⟨0, _⟩ => rfl)]
  rfl

theorem qry_apply (b : Fin 2) (i : Fin 512) (n : Fin 2048) : qry x wq (ix3 b i n) = Q (aX x) (aW wq) b i n :=
  dot_sum _ 768 rfl rfl _ _ _ (fun a => ix3 b i a) (fun a => ix2 a n)
    (fun _ _ h u => match u with | ⟨0, _⟩ => rfl | ⟨1, _⟩ => rfl | ⟨2, _⟩ => h)
    (fun _ _ h u => match u with | ⟨0, _⟩ => h | ⟨1, _⟩ => rfl)

theorem raw_apply (b : Fin 2) (h : Fin 32) (i : Fin 512) (j : Fin 2048) : raw x wq k (ix4 b h i j) = S (aX x) (aW wq) (aK k) b h i j := by
  show Host.dotGeneral _ _ _ _ _ * _ = _
  rw [dot_sum dot_S2x512x32x64_S2x2048x32x64_S2x32x512x2048_3_3_1_1_02_02 64 rfl rfl _ _ _ (fun d => ix4 b i h d) (fun d => ix4 b j h d)
    (fun _ _ h u => match u with | ⟨0, _⟩ => rfl | ⟨1, _⟩ => rfl | ⟨2, _⟩ => rfl | ⟨3, _⟩ => h)
    (fun _ _ h u => match u with | ⟨0, _⟩ => rfl | ⟨1, _⟩ => rfl | ⟨2, _⟩ => rfl | ⟨3, _⟩ => h)]
  refine congrArg₂ (· * ·) (Finset.sum_congr rfl fun d _ => congrArg (· * _) ?_) rfl
  rw [shapeCast_apply _ _ _ (ix3 b i (hd h d)) (by rw [Shape.rowMajor_val_three, Shape.rowMajor_val_four]; show (b.val * 512 + i.val) * 2048 + (64 * h.val + d.val) = ((b.val * 512 + i.val) * 32 + h.val) * 64 + d.val; omega)]
  exact qry_apply x wq b i (hd h d)

theorem scr_apply (b : Fin 2) (h : Fin 32) (i : Fin 512) (j : Fin 2048) : scr x wq k (ix4 b h i j) = Sm (aX x) (aW wq) (aK k) b h i j := by
  show Scalar.select _ _ _ = _
  rw [broadcastInDim_apply _ _ _ _ (ix4 0 0 i j) (by intro a; match a with | ⟨0, _⟩ => rfl | ⟨1, _⟩ => rfl | ⟨2, _⟩ => rfl | ⟨3, _⟩ => rfl),
    broadcastInDim_apply _ _ _ _ (ix2 i j) (by intro a; match a with | ⟨0, _⟩ => rfl | ⟨1, _⟩ => rfl),
    msk_apply, select_near, raw_apply]
  unfold Sm
  exact congrArg (ite _ _) ofBits_ninf

theorem max_apply (b : Fin 2) (h : Fin 32) (i : Fin 512) :
    Host.reduce FloatOps.maximumf (scr x wq k) (constant S_ .f32 0xFF800000#32) reducesTo_S2x32x512x2048_S2x32x512_d3 h_S_ (ix3 b h i)
      = rowMax (Sm (aX x) (aW wq) (aK k) b h i) := by
  have hr : S2x32x512x2048.Reduces [3] S2x32x512 := by decide
  refine (Host.reduce_eq_fold_single (FloatOps.maximumf (F := Ideal)) (scr x wq k) _ _ hr _ _).trans ?_
  have e : scr x wq k ∘ hr.lift (ix3 b h i) = Sm (aX x) (aW wq) (aK k) b h i := by
    funext j
    refine Eq.trans (congrArg (scr x wq k) ?_) (scr_apply x wq k b h i j)
    funext u; apply Fin.ext; match u with | ⟨0, _⟩ => rfl | ⟨1, _⟩ => rfl | ⟨2, _⟩ => rfl | ⟨3, _⟩ => rfl
  rw [e]
  show Finset.fold max (Ideal.ofBits .f32 0xFF800000#32) _ _ = _
  rw [ofBits_ninf]; rfl

theorem exs_apply (b : Fin 2) (h : Fin 32) (i : Fin 512) (j : Fin 2048) :
    exs x wq k (ix4 b h i j) = Ideal.exp (Sm (aX x) (aW wq) (aK k) b h i j - rowMax (Sm (aX x) (aW wq) (aK k) b h i)) := by
  show Ideal.exp (_ - _) = _
  rw [scr_apply, broadcastInDim_apply _ _ _ _ (ix4 b h i 0) (by intro a; match a with | ⟨0, _⟩ => rfl | ⟨1, _⟩ => rfl | ⟨2, _⟩ => rfl | ⟨3, _⟩ => rfl),
    broadcastInDim_apply _ _ _ _ (ix3 b h i) (by intro a; match a with | ⟨0, _⟩ => rfl | ⟨1, _⟩ => rfl | ⟨2, _⟩ => rfl), max_apply]

theorem den_apply (b : Fin 2) (h : Fin 32) (i : Fin 512) :
    Host.reduceAdd (exs x wq k) (constant S_ .f32 0#32) reducesTo_S2x32x512x2048_S2x32x512_d3 h_S_ (ix3 b h i) = rowDen (Sm (aX x) (aW wq) (aK k) b h i) := by
  have hr : S2x32x512x2048.Reduces [3] S2x32x512 := by decide
  rw [hostReduceAdd_apply, Ideal.hostReduceAdd_single _ hr]
  show Ideal.ofBits .f32 0#32 + _ = _
  rw [Ideal.ofBits_zero_f32, zero_add]
  refine Finset.sum_congr rfl fun j _ => Eq.trans (congrArg (exs x wq k) ?_) (exs_apply x wq k b h i j)
  funext u; apply Fin.ext; match u with | ⟨0, _⟩ => rfl | ⟨1, _⟩ => rfl | ⟨2, _⟩ => rfl | ⟨3, _⟩ => rfl

/-- A disjunction with a set bit is set. -/
theorem fold_or {n : ℕ} (f : Fin n → BitVec 1) (i : Fin n) (z : BitVec 1) (h : f i = 1#1) : Finset.univ.fold IntOp.ori z f = 1#1 := by
  have ho : ∀ y : BitVec 1, IntOp.ori 1#1 y = 1#1 := by decide
  rw [← Finset.insert_erase (Finset.mem_univ i), Finset.fold_insert (Finset.notMem_erase _ _), h]
  exact ho _

theorem kept_apply (i : Fin 512) : kept (ix4 0 0 i 0) = 1#1 := by
  unfold kept
  rw [broadcastInDim_apply _ _ _ _ (ix1 i) (by intro a; match a with | ⟨0, _⟩ => rfl)]
  have hr : S512x2048.Reduces [1] S512 := by decide
  refine (Host.reduce_eq_fold_single (IntOp.ori (w := 1)) msk _ _ hr _ _).trans ?_
  have hj : (msk ∘ hr.lift (ix1 i)) (⟨i.val, by have := i.isLt; show i.val < 2048; omega⟩ : Fin 2048) = 1#1 := by
    refine Eq.trans (congrArg msk (?_ : _ = ix2 i ⟨i.val, by omega⟩)) ((msk_apply i ⟨i.val, by omega⟩).trans (if_pos ⟨by simp, by simp⟩))
    funext u; apply Fin.ext; match u with | ⟨0, _⟩ => rfl | ⟨1, _⟩ => rfl
  exact fold_or _ _ _ hj

theorem wts_apply (b : Fin 2) (h : Fin 32) (i : Fin 512) (j : Fin 2048) :
    wts x wq k (ix4 b h i j) = Ideal.div (Ideal.exp (Sm (aX x) (aW wq) (aK k) b h i j - rowMax (Sm (aX x) (aW wq) (aK k) b h i))) (rowDen (Sm (aX x) (aW wq) (aK k) b h i)) := by
  unfold wts
  rw [select_apply, broadcastInDim_apply _ _ _ _ (ix4 0 0 i 0) (by intro a; match a with | ⟨0, _⟩ => rfl | ⟨1, _⟩ => rfl | ⟨2, _⟩ => rfl | ⟨3, _⟩ => rfl), kept_apply, select_one,
    hostDivf_apply, exs_apply, broadcastInDim_apply _ _ _ _ (ix4 b h i 0) (by intro a; match a with | ⟨0, _⟩ => rfl | ⟨1, _⟩ => rfl | ⟨2, _⟩ => rfl | ⟨3, _⟩ => rfl)]
  rw [select_apply, broadcastInDim_apply _ _ _ _ (ix4 0 0 i 0) (by intro a; match a with | ⟨0, _⟩ => rfl | ⟨1, _⟩ => rfl | ⟨2, _⟩ => rfl | ⟨3, _⟩ => rfl), kept_apply, select_one,
    broadcastInDim_apply _ _ _ _ (ix3 b h i) (by intro a; match a with | ⟨0, _⟩ => rfl | ⟨1, _⟩ => rfl | ⟨2, _⟩ => rfl), den_apply]

theorem ctx_apply (b : Fin 2) (i : Fin 512) (n : Fin 2048) : ctx x wq k v (ix3 b i n) = C (aX x) (aW wq) (aK k) (aK v) b i n := by
  unfold ctx
  rw [shapeCast_apply _ _ _ (ix4 b i (headC n) (placeC n)) (by rw [Shape.rowMajor_val_three, Shape.rowMajor_val_four]; show ((b.val * 512 + i.val) * 32 + n.val / 64) * 64 + n.val % 64 = (b.val * 512 + i.val) * 2048 + n.val; omega),
    transpose_apply _ _ _ _ (ix4 b (headC n) (placeC n) i) (by intro a; match a with | ⟨0, _⟩ => rfl | ⟨1, _⟩ => rfl | ⟨2, _⟩ => rfl | ⟨3, _⟩ => rfl),
    dot_sum dot_S2x2048x32x64_S2x32x512x2048_S2x32x64x512_1_3_3_2_02_01 2048 rfl rfl _ _ _ (fun j => ix4 b j (headC n) (placeC n)) (fun j => ix4 b (headC n) i j)
    (fun _ _ h u => match u with | ⟨0, _⟩ => rfl | ⟨1, _⟩ => h | ⟨2, _⟩ => rfl | ⟨3, _⟩ => rfl)
    (fun _ _ h u => match u with | ⟨0, _⟩ => rfl | ⟨1, _⟩ => rfl | ⟨2, _⟩ => rfl | ⟨3, _⟩ => h)]
  unfold C att
  exact Finset.sum_congr rfl fun j _ => by rw [wts_apply]; exact mul_comm _ _

/-- The reference's result is the block of its arguments. -/
theorem res_apply (m : (ℓ : Loc nD τ sig) → Buf (Elt Ideal) ℓ) (c : Dev nD) (b : Fin 2) (i : Fin 512) (o : Fin 768) :
    res_main_v43 m c (ix3 b i o) = Out (aX (m ((c.tc : Thread nD τ).loc main_arg0))) (aW (m ((c.tc : Thread nD τ).loc main_arg1)))
      (aK (m ((c.tc : Thread nD τ).loc main_arg2))) (aK (m ((c.tc : Thread nD τ).loc main_arg3))) (aO (m ((c.tc : Thread nD τ).loc main_arg4))) b i o := by
  refine (congrFun (out_eq m c) _).trans ((dot_sum dot_S2x512x2048_S2048x768_S2x512x768_2_0_01_1_n_n 2048 rfl rfl _ _ _ (fun n => ix3 b i n) (fun n => ix2 n o)
    (fun _ _ h u => match u with | ⟨0, _⟩ => rfl | ⟨1, _⟩ => rfl | ⟨2, _⟩ => h)
    (fun _ _ h u => match u with | ⟨0, _⟩ => h | ⟨1, _⟩ => rfl)).trans ?_)
  unfold Out
  exact Finset.sum_congr rfl fun n _ => by rw [ctx_apply]

end Cert.RefValue

end
-- ==== Proof.Value.lean ====
/-
# The value claim

Every device's result array is the reference's, whenever the tokens, the query weights and the keys are finite.
-/
module

public import proofs.«01_k».proof.Defs
public import proofs.«01_k».proof.Proof.DevValue
public import proofs.«01_k».proof.Proof.RefValue
public import proofs.«01_k».proof.Proof.IRun
public import Idealize.ShloMosaic.Lib.LayoutAt

@[expose] public section

noncomputable section

namespace Cert.KernelIdealProof

open Cert.KernelIdeal Cert.KernelIdeal.Gen Idealize.ShloMosaic.TcCoe Idealize.SL.Sem
open Idealize.ShloMosaic hiding ix1 ix2 ix3 ix4
open Idealize.ShloMosaic.ValueIdx Cert.Attn Cert.RefValue

variable (m : (ℓ : Loc nD τ sig) → Buf (Elt Ideal) ℓ) (ρ : Dev nD → PrngReg) (c : Dev nD)

/-! ## What is staged, and what is left -/

theorem xstg_eq : xstg m ρ c = m ((c : Thread nD τ).loc main_arg0) :=
  Memref.read_access_unit_zero (Elt Ideal) main_arg0 (funext fun a => by fin_cases a <;> decide) (fun a => by fin_cases a <;> decide) _
theorem wqstg_eq : wqstg m ρ c = m ((c : Thread nD τ).loc main_arg1) :=
  Memref.read_access_unit_zero (Elt Ideal) main_arg1 (funext fun a => by fin_cases a <;> decide) (fun a => by fin_cases a <;> decide) _
theorem kstg_eq : kstg m ρ c = m ((c : Thread nD τ).loc main_arg2) :=
  Memref.read_access_unit_zero (Elt Ideal) main_arg2 (funext fun a => by fin_cases a <;> decide) (fun a => by fin_cases a <;> decide) _
theorem vstg_eq : vstg m ρ c = m ((c : Thread nD τ).loc main_arg3) :=
  Memref.read_access_unit_zero (Elt Ideal) main_arg3 (funext fun a => by fin_cases a <;> decide) (fun a => by fin_cases a <;> decide) _
theorem wostg_eq : wostg m ρ c = m ((c : Thread nD τ).loc main_arg4) :=
  Memref.read_access_unit_zero (Elt Ideal) main_arg4 (funext fun a => by fin_cases a <;> decide) (fun a => by fin_cases a <;> decide) _

/-- The one block of the result window is the whole array. -/
theorem mem_out (i : S2x512x768.Idx) : i ∈ ((cfg0.win 5).blk t0_0).view.set := by
  show i ∈ ((View.whole main_v1).slice (win0_5.rect t0_0)).set
  rw [View.set_slice_whole, Rect.mem_set_unit]
  have e : ∀ a : Fin 3, win0_5.index t0_0 a * win0_5.size a = 0 ∧ win0_5.xsize (grid0.coords t0_0) a = S2x512x768.size a := by decide +kernel
  intro a
  show win0_5.index t0_0 a * win0_5.size a ≤ (i a).val ∧ (i a).val < win0_5.index t0_0 a * win0_5.size a + win0_5.xsize (grid0.coords t0_0) a
  rw [(e a).1, (e a).2, Nat.zero_add]
  exact ⟨Nat.zero_le _, (i a).isLt⟩

/-- The result array ends at what the body leaves. -/
theorem out_final : finalA m ρ c 5 = outAll m ρ c :=
  (dats m ρ 0 c).arrAt_eq_of_cover 5 (outAll m ρ c) (fun t _ => by
    obtain rfl := fin_N0 t
    unfold Pipeline.Dat.flushed
    rw [show (dats m ρ 0 c).after 5 t0_0 = outAll m ρ c from rfl]
    generalize outAll m ρ c = f
    exact (show (cfg0.win 5).cut (cfg0.grid.coords t0_0) f = f from funext fun _ => rfl).trans
      (Memref.read_access_unit_zero (Elt Ideal) main_v1 (funext fun a => by fin_cases a <;> decide) (fun a => by fin_cases a <;> decide) f).symm) fun i => ⟨t0_0, flush0_5 _, mem_out i⟩

/-! ## The precondition -/

/-- An entry whose absolute value is below plus infinity is finite. -/
theorem fin_entry {s : Shape} {D : Fin 0 → Fin s.rank} (x : FVec Ideal s .bf16) (hb : FTy.bits .bf16 < FTy.bits .f32)
    (hd : (⟨0, ![]⟩ : Shape).BroadcastsInDim s D)
    (h : cmpf .olt (Host.absf (extf .f32 x hb)) (broadcastInDim s D hd (constant (F := Ideal) ⟨0, ![]⟩ .f32 0x7F800000#32)) = fun _ => 1#1)
    (i : s.Idx) : Fin' (x i) := by
  have h2 : BitVec.ofBool (decide (max (x i) (-(x i)) < Ideal.ofBits .f32 0x7F800000#32)) = 1#1 := congrFun h i
  rw [ofBits_inf] at h2
  refine fin_of_abs_lt ?_
  by_contra hn
  rw [decide_eq_false hn] at h2
  exact absurd h2 (by decide)

/-- A column of the whole is a column of one device's block. -/
theorem exists_col (n : Fin 2048) : ∃ (c : Dev nD) (q : Fin 512), n = colOf c q :=
  ⟨⟨n.val / 512, by show n.val / 512 < 4; omega⟩, ⟨n.val % 512, by omega⟩, Fin.ext (by show n.val = 512 * (n.val / 512) + n.val % 512; omega)⟩

end Cert.KernelIdealProof

namespace Cert.Proof

open Idealize.ShloMosaic hiding ix1 ix2 ix3 ix4
open Idealize.ShloMosaic.ValueIdx Idealize.SL.Sem Cert.Attn Cert.RefValue Cert.KernelIdealProof

instance hPreK : Cert.Pre_finite_KernelIdeal.Facts := ⟨by decide, by decide, by decide, by decide⟩
instance hPreR : Cert.Pre_finite_ReferenceIdeal.Facts := ⟨by decide, by decide, by decide, by decide⟩
instance : Cert.KernelIdeal.Facts := Cert.KernelIdeal.Gen.facts
instance : Cert.ReferenceIdeal.Facts := Cert.ReferenceIdeal.Gen.facts

/-- A block of query weights at an entry. -/
theorem blockW (w : (⟨2, ![768, 2048]⟩ : Shape).Idx → EReal) (c : Fin 4) (a : Fin 768) (q : Fin 512) :
    Layout.block ⟨2, ![768, 512]⟩ ⟨2, ![768, 2048]⟩ 1 4 c w (by decide) (ix2 a q) = w (ix2 a (colOf c q)) :=
  congrArg w (by have e : (colOf c q).val = 512 * c.val + q.val := rfl; shard_ext)
/-- A block of keys or values at an entry. -/
theorem blockK (k : (⟨4, ![2, 2048, 32, 64]⟩ : Shape).Idx → EReal) (c : Fin 4) (b : Fin 2) (j : Fin 512) (h : Fin 32) (d : Fin 64) :
    Layout.block ⟨4, ![2, 512, 32, 64]⟩ ⟨4, ![2, 2048, 32, 64]⟩ 1 4 c k (by decide) (ix4 b j h d) = k (ix4 b (colOf c j) h d) :=
  congrArg k (by have e : (colOf c j).val = 512 * c.val + j.val := rfl; shard_ext)
/-- A block of output weights at an entry. -/
theorem blockO (w : (⟨2, ![2048, 768]⟩ : Shape).Idx → EReal) (c : Fin 4) (q : Fin 512) (o : Fin 768) :
    Layout.block ⟨2, ![512, 768]⟩ ⟨2, ![2048, 768]⟩ 0 4 c w (by decide) (ix2 q o) = w (ix2 (colOf c q) o) :=
  congrArg w (by have e : (colOf c q).val = 512 * c.val + q.val := rfl; shard_ext)

/-- Every device ends with the reference's result. -/
theorem algebraic : Cert.algebraic_KernelIdeal_ReferenceIdeal_pre_finite_KernelIdeal := by
  intro m g m' g' hpre hargs
  have HS : Staged m g (aX (m' (((0 : Dev Cert.ReferenceIdeal.nD).tc : Thread Cert.ReferenceIdeal.nD Cert.ReferenceIdeal.τ).loc Cert.ReferenceIdeal.main_arg0)))
      (aW (m' (((0 : Dev Cert.ReferenceIdeal.nD).tc : Thread Cert.ReferenceIdeal.nD Cert.ReferenceIdeal.τ).loc Cert.ReferenceIdeal.main_arg1)))
      (aK (m' (((0 : Dev Cert.ReferenceIdeal.nD).tc : Thread Cert.ReferenceIdeal.nD Cert.ReferenceIdeal.τ).loc Cert.ReferenceIdeal.main_arg2)))
      (aK (m' (((0 : Dev Cert.ReferenceIdeal.nD).tc : Thread Cert.ReferenceIdeal.nD Cert.ReferenceIdeal.τ).loc Cert.ReferenceIdeal.main_arg3)))
      (aO (m' (((0 : Dev Cert.ReferenceIdeal.nD).tc : Thread Cert.ReferenceIdeal.nD Cert.ReferenceIdeal.τ).loc Cert.ReferenceIdeal.main_arg4))) :=
    { x := fun c b i a => (congrFun ((xstg_eq m g c).trans (hargs c).1) (ix3 b i a))
      wq := fun c a q => (congrFun ((wqstg_eq m g c).trans (hargs c).2.1) (ix2 a q)).trans (blockW _ c a q)
      k := fun c b j h d => (congrFun ((kstg_eq m g c).trans (hargs c).2.2.1) (ix4 b j h d)).trans (blockK _ c b j h d)
      v := fun c b j h d => (congrFun ((vstg_eq m g c).trans (hargs c).2.2.2.1) (ix4 b j h d)).trans (blockK _ c b j h d)
      wo := fun c q o => (congrFun ((wostg_eq m g c).trans (hargs c).2.2.2.2) (ix2 q o)).trans (blockO _ c q o) }
  have hX := fun b i a => HS.x 0 b i a ▸ (congrFun (xstg_eq m g 0) (ix3 b i a)).symm ▸ fin_entry _ _ _ (hpre 0).1 (ix3 b i a)
  have hW : ∀ a n, Fin' (aW (m' (((0 : Dev Cert.ReferenceIdeal.nD).tc : Thread Cert.ReferenceIdeal.nD Cert.ReferenceIdeal.τ).loc Cert.ReferenceIdeal.main_arg1)) a n) := fun a n => by
    obtain ⟨c, q, rfl⟩ := exists_col n
    exact HS.wq c a q ▸ (congrFun (wqstg_eq m g c) (ix2 a q)).symm ▸ fin_entry _ _ _ (hpre c).2.1 (ix2 a q)
  have hK : ∀ b j h d, Fin' (aK (m' (((0 : Dev Cert.ReferenceIdeal.nD).tc : Thread Cert.ReferenceIdeal.nD Cert.ReferenceIdeal.τ).loc Cert.ReferenceIdeal.main_arg2)) b j h d) := fun b n h d => by
    obtain ⟨c, j, rfl⟩ := exists_col n
    exact HS.k c b j h d ▸ (congrFun (kstg_eq m g c) (ix4 b j h d)).symm ▸ fin_entry _ _ _ (hpre c).2.2 (ix4 b j h d)
  refine ⟨Cert.ReferenceIdeal.Value.res_main_v43 m' 0, (θ_run Cert.KernelIdeal.defs _ _).mono (fun r h c => ⟨?_, (h.1 c 0).trans (finalA_in m g c 0 rfl),
      (h.1 c 1).trans (finalA_in m g c 1 rfl), (h.1 c 2).trans (finalA_in m g c 2 rfl), (h.1 c 3).trans (finalA_in m g c 3 rfl),
      (h.1 c 4).trans (finalA_in m g c 4 rfl)⟩) (run_main (F := Ideal) m g),
    (θ_run Cert.ReferenceIdeal.defs _ _).mono (fun r h => h 0) (Cert.ReferenceIdeal.Value.run (F := Ideal) m' g')⟩
  refine ((h.1 c 5).trans (out_final m g c)).trans (funext fun i => ?_)
  obtain ⟨b, j, o, rfl⟩ : ∃ b j o, i = ix3 (n0 := 2) (n1 := 512) (n2 := 768) b j o := ⟨_, _, _, ValueIdx.eq_ix3 i⟩
  exact (outAll_apply HS (fun b h i => den_ne_zero _ _ _ (fun b i a => hX b i a) hW hK b h i) c b j o).trans (res_apply m' 0 b j o).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The named constant is the printed word in the printed program and minus infinity in the idealized one. -/
theorem preserves : Cert.preserves_Kernel_KernelIdeal :=
  IdealRules.named_const.statement Cert.KernelIdeal.κ "mask" .f32 0xCE6E6B28#32 ⊥ rfl

/-- The certificate's claims. -/
theorem claim : Cert.Claim := ⟨Cert.Kernel.Gen.facts, Cert.KernelIdeal.Gen.facts, Cert.ReferenceIdeal.Gen.facts, hPreK, hPreR,
  frame_kernel, frame_ideal, fun m g _ => frame_ideal m g trivial, frame_reference, fun m g _ => frame_reference m g trivial,
  preserves, algebraic⟩

end Cert.Proof

end
